-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 2, 128]⟩ ⟨4, ![1, 131072, 2, 128]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 2, 128]⟩ ⟨4, ![1, 131072, 2, 128]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x2x128 : Shape := ⟨4, ![1, 4096, 2, 128]⟩
abbrev S256x1024 : Shape := ⟨2, ![256, 1024]⟩
abbrev S256x16 : Shape := ⟨2, ![256, 16]⟩
abbrev S128x1024 : Shape := ⟨2, ![128, 1024]⟩
abbrev S5x128x1024 : Shape := ⟨3, ![5, 128, 1024]⟩
abbrev S5x128x16 : Shape := ⟨3, ![5, 128, 16]⟩
abbrev S16x1024 : Shape := ⟨2, ![16, 1024]⟩
abbrev S5 : Shape := ⟨1, ![5]⟩
abbrev S_ : Shape := ⟨0, ![]⟩
abbrev S4096x2x128 : Shape := ⟨3, ![4096, 2, 128]⟩
abbrev S256x128 : Shape := ⟨2, ![256, 128]⟩
abbrev S4096x1x128 : Shape := ⟨3, ![4096, 1, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1x128x1024 : Shape := ⟨3, ![1, 128, 1024]⟩
abbrev S1x128x16 : Shape := ⟨3, ![1, 128, 16]⟩
abbrev S128x16 : Shape := ⟨2, ![128, 16]⟩
abbrev S1x128x1 : Shape := ⟨3, ![1, 128, 1]⟩
abbrev S128x1 : Shape := ⟨2, ![128, 1]⟩
abbrev S1x128x128 : Shape := ⟨3, ![1, 128, 128]⟩
abbrev S128x128 : Shape := ⟨2, ![128, 128]⟩
abbrev S64x1024 : Shape := ⟨2, ![64, 1024]⟩
abbrev S1x64x1024 : Shape := ⟨3, ![1, 64, 1024]⟩
abbrev S1x64x16 : Shape := ⟨3, ![1, 64, 16]⟩
abbrev S64x16 : Shape := ⟨2, ![64, 16]⟩
abbrev S1x64x1 : Shape := ⟨3, ![1, 64, 1]⟩
abbrev S64x1 : Shape := ⟨2, ![64, 1]⟩
abbrev S1x64x128 : Shape := ⟨3, ![1, 64, 128]⟩
abbrev S64x128 : Shape := ⟨2, ![64, 128]⟩
abbrev S32x1024 : Shape := ⟨2, ![32, 1024]⟩
abbrev S1x32x1024 : Shape := ⟨3, ![1, 32, 1024]⟩
abbrev S1x32x16 : Shape := ⟨3, ![1, 32, 16]⟩
abbrev S32x16 : Shape := ⟨2, ![32, 16]⟩
abbrev S1x32x1 : Shape := ⟨3, ![1, 32, 1]⟩
abbrev S32x1 : Shape := ⟨2, ![32, 1]⟩
abbrev S1x32x128 : Shape := ⟨3, ![1, 32, 128]⟩
abbrev S32x128 : Shape := ⟨2, ![32, 128]⟩
abbrev S1x16x1024 : Shape := ⟨3, ![1, 16, 1024]⟩
abbrev S1x16x16 : Shape := ⟨3, ![1, 16, 16]⟩
abbrev S16x16 : Shape := ⟨2, ![16, 16]⟩
abbrev S1x16x1 : Shape := ⟨3, ![1, 16, 1]⟩
abbrev S16x1 : Shape := ⟨2, ![16, 1]⟩
abbrev S1x16x128 : Shape := ⟨3, ![1, 16, 128]⟩
abbrev S16x128 : Shape := ⟨2, ![16, 128]⟩

abbrev nBuf : Space → Nat
  | .hbm => 6
  | .vmem => 13
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x2x128, .bf16⟩
  | .hbm, ⟨3, _⟩ => ⟨S1x4096x2x128, .bf16⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x4096x2x128, .bf16⟩
  | .local _ .vmem, ⟨4, _⟩ => ⟨S1x4096x2x128, .bf16⟩
  | .local _ .vmem, ⟨5, _⟩ => ⟨S1x256x1024, .f32⟩
  | .local _ .vmem, ⟨6, _⟩ => ⟨S256x1024, .f32⟩
  | .local _ .vmem, ⟨7, _⟩ => ⟨S256x16, .f32⟩
  | .local _ .vmem, ⟨8, _⟩ => ⟨S128x1024, .bf16⟩
  | .local _ .vmem, ⟨9, _⟩ => ⟨S5x128x1024, .bf16⟩
  | .local _ .vmem, ⟨10, _⟩ => ⟨S5x128x16, .f32⟩
  | .local _ .vmem, ⟨11, _⟩ => ⟨S16x1024, .bf16⟩
  | .local _ .vmem, ⟨12, _⟩ => ⟨S256x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_94 : BitVec 32 := 4#32
  let v245 : BitVec 32 := Scalar.shrsi v2 c4_i32_94
  let c1_i32_95 : BitVec 32 := 1#32
  let v246 : BitVec 32 := Scalar.andi v245 c1_i32_95
  let c0_i32_96 : BitVec 32 := 0#32
  let v247 : BitVec 1 := Scalar.cmpi .eq v246 c0_i32_96
  let v248 : BitVec 32 := Scalar.extui v247
  let c0_i32_97 : BitVec 32 := 0#32
  let v249 : BitVec 1 := Scalar.cmpi .ne v248 c0_i32_97
  v249

def k0_dev6 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_93 : BitVec 32 := 16#32
  let v244 : BitVec 32 := Scalar.xori v2 c16_i32_93
  let c1_i32_433 : BitVec 32 := 1#32
  let v675 : BitVec 32 := Scalar.muli v244 c1_i32_433
  let v676 : BitVec 32 := Scalar.addi c0_i32_434 v675
  v676.toNat
def k0_dev7 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_93 : BitVec 32 := 16#32
  let v244 : BitVec 32 := Scalar.xori v2 c16_i32_93
  let c1_i32_442 : BitVec 32 := 1#32
  let v684 : BitVec 32 := Scalar.muli v244 c1_i32_442
  let v685 : BitVec 32 := Scalar.addi c0_i32_443 v684
  v685.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_94 : BitVec 32 := 4#32
  let v245 : BitVec 32 := Scalar.shrsi v2 c4_i32_94
  let c1_i32_95 : BitVec 32 := 1#32
  let v246 : BitVec 32 := Scalar.andi v245 c1_i32_95
  let c1_i32_98 : BitVec 32 := 1#32
  let v250 : BitVec 1 := Scalar.cmpi .eq v246 c1_i32_98
  let v251 : BitVec 32 := Scalar.extui v250
  let c0_i32_99 : BitVec 32 := 0#32
  let v252 : BitVec 1 := Scalar.cmpi .ne v251 c0_i32_99
  v252

def k0_dev8 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_93 : BitVec 32 := 16#32
  let v244 : BitVec 32 := Scalar.xori v2 c16_i32_93
  let c1_i32_433 : BitVec 32 := 1#32
  let v675 : BitVec 32 := Scalar.muli v244 c1_i32_433
  let v676 : BitVec 32 := Scalar.addi c0_i32_434 v675
  v676.toNat
def k0_dev9 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_93 : BitVec 32 := 16#32
  let v244 : BitVec 32 := Scalar.xori v2 c16_i32_93
  let c1_i32_442 : BitVec 32 := 1#32
  let v684 : BitVec 32 := Scalar.muli v244 c1_i32_442
  let v685 : BitVec 32 := Scalar.addi c0_i32_443 v684
  v685.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v254 : BitVec 32 := Scalar.shrsi v2 c3_i32
  let c1_i32_101 : BitVec 32 := 1#32
  let v255 : BitVec 32 := Scalar.andi v254 c1_i32_101
  let c0_i32_102 : BitVec 32 := 0#32
  let v256 : BitVec 1 := Scalar.cmpi .eq v255 c0_i32_102
  let v257 : BitVec 32 := Scalar.extui v256
  let c0_i32_103 : BitVec 32 := 0#32
  let v258 : BitVec 1 := Scalar.cmpi .ne v257 c0_i32_103
  v258

def k0_dev10 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_100 : BitVec 32 := 8#32
  let v253 : BitVec 32 := Scalar.xori v2 c8_i32_100
  let c1_i32_432 : BitVec 32 := 1#32
  let v675 : BitVec 32 := Scalar.muli v253 c1_i32_432
  let v676 : BitVec 32 := Scalar.addi c0_i32_433 v675
  v676.toNat
def k0_dev11 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_100 : BitVec 32 := 8#32
  let v253 : BitVec 32 := Scalar.xori v2 c8_i32_100
  let c1_i32_441 : BitVec 32 := 1#32
  let v684 : BitVec 32 := Scalar.muli v253 c1_i32_441
  let v685 : BitVec 32 := Scalar.addi c0_i32_442 v684
  v685.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v254 : BitVec 32 := Scalar.shrsi v2 c3_i32
  let c1_i32_101 : BitVec 32 := 1#32
  let v255 : BitVec 32 := Scalar.andi v254 c1_i32_101
  let c1_i32_104 : BitVec 32 := 1#32
  let v259 : BitVec 1 := Scalar.cmpi .eq v255 c1_i32_104
  let v260 : BitVec 32 := Scalar.extui v259
  let c0_i32_105 : BitVec 32 := 0#32
  let v261 : BitVec 1 := Scalar.cmpi .ne v260 c0_i32_105
  v261

def k0_dev12 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_100 : BitVec 32 := 8#32
  let v253 : BitVec 32 := Scalar.xori v2 c8_i32_100
  let c1_i32_433 : BitVec 32 := 1#32
  let v675 : BitVec 32 := Scalar.muli v253 c1_i32_433
  let v676 : BitVec 32 := Scalar.addi c0_i32_434 v675
  v676.toNat
def k0_dev13 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_100 : BitVec 32 := 8#32
  let v253 : BitVec 32 := Scalar.xori v2 c8_i32_100
  let c1_i32_442 : BitVec 32 := 1#32
  let v684 : BitVec 32 := Scalar.muli v253 c1_i32_442
  let v685 : BitVec 32 := Scalar.addi c0_i32_443 v684
  v685.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_107 : BitVec 32 := 2#32
  let v263 : BitVec 32 := Scalar.shrsi v2 c2_i32_107
  let c1_i32_108 : BitVec 32 := 1#32
  let v264 : BitVec 32 := Scalar.andi v263 c1_i32_108
  let c0_i32_109 : BitVec 32 := 0#32
  let v265 : BitVec 1 := Scalar.cmpi .eq v264 c0_i32_109
  let v266 : BitVec 32 := Scalar.extui v265
  let c0_i32_110 : BitVec 32 := 0#32
  let v267 : BitVec 1 := Scalar.cmpi .ne v266 c0_i32_110
  v267

def k0_dev14 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_106 : BitVec 32 := 4#32
  let v262 : BitVec 32 := Scalar.xori v2 c4_i32_106
  let c1_i32_432 : BitVec 32 := 1#32
  let v675 : BitVec 32 := Scalar.muli v262 c1_i32_432
  let v676 : BitVec 32 := Scalar.addi c0_i32_433 v675
  v676.toNat
def k0_dev15 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_106 : BitVec 32 := 4#32
  let v262 : BitVec 32 := Scalar.xori v2 c4_i32_106
  let c1_i32_441 : BitVec 32 := 1#32
  let v684 : BitVec 32 := Scalar.muli v262 c1_i32_441
  let v685 : BitVec 32 := Scalar.addi c0_i32_442 v684
  v685.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_107 : BitVec 32 := 2#32
  let v263 : BitVec 32 := Scalar.shrsi v2 c2_i32_107
  let c1_i32_108 : BitVec 32 := 1#32
  let v264 : BitVec 32 := Scalar.andi v263 c1_i32_108
  let c1_i32_111 : BitVec 32 := 1#32
  let v268 : BitVec 1 := Scalar.cmpi .eq v264 c1_i32_111
  let v269 : BitVec 32 := Scalar.extui v268
  let c0_i32_112 : BitVec 32 := 0#32
  let v270 : BitVec 1 := Scalar.cmpi .ne v269 c0_i32_112
  v270

def k0_dev16 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_106 : BitVec 32 := 4#32
  let v262 : BitVec 32 := Scalar.xori v2 c4_i32_106
  let c1_i32_433 : BitVec 32 := 1#32
  let v675 : BitVec 32 := Scalar.muli v262 c1_i32_433
  let v676 : BitVec 32 := Scalar.addi c0_i32_434 v675
  v676.toNat
def k0_dev17 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_106 : BitVec 32 := 4#32
  let v262 : BitVec 32 := Scalar.xori v2 c4_i32_106
  let c1_i32_442 : BitVec 32 := 1#32
  let v684 : BitVec 32 := Scalar.muli v262 c1_i32_442
  let v685 : BitVec 32 := Scalar.addi c0_i32_443 v684
  v685.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_114 : BitVec 32 := 1#32
  let v272 : BitVec 32 := Scalar.shrsi v2 c1_i32_114
  let c1_i32_115 : BitVec 32 := 1#32
  let v273 : BitVec 32 := Scalar.andi v272 c1_i32_115
  let c0_i32_116 : BitVec 32 := 0#32
  let v274 : BitVec 1 := Scalar.cmpi .eq v273 c0_i32_116
  let v275 : BitVec 32 := Scalar.extui v274
  let c0_i32_117 : BitVec 32 := 0#32
  let v276 : BitVec 1 := Scalar.cmpi .ne v275 c0_i32_117
  v276

def k0_dev18 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_113 : BitVec 32 := 2#32
  let v271 : BitVec 32 := Scalar.xori v2 c2_i32_113
  let c1_i32_432 : BitVec 32 := 1#32
  let v675 : BitVec 32 := Scalar.muli v271 c1_i32_432
  let v676 : BitVec 32 := Scalar.addi c0_i32_433 v675
  v676.toNat
def k0_dev19 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_113 : BitVec 32 := 2#32
  let v271 : BitVec 32 := Scalar.xori v2 c2_i32_113
  let c1_i32_441 : BitVec 32 := 1#32
  let v684 : BitVec 32 := Scalar.muli v271 c1_i32_441
  let v685 : BitVec 32 := Scalar.addi c0_i32_442 v684
  v685.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_114 : BitVec 32 := 1#32
  let v272 : BitVec 32 := Scalar.shrsi v2 c1_i32_114
  let c1_i32_115 : BitVec 32 := 1#32
  let v273 : BitVec 32 := Scalar.andi v272 c1_i32_115
  let c1_i32_118 : BitVec 32 := 1#32
  let v277 : BitVec 1 := Scalar.cmpi .eq v273 c1_i32_118
  let v278 : BitVec 32 := Scalar.extui v277
  let c0_i32_119 : BitVec 32 := 0#32
  let v279 : BitVec 1 := Scalar.cmpi .ne v278 c0_i32_119
  v279

def k0_dev20 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_113 : BitVec 32 := 2#32
  let v271 : BitVec 32 := Scalar.xori v2 c2_i32_113
  let c1_i32_433 : BitVec 32 := 1#32
  let v675 : BitVec 32 := Scalar.muli v271 c1_i32_433
  let v676 : BitVec 32 := Scalar.addi c0_i32_434 v675
  v676.toNat
def k0_dev21 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_113 : BitVec 32 := 2#32
  let v271 : BitVec 32 := Scalar.xori v2 c2_i32_113
  let c1_i32_442 : BitVec 32 := 1#32
  let v684 : BitVec 32 := Scalar.muli v271 c1_i32_442
  let v685 : BitVec 32 := Scalar.addi c0_i32_443 v684
  v685.toNat
def k0_dev22 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_120 : BitVec 32 := 1#32
  let v280 : BitVec 32 := Scalar.xori v2 c1_i32_120
  let c1_i32_128 : BitVec 32 := 1#32
  let v286 : BitVec 32 := Scalar.muli v280 c1_i32_128
  let v287 : BitVec 32 := Scalar.addi c0_i32_129 v286
  v287.toNat
def k0_dev23 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_120 : BitVec 32 := 1#32
  let v280 : BitVec 32 := Scalar.xori v2 c1_i32_120
  let c1_i32_137 : BitVec 32 := 1#32
  let v295 : BitVec 32 := Scalar.muli v280 c1_i32_137
  let v296 : BitVec 32 := Scalar.addi c0_i32_138 v295
  v296.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_320 : BitVec 32 := 1#32
  let v560 : BitVec 32 := Scalar.shrsi v2 c1_i32_320
  let c1_i32_321 : BitVec 32 := 1#32
  let v561 : BitVec 32 := Scalar.shli v560 c1_i32_321
  let c8_i32_322 : BitVec 32 := 8#32
  let v562 : BitVec 32 := Scalar.muli v561 c8_i32_322
  let c0_i32_323 : BitVec 32 := 0#32
  ![v562.toNat, 0]
def k0_dev24 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_325 : BitVec 32 := 2#32
  let v565 : BitVec 32 := Scalar.xori v2 c2_i32_325
  let c1_i32_334 : BitVec 32 := 1#32
  let v572 : BitVec 32 := Scalar.muli v565 c1_i32_334
  let v573 : BitVec 32 := Scalar.addi c0_i32_335 v572
  v573.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_325 : BitVec 32 := 2#32
  let v565 : BitVec 32 := Scalar.xori v2 c2_i32_325
  let c1_i32_329 : BitVec 32 := 1#32
  let v569 : BitVec 32 := Scalar.shrsi v565 c1_i32_329
  let c1_i32_330 : BitVec 32 := 1#32
  let v570 : BitVec 32 := Scalar.shli v569 c1_i32_330
  let c8_i32_331 : BitVec 32 := 8#32
  let v571 : BitVec 32 := Scalar.muli v570 c8_i32_331
  let c0_i32_347 : BitVec 32 := 0#32
  ![v571.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_350 : BitVec 32 := 2#32
  let v591 : BitVec 32 := Scalar.shrsi v2 c2_i32_350
  let c2_i32_351 : BitVec 32 := 2#32
  let v592 : BitVec 32 := Scalar.shli v591 c2_i32_351
  let c8_i32_352 : BitVec 32 := 8#32
  let v593 : BitVec 32 := Scalar.muli v592 c8_i32_352
  let c0_i32_360 : BitVec 32 := 0#32
  ![v593.toNat, 0]
def k0_dev25 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_349 : BitVec 32 := 4#32
  let v590 : BitVec 32 := Scalar.xori v2 c4_i32_349
  let c1_i32_358 : BitVec 32 := 1#32
  let v597 : BitVec 32 := Scalar.muli v590 c1_i32_358
  let v598 : BitVec 32 := Scalar.addi c0_i32_359 v597
  v598.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_349 : BitVec 32 := 4#32
  let v590 : BitVec 32 := Scalar.xori v2 c4_i32_349
  let c2_i32_353 : BitVec 32 := 2#32
  let v594 : BitVec 32 := Scalar.shrsi v590 c2_i32_353
  let c2_i32_354 : BitVec 32 := 2#32
  let v595 : BitVec 32 := Scalar.shli v594 c2_i32_354
  let c8_i32_355 : BitVec 32 := 8#32
  let v596 : BitVec 32 := Scalar.muli v595 c8_i32_355
  let c0_i32_371 : BitVec 32 := 0#32
  ![v596.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_374 : BitVec 32 := 3#32
  let v616 : BitVec 32 := Scalar.shrsi v2 c3_i32_374
  let c3_i32_375 : BitVec 32 := 3#32
  let v617 : BitVec 32 := Scalar.shli v616 c3_i32_375
  let c8_i32_376 : BitVec 32 := 8#32
  let v618 : BitVec 32 := Scalar.muli v617 c8_i32_376
  let c0_i32_384 : BitVec 32 := 0#32
  ![v618.toNat, 0]
def k0_dev26 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_373 : BitVec 32 := 8#32
  let v615 : BitVec 32 := Scalar.xori v2 c8_i32_373
  let c1_i32_382 : BitVec 32 := 1#32
  let v622 : BitVec 32 := Scalar.muli v615 c1_i32_382
  let v623 : BitVec 32 := Scalar.addi c0_i32_383 v622
  v623.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_373 : BitVec 32 := 8#32
  let v615 : BitVec 32 := Scalar.xori v2 c8_i32_373
  let c3_i32_377 : BitVec 32 := 3#32
  let v619 : BitVec 32 := Scalar.shrsi v615 c3_i32_377
  let c3_i32_378 : BitVec 32 := 3#32
  let v620 : BitVec 32 := Scalar.shli v619 c3_i32_378
  let c8_i32_379 : BitVec 32 := 8#32
  let v621 : BitVec 32 := Scalar.muli v620 c8_i32_379
  let c0_i32_395 : BitVec 32 := 0#32
  ![v621.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_398 : BitVec 32 := 4#32
  let v641 : BitVec 32 := Scalar.shrsi v2 c4_i32_398
  let c4_i32_399 : BitVec 32 := 4#32
  let v642 : BitVec 32 := Scalar.shli v641 c4_i32_399
  let c8_i32_400 : BitVec 32 := 8#32
  let v643 : BitVec 32 := Scalar.muli v642 c8_i32_400
  let c0_i32_408 : BitVec 32 := 0#32
  ![v643.toNat, 0]
def k0_dev27 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_397 : BitVec 32 := 16#32
  let v640 : BitVec 32 := Scalar.xori v2 c16_i32_397
  let c1_i32_406 : BitVec 32 := 1#32
  let v647 : BitVec 32 := Scalar.muli v640 c1_i32_406
  let v648 : BitVec 32 := Scalar.addi c0_i32_407 v647
  v648.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_397 : BitVec 32 := 16#32
  let v640 : BitVec 32 := Scalar.xori v2 c16_i32_397
  let c4_i32_401 : BitVec 32 := 4#32
  let v644 : BitVec 32 := Scalar.shrsi v640 c4_i32_401
  let c4_i32_402 : BitVec 32 := 4#32
  let v645 : BitVec 32 := Scalar.shli v644 c4_i32_402
  let c8_i32_403 : BitVec 32 := 8#32
  let v646 : BitVec 32 := Scalar.muli v645 c8_i32_403
  let c0_i32_419 : BitVec 32 := 0#32
  ![v646.toNat, 0]
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096x2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x131072x2x128 : Shape := ⟨4, ![1, 131072, 2, 128]⟩
abbrev S256x1024 : Shape := ⟨2, ![256, 1024]⟩
abbrev S256x2x4x128 : Shape := ⟨4, ![256, 2, 4, 128]⟩
abbrev S131072x2x128 : Shape := ⟨3, ![131072, 2, 128]⟩
abbrev S2x131072x256x4 : Shape := ⟨4, ![2, 131072, 256, 4]⟩
abbrev S2x4x256x131072 : Shape := ⟨4, ![2, 4, 256, 131072]⟩
abbrev S_ : Shape := ⟨0, ![]⟩
abbrev S2x4x256 : Shape := ⟨3, ![2, 4, 256]⟩
abbrev S2x4x256x1 : Shape := ⟨4, ![2, 4, 256, 1]⟩
abbrev S2x4x256x128 : Shape := ⟨4, ![2, 4, 256, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x131072x2x128, .bf16⟩
  | .hbm, ⟨3, _⟩ => ⟨S1x131072x2x128, .bf16⟩
  | .hbm, ⟨4, _⟩ => ⟨S1024x1024, .bf16⟩
  | .hbm, ⟨5, _⟩ => ⟨S1x256x1024, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S256x1024, .bf16⟩
  | .hbm, ⟨10, _⟩ => ⟨S256x1024, .f32⟩
  | .hbm, ⟨11, _⟩ => ⟨S256x2x4x128, .f32⟩
  | .hbm, ⟨12, _⟩ => ⟨S1x131072x2x128, .f32⟩
  | .hbm, ⟨13, _⟩ => ⟨S131072x2x128, .f32⟩
  | .hbm, ⟨14, _⟩ => ⟨S1x131072x2x128, .f32⟩
  | .hbm, ⟨15, _⟩ => ⟨S131072x2x128, .f32⟩
  | .hbm, ⟨16, _⟩ => ⟨S2x131072x256x4, .f32⟩
  | .hbm, ⟨17, _⟩ => ⟨S2x4x256x131072, .f32⟩
  | .hbm, ⟨18, _⟩ => ⟨S2x4x256x131072, .bf16⟩
  | .hbm, ⟨19, _⟩ => ⟨S2x4x256x131072, .f32⟩
  | .hbm, ⟨20, _⟩ => ⟨S_, .f32⟩
  | .hbm, ⟨21, _⟩ => ⟨S2x4x256x131072, .f32⟩
  | .hbm, ⟨22, _⟩ => ⟨S2x4x256x131072, .f32⟩
  | .hbm, ⟨23, _⟩ => ⟨S_, .f32⟩
  | .hbm, ⟨24, _⟩ => ⟨S2x4x256, .f32⟩
  | .hbm, ⟨25, _⟩ => ⟨S2x4x256x1, .f32⟩
  | .hbm, ⟨26, _⟩ => ⟨S2x4x256x131072, .f32⟩
  | .hbm, ⟨27, _⟩ => ⟨S2x4x256x131072, .f32⟩
  | .hbm, ⟨28, _⟩ => ⟨S2x4x256x131072, .f32⟩
  | .hbm, ⟨29, _⟩ => ⟨S_, .f32⟩
  | .hbm, ⟨30, _⟩ => ⟨S2x4x256, .f32⟩
  | .hbm, ⟨31, _⟩ => ⟨S2x4x256x128, .f32⟩
  | .hbm, ⟨32, _⟩ => ⟨S2x4x256x1, .f32⟩
  | .hbm, ⟨33, _⟩ => ⟨S2x4x256x128, .f32⟩
  | .hbm, ⟨34, _⟩ => ⟨S2x4x256x128, .f32⟩
  | .hbm, ⟨35, _⟩ => ⟨S256x2x4x128, .f32⟩
  | .hbm, ⟨36, _⟩ => ⟨S256x1024, .f32⟩
  | .hbm, ⟨37, _⟩ => ⟨S1024x1024, .f32⟩
  | .hbm, ⟨38, _⟩ => ⟨S256x1024, .f32⟩
  | .hbm, ⟨39, _⟩ => ⟨S1x256x1024, .f32⟩
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Flash.Canon.lean ====
/- The kernel's body over symbolic row counts: the programs of one round of the butterfly
   reduce-scatter and of one head's local attention, written once, with the vector functions
   they store. -/
module

public import proofs.«01_k».proof.Proof.Gen.KernelIdeal.Skeleton

@[expose] public section

noncomputable section

namespace Cert.KernelIdeal.Flash

open Idealize.ShloMosaic Idealize.SL.Sem Cert.KernelIdeal Cert.KernelIdeal.Gen

/-- The shape of a matrix. -/
abbrev Sh2 (a b : ℕ) : Shape := ⟨2, ![a, b]⟩
/-- The shape of a stack of matrices. -/
abbrev Sh3 (a b d : ℕ) : Shape := ⟨3, ![a, b, d]⟩

/-- A rectangle of a matrix stays inside it when its rows and columns do. -/
theorem inb2 {R C r c n m : ℕ} (h1 : r + n ≤ R) (h2 : c + m ≤ C) :
    ∀ a, (![r, c] : Fin 2 → ℕ) a + (Sh2 n m).size a ≤ (Sh2 R C).size a :=
  Fin.forall_fin_two.2 ⟨h1, h2⟩

/-- The same for one matrix of a stack. -/
theorem inb3 {D R C d r c n m : ℕ} (h0 : d + 1 ≤ D) (h1 : r + n ≤ R) (h2 : c + m ≤ C) :
    ∀ a, (![d, r, c] : Fin 3 → ℕ) a + (Sh3 1 n m).size a ≤ (Sh3 D R C).size a := by
  intro a
  match a with
  | ⟨0, _⟩ => exact h0
  | ⟨1, _⟩ => exact h1
  | ⟨2, _⟩ => exact h2

/-- A matrix with at least one row and one column has an element. -/
theorem numel2_pos {n m : ℕ} (hn : 0 < n) (hm : 0 < m) : 0 < (Sh2 n m).numel := by
  simp [Shape.numel, Fin.prod_univ_two]; exact Nat.mul_pos hn hm

/-- So has a stack of one such matrix. -/
theorem numel3_pos {n m : ℕ} (hn : 0 < n) (hm : 0 < m) : 0 < (Sh3 1 n m).numel := by
  simp [Shape.numel, Fin.prod_univ_succ]; exact Nat.mul_pos hn hm

/-- A stack of one matrix has the matrix's elements. -/
theorem casts3 (n m : ℕ) : (Sh3 1 n m).ShapeCasts (Sh2 n m) := by
  show Shape.numel _ = Shape.numel _
  simp [Shape.numel, Fin.prod_univ_succ]

/-- A column stretches over the columns of a matrix. -/
theorem bcastCol (n m : ℕ) : (Sh2 n 1).Broadcasts (Sh2 n m) := by
  refine ⟨le_refl _, fun a => ?_⟩
  match a with
  | ⟨0, _⟩ => exact Or.inr fun _ => rfl
  | ⟨1, _⟩ => exact Or.inl rfl

/-- What a round's transfers and its store need of the row count `n`, the round `k`, and the first
    rows `soff` of the half sent and `koff` of the half kept. -/
structure Geo (n k soff koff : ℕ) : Prop where
  pos : 0 < n
  hn : n ≤ 128
  hk : k < 5
  hs : soff + n ≤ 256
  hko : koff + n ≤ 256
  sq9 : (Sh3 1 n 1024).Squeezes (Sh2 n 1024)
  sq10 : (Sh3 1 n 16).Squeezes (Sh2 n 16)
  p8 : (Rect.unit (s := S128x1024) ![0, 0] (Sh2 n 1024).size
    (inb2 (by omega) (by omega))).PackedRows (EltTy.packing .bf16)
  w8 : (Rect.unit (s := S128x1024) ![0, 0] (Sh2 n 1024).size
    (inb2 (by omega) (by omega))).WholeWords (EltTy.packing .bf16)
  w9 : (Rect.unit (s := S5x128x1024) ![k, 0, 0] (Sh3 1 n 1024).size
    (inb3 (by omega) (by omega) (by omega))).WholeWords (EltTy.packing .bf16)

section Vectors
variable {F : FTy → Type} [FloatOps F]

/-- The larger of the two running maxima. -/
def mrgM {n : ℕ} (mi : Vec F (Sh3 1 n 1) .f32) (ma : Vec F (Sh2 n 1) .f32) : FVec F (Sh2 n 1) .f32 :=
  maximumf ma (shapeCast (Sh2 n 1) mi (casts3 n 1))

/-- The factor that rescales what the device holds. -/
def mrgA {n : ℕ} (mi : Vec F (Sh3 1 n 1) .f32) (ma : Vec F (Sh2 n 1) .f32) : FVec F (Sh2 n 1) .f32 :=
  exp (subf ma (mrgM mi ma))

/-- The factor that rescales what arrived. -/
def mrgB {n : ℕ} (mi : Vec F (Sh3 1 n 1) .f32) (ma : Vec F (Sh2 n 1) .f32) : FVec F (Sh2 n 1) .f32 :=
  exp (subf (shapeCast (Sh2 n 1) mi (casts3 n 1)) (mrgM mi ma))

/-- The merged denominators. -/
def mrgL {n : ℕ} (mi li : Vec F (Sh3 1 n 1) .f32) (ma la : Vec F (Sh2 n 1) .f32) : FVec F (Sh2 n 1) .f32 :=
  addf (mulf la (mrgA mi ma)) (mulf (shapeCast (Sh2 n 1) li (casts3 n 1)) (mrgB mi ma))

/-- The merged numerators of one head. -/
def mrgO {n : ℕ} (mi : Vec F (Sh3 1 n 1) .f32) (oi : Vec F (Sh3 1 n 128) .bf16)
    (ma : Vec F (Sh2 n 1) .f32) (oa : Vec F (Sh2 n 128) .f32) : FVec F (Sh2 n 128) .f32 :=
  addf (mulf oa (broadcastTo (Sh2 n 128) (mrgA mi ma) (bcastCol n 128)))
    (mulf (extf .f32 (shapeCast (Sh2 n 128) oi (casts3 n 128)) bitsLt_bf16_f32)
      (broadcastTo (Sh2 n 128) (mrgB mi ma) (bcastCol n 128)))

/-- The last round's numerators divided by its denominators. -/
def mrgD {n : ℕ} (mi li : Vec F (Sh3 1 n 1) .f32) (oi : Vec F (Sh3 1 n 128) .bf16)
    (ma la : Vec F (Sh2 n 1) .f32) (oa : Vec F (Sh2 n 128) .f32) : FVec F (Sh2 n 128) .f32 :=
  divf (mrgO mi oi ma oa) (broadcastTo (Sh2 n 128) (mrgL mi li ma la) (bcastCol n 128))

/-- The columns of one head lie inside the queries. -/
theorem headSlices (h : ℕ) (hh : h < 8) : S256x1024.Slices ![0, h * 128] S256x128 := by
  refine ⟨rfl, fun a => ?_⟩
  match a with
  | ⟨0, _⟩ => exact Nat.le_of_eq (Nat.zero_add _)
  | ⟨1, _⟩ => show h * 128 + 128 ≤ 1024; omega

/-- The key head of a query head lies inside the keys. -/
theorem kvSlices (h : ℕ) (hh : h < 8) : S4096x2x128.Slices ![0, h / 4, 0] S4096x1x128 := by
  refine ⟨rfl, fun a => ?_⟩
  match a with
  | ⟨0, _⟩ => exact Nat.le_of_eq (Nat.zero_add _)
  | ⟨1, _⟩ => show h / 4 + 1 ≤ 2; omega
  | ⟨2, _⟩ => exact Nat.le_of_eq (Nat.zero_add _)

/-- The queries of every head. -/
def queries (x : Vec F S1x256x1024 .bf16) (wq : Vec F S1024x1024 .bf16) : FVec F S256x1024 .f32 :=
  matmul dot_S256x1024_S1024x1024_S256x1024_1_0_0_1_n_n none
    (shapeCast S256x1024 x shapeCasts_S1x256x1024_S256x1024)
    (shapeCast S1024x1024 wq shapeCasts_S1024x1024_S1024x1024) (constant S256x1024 .f32 0x00000000#32)

/-- The scores of one head against the device's own keys. -/
def attS (q : FVec F S256x1024 .f32) (kk : FVec F S4096x2x128 .bf16) (h : ℕ) (hh : h < 8) : FVec F S256x4096 .f32 :=
  matmul dot_S256x128_S4096x128_S256x4096_1_1_0_0_n_n none
    (truncf .bf16 (mulf (extractStridedSlice S256x128 ![0, h * 128] q (headSlices h hh))
      (broadcast S256x128 (Scalar.ofBits .f32 0x3DB504F3#32))) bitsLt_bf16_f32)
    (shapeCast S4096x128 (extractStridedSlice S4096x1x128 ![0, h / 4, 0] kk (kvSlices h hh)) shapeCasts_S4096x1x128_S4096x128)
    (constant S256x4096 .f32 0x00000000#32)

/-- Their maximum along each row. -/
def attM (q : FVec F S256x1024 .f32) (kk : FVec F S4096x2x128 .bf16) (h : ℕ) (hh : h < 8) : FVec F S256x1 .f32 :=
  shapeCast S256x1 (multiReduction .maximumf [1] S256 (attS q kk h hh) 0xFF800000#32 reduces_S256x4096_S256 (.inl rfl) rfl)
    shapeCasts_S256_S256x1

/-- The exponentials of the scores less their maximum. -/
def attP (q : FVec F S256x1024 .f32) (kk : FVec F S4096x2x128 .bf16) (h : ℕ) (hh : h < 8) : FVec F S256x4096 .f32 :=
  exp (subf (attS q kk h hh) (broadcastTo S256x4096 (attM q kk h hh) broadcasts_S256x1_S256x4096))

/-- The row sums of the exponentials. -/
def attL (q : FVec F S256x1024 .f32) (kk : FVec F S4096x2x128 .bf16) (h : ℕ) (hh : h < 8) : FVec F S256x1 .f32 :=
  shapeCast S256x1 (multiReduction .add [1] S256 (attP q kk h hh) 0x00000000#32 reduces_S256x4096_S256 (.inl rfl) rfl)
    shapeCasts_S256_S256x1

/-- The exponentials' weighted sums of the device's own values. -/
def attO (q : FVec F S256x1024 .f32) (kk vv : FVec F S4096x2x128 .bf16) (h : ℕ) (hh : h < 8) : FVec F S256x128 .f32 :=
  matmul dot_S256x4096_S4096x128_S256x128_1_0_0_1_n_n none (truncf .bf16 (attP q kk h hh) bitsLt_bf16_f32)
    (shapeCast S4096x128 (extractStridedSlice S4096x1x128 ![0, h / 4, 0] vv (kvSlices h hh)) shapeCasts_S4096x1x128_S4096x128)
    (constant S256x128 .f32 0x00000000#32)

end Vectors

section Programs
variable {F : FTy → Type} [FloatOps F]
variable (a6 : Memref sig .tc .vmem S256x1024 .f32) (a7 : Memref sig .tc .vmem S256x16 .f32)
  (a8 : Memref sig .tc .vmem S128x1024 .bf16) (h8 : a8.IsWhole)
  (a9 : Memref sig .tc .vmem S5x128x1024 .bf16) (h9 : a9.IsWhole)
  (a10 : Memref sig .tc .vmem S5x128x16 .f32)
  (s13 s14 s15 s16 : DmaSems sig S5)

/-- Cell `k` of a stack of five DMA semaphores. -/
abbrev semAt (s : DmaSems sig S5) (k : ℕ) (hk : k < 5) : DmaSem sig :=
  ((s.slice (Rect.unit (s := S5) ![k] S1.size (fun a => by
      match a with
      | ⟨0, _⟩ => exact hk))).squeeze S_ squeezes_S1_S_).sem

/-- The first `n` rows of slot `k` of the numerators' landing buffer. -/
abbrev landO {n k soff koff : ℕ} (g : Geo n k soff koff) : Memref sig .tc .vmem (Sh2 n 1024) .bf16 :=
  (a9.slice (Rect.unit (s := S5x128x1024) ![k, 0, 0] (Sh3 1 n 1024).size
    (inb3 (by have := g.hk; omega) (by have := g.hn; omega) (by omega))) (fun _ => rfl)).squeeze (Sh2 n 1024) g.sq9

/-- The first `n` rows of slot `k` of the landing buffer for maxima and denominators. -/
abbrev landML {n k soff koff : ℕ} (g : Geo n k soff koff) : Memref sig .tc .vmem (Sh2 n 16) .f32 :=
  (a10.slice (Rect.unit (s := S5x128x16) ![k, 0, 0] (Sh3 1 n 16).size
    (inb3 (by have := g.hk; omega) (by have := g.hn; omega) (by omega))) (fun _ => rfl)).squeeze (Sh2 n 16) g.sq10

/-- The first `n` rows of the send buffer. -/
abbrev srcO {n k soff koff : ℕ} (g : Geo n k soff koff) : Memref sig .tc .vmem (Sh2 n 1024) .bf16 :=
  a8.slice (Rect.unit (s := S128x1024) ![0, 0] (Sh2 n 1024).size
    (inb2 (by have := g.hn; omega) (by omega))) (fun _ => rfl)

/-- The `n` rows of maxima and denominators that are sent. -/
abbrev srcML {n k soff koff : ℕ} (g : Geo n k soff koff) : Memref sig .tc .vmem (Sh2 n 16) .f32 :=
  a7.slice (Rect.unit (s := S256x16) ![soff, 0] (Sh2 n 16).size
    (inb2 g.hs (by omega))) (fun _ => rfl)

/-- One round's transfers, after the rows to send are loaded and rounded: the send buffer is
    filled with them, both copies go to the partner, and all four completions are awaited. -/
def exchangeRest {n k soff koff : ℕ} (g : Geo n k soff koff) (p p' : Dev nD) (v : FVec F (Sh2 n 1024) .bf16) :
    Prog (TpuEff nD τ sig (Elt F) Λ₀ .tc) PUnit := do
  let _ : Vec F (Sh2 n 1024) .bf16 ← Prog.lift (.load a8 (Rect.unit (s := S128x1024) ![0, 0] (Sh2 n 1024).size
    (inb2 (by have := g.hn; omega) (by omega))).toLoadRect (View.loadsAt_vmem (numel2_pos g.pos (by omega))))
  Prog.lift (.store a8 (Rect.unit (s := S128x1024) ![0, 0] (Sh2 n 1024).size
    (inb2 (by have := g.hn; omega) (by omega)))
    (shapeCast (Sh2 n 1024) v rfl) Finset.univ
    (View.stores_vmem (numel2_pos g.pos (by omega)) (h8.storeExact_slice rfl _ g.p8) (fun _ => rfl)) (.inl rfl))
  Prog.lift (.enqueueDma (srcO a8 g) (.remote (Dev.tc p) (landO a9 g) (.dma (semAt s13 k g.hk)))
    (.dma (semAt s14 k g.hk)) (h8.wordExact_slice rfl _ g.w8) ((h9.wordExact_slice rfl _ g.w9).reshape _ _)
    ⟨⟨rfl, Or.inl rfl⟩, trivial⟩)
  Prog.lift (.enqueueDma (srcML a7 g) (.remote (Dev.tc p') (landML a10 g) (.dma (semAt s15 k g.hk)))
    (.dma (semAt s16 k g.hk)) (View.wordExact_bits rfl) ((View.wordExact_bits rfl).reshape _ _)
    ⟨⟨rfl, Or.inl rfl⟩, trivial⟩)
  Prog.lift (.waitDma2 (semAt s13 k g.hk) (landO a9 g) (srcO a8 g)
    ((h9.wordExact_slice rfl _ g.w9).reshape _ _) (h8.wordExact_slice rfl _ g.w8))
  Prog.lift (.waitDma2 (semAt s14 k g.hk) (srcO a8 g) (landO a9 g)
    (h8.wordExact_slice rfl _ g.w8) ((h9.wordExact_slice rfl _ g.w9).reshape _ _))
  Prog.lift (.waitDma2 (semAt s15 k g.hk) (landML a10 g) (srcML a7 g)
    ((View.wordExact_bits rfl).reshape _ _) (View.wordExact_bits rfl))
  Prog.lift (.waitDma2 (semAt s16 k g.hk) (srcML a7 g) (landML a10 g)
    (View.wordExact_bits rfl) ((View.wordExact_bits rfl).reshape _ _))

/-- The `n` rows to send are loaded. -/
def sendRows {n k soff koff : ℕ} (g : Geo n k soff koff) :
    Prog (TpuEff nD τ sig (Elt F) Λ₀ .tc) (Vec F (Sh2 n 1024) .f32) :=
  Prog.lift (.load a6 (Rect.unit (s := S256x1024) ![soff, 0] (Sh2 n 1024).size
    (inb2 g.hs (by omega))).toLoadRect (View.loadsAt_vmem (numel2_pos g.pos (by omega))))

/-- One head's merge: what arrived in slot `k` is merged with the rows from `koff`, the result
    going to the rows from 0. -/
def headMerge {n k soff koff : ℕ} (g : Geo n k soff koff) (h : ℕ) (hh : h < 8) :
    Prog (TpuEff nD τ sig (Elt F) Λ₀ .tc) PUnit := do
  let mi : Vec F (Sh3 1 n 1) .f32 ← Prog.lift (.load a10 (Rect.unit (s := S5x128x16) ![k, 0, h] (Sh3 1 n 1).size
    (inb3 (by have := g.hk; omega) (by have := g.hn; omega) (by omega))).toLoadRect (View.loadsAt_vmem (numel3_pos g.pos (by omega))))
  let li : Vec F (Sh3 1 n 1) .f32 ← Prog.lift (.load a10 (Rect.unit (s := S5x128x16) ![k, 0, 8 + h] (Sh3 1 n 1).size
    (inb3 (by have := g.hk; omega) (by have := g.hn; omega) (by omega))).toLoadRect (View.loadsAt_vmem (numel3_pos g.pos (by omega))))
  let oi : Vec F (Sh3 1 n 128) .bf16 ← Prog.lift (.load a9 (Rect.unit (s := S5x128x1024) ![k, 0, h * 128] (Sh3 1 n 128).size
    (inb3 (by have := g.hk; omega) (by have := g.hn; omega) (by omega))).toLoadRect (View.loadsAt_vmem (numel3_pos g.pos (by omega))))
  let ma : Vec F (Sh2 n 1) .f32 ← Prog.lift (.load a7 (Rect.unit (s := S256x16) ![koff, h] (Sh2 n 1).size
    (inb2 g.hko (by omega))).toLoadRect (View.loadsAt_vmem (numel2_pos g.pos (by omega))))
  let la : Vec F (Sh2 n 1) .f32 ← Prog.lift (.load a7 (Rect.unit (s := S256x16) ![koff, 8 + h] (Sh2 n 1).size
    (inb2 g.hko (by omega))).toLoadRect (View.loadsAt_vmem (numel2_pos g.pos (by omega))))
  let oa : Vec F (Sh2 n 128) .f32 ← Prog.lift (.load a6 (Rect.unit (s := S256x1024) ![koff, h * 128] (Sh2 n 128).size
    (inb2 g.hko (by omega))).toLoadRect (View.loadsAt_vmem (numel2_pos g.pos (by omega))))
  let _ : Vec F (Sh2 n 128) .f32 ← Prog.lift (.load a6 (Rect.unit (s := S256x1024) ![0, h * 128] (Sh2 n 128).size
    (inb2 (by have := g.hn; omega) (by omega))).toLoadRect (View.loadsAt_vmem (numel2_pos g.pos (by omega))))
  Prog.lift (.store a6 (Rect.unit (s := S256x1024) ![0, h * 128] (Sh2 n 128).size
    (inb2 (by have := g.hn; omega) (by omega))) (shapeCast (Sh2 n 128) (mrgO mi oi ma oa) rfl) Finset.univ
    (View.stores_vmem_bits_univ (numel2_pos g.pos (by omega)) rfl) (.inl rfl))
  let _ : Vec F (Sh2 n 1) .f32 ← Prog.lift (.load a7 (Rect.unit (s := S256x16) ![0, 8 + h] (Sh2 n 1).size
    (inb2 (by have := g.hn; omega) (by omega))).toLoadRect (View.loadsAt_vmem (numel2_pos g.pos (by omega))))
  Prog.lift (.store a7 (Rect.unit (s := S256x16) ![0, 8 + h] (Sh2 n 1).size
    (inb2 (by have := g.hn; omega) (by omega))) (shapeCast (Sh2 n 1) (mrgL mi li ma la) rfl) Finset.univ
    (View.stores_vmem_bits_univ (numel2_pos g.pos (by omega)) rfl) (.inl rfl))
  let _ : Vec F (Sh2 n 1) .f32 ← Prog.lift (.load a7 (Rect.unit (s := S256x16) ![0, h] (Sh2 n 1).size
    (inb2 (by have := g.hn; omega) (by omega))).toLoadRect (View.loadsAt_vmem (numel2_pos g.pos (by omega))))
  Prog.lift (.store a7 (Rect.unit (s := S256x16) ![0, h] (Sh2 n 1).size
    (inb2 (by have := g.hn; omega) (by omega))) (shapeCast (Sh2 n 1) (mrgM mi ma) rfl) Finset.univ
    (View.stores_vmem_bits_univ (numel2_pos g.pos (by omega)) rfl) (.inl rfl))

/-- One whole round: the exchange and the eight heads' merges. -/
def round {n k soff koff : ℕ} (g : Geo n k soff koff) (p p' : Dev nD) :
    Prog (TpuEff nD τ sig (Elt F) Λ₀ .tc) PUnit := do
  let v ← sendRows a6 g
  exchangeRest a7 a8 h8 a9 h9 a10 s13 s14 s15 s16 g p p' (truncf .bf16 v bitsLt_bf16_f32)
  headMerge a6 a7 a9 a10 g 0 (by omega)
  headMerge a6 a7 a9 a10 g 1 (by omega)
  headMerge a6 a7 a9 a10 g 2 (by omega)
  headMerge a6 a7 a9 a10 g 3 (by omega)
  headMerge a6 a7 a9 a10 g 4 (by omega)
  headMerge a6 a7 a9 a10 g 5 (by omega)
  headMerge a6 a7 a9 a10 g 6 (by omega)
  headMerge a6 a7 a9 a10 g 7 (by omega)

/-- The last round's merge of one head: the merged numerators divided by the merged denominators,
    maxima and denominators left as they are. -/
def headFinal {n k soff koff : ℕ} (g : Geo n k soff koff) (h : ℕ) (hh : h < 8) :
    Prog (TpuEff nD τ sig (Elt F) Λ₀ .tc) PUnit := do
  let mi : Vec F (Sh3 1 n 1) .f32 ← Prog.lift (.load a10 (Rect.unit (s := S5x128x16) ![k, 0, h] (Sh3 1 n 1).size
    (inb3 (by have := g.hk; omega) (by have := g.hn; omega) (by omega))).toLoadRect (View.loadsAt_vmem (numel3_pos g.pos (by omega))))
  let li : Vec F (Sh3 1 n 1) .f32 ← Prog.lift (.load a10 (Rect.unit (s := S5x128x16) ![k, 0, 8 + h] (Sh3 1 n 1).size
    (inb3 (by have := g.hk; omega) (by have := g.hn; omega) (by omega))).toLoadRect (View.loadsAt_vmem (numel3_pos g.pos (by omega))))
  let oi : Vec F (Sh3 1 n 128) .bf16 ← Prog.lift (.load a9 (Rect.unit (s := S5x128x1024) ![k, 0, h * 128] (Sh3 1 n 128).size
    (inb3 (by have := g.hk; omega) (by have := g.hn; omega) (by omega))).toLoadRect (View.loadsAt_vmem (numel3_pos g.pos (by omega))))
  let ma : Vec F (Sh2 n 1) .f32 ← Prog.lift (.load a7 (Rect.unit (s := S256x16) ![koff, h] (Sh2 n 1).size
    (inb2 g.hko (by omega))).toLoadRect (View.loadsAt_vmem (numel2_pos g.pos (by omega))))
  let la : Vec F (Sh2 n 1) .f32 ← Prog.lift (.load a7 (Rect.unit (s := S256x16) ![koff, 8 + h] (Sh2 n 1).size
    (inb2 g.hko (by omega))).toLoadRect (View.loadsAt_vmem (numel2_pos g.pos (by omega))))
  let oa : Vec F (Sh2 n 128) .f32 ← Prog.lift (.load a6 (Rect.unit (s := S256x1024) ![koff, h * 128] (Sh2 n 128).size
    (inb2 g.hko (by omega))).toLoadRect (View.loadsAt_vmem (numel2_pos g.pos (by omega))))
  let _ : Vec F (Sh2 n 128) .f32 ← Prog.lift (.load a6 (Rect.unit (s := S256x1024) ![0, h * 128] (Sh2 n 128).size
    (inb2 (by have := g.hn; omega) (by omega))).toLoadRect (View.loadsAt_vmem (numel2_pos g.pos (by omega))))
  Prog.lift (.store a6 (Rect.unit (s := S256x1024) ![0, h * 128] (Sh2 n 128).size
    (inb2 (by have := g.hn; omega) (by omega))) (shapeCast (Sh2 n 128) (mrgD mi li oi ma la oa) rfl) Finset.univ
    (View.stores_vmem_bits_univ (numel2_pos g.pos (by omega)) rfl) (.inl rfl))

/-- The last round, after its rows to send are loaded and rounded: the exchange and the eight heads' divided merges. -/
def lastRound {n k soff koff : ℕ} (g : Geo n k soff koff) (p p' : Dev nD) (v : FVec F (Sh2 n 1024) .bf16) :
    Prog (TpuEff nD τ sig (Elt F) Λ₀ .tc) PUnit := do
  exchangeRest a7 a8 h8 a9 h9 a10 s13 s14 s15 s16 g p p' v
  headFinal a6 a7 a9 a10 g 0 (by omega)
  headFinal a6 a7 a9 a10 g 1 (by omega)
  headFinal a6 a7 a9 a10 g 2 (by omega)
  headFinal a6 a7 a9 a10 g 3 (by omega)
  headFinal a6 a7 a9 a10 g 4 (by omega)
  headFinal a6 a7 a9 a10 g 5 (by omega)
  headFinal a6 a7 a9 a10 g 6 (by omega)
  headFinal a6 a7 a9 a10 g 7 (by omega)

/-- One head of the local attention: its numerators, maxima and denominators are stored. -/
def headStore (q : FVec F S256x1024 .f32) (kk vv : FVec F S4096x2x128 .bf16) (h : ℕ) (hh : h < 8) :
    Prog (TpuEff nD τ sig (Elt F) Λ₀ .tc) PUnit := do
  let _ : Vec F S256x128 .f32 ← Prog.lift (.load a6 (Rect.unit (s := S256x1024) ![0, h * 128] S256x128.size
    (inb2 (by omega) (by omega))).toLoadRect (View.loadsAt_vmem h_S256x128))
  Prog.lift (.store a6 (Rect.unit (s := S256x1024) ![0, h * 128] S256x128.size
    (inb2 (by omega) (by omega))) (shapeCast S256x128 (attO q kk vv h hh) rfl) Finset.univ
    (View.stores_vmem_bits_univ h_S256x128 rfl) (.inl rfl))
  let _ : Vec F S256x1 .f32 ← Prog.lift (.load a7 (Rect.unit (s := S256x16) ![0, h] S256x1.size
    (inb2 (by omega) (by omega))).toLoadRect (View.loadsAt_vmem h_S256x1))
  Prog.lift (.store a7 (Rect.unit (s := S256x16) ![0, h] S256x1.size
    (inb2 (by omega) (by omega))) (shapeCast S256x1 (attM q kk h hh) rfl) Finset.univ
    (View.stores_vmem_bits_univ h_S256x1 rfl) (.inl rfl))
  let _ : Vec F S256x1 .f32 ← Prog.lift (.load a7 (Rect.unit (s := S256x16) ![0, 8 + h] S256x1.size
    (inb2 (by omega) (by omega))).toLoadRect (View.loadsAt_vmem h_S256x1))
  Prog.lift (.store a7 (Rect.unit (s := S256x16) ![0, 8 + h] S256x1.size
    (inb2 (by omega) (by omega))) (shapeCast S256x1 (attL q kk h hh) rfl) Finset.univ
    (View.stores_vmem_bits_univ h_S256x1 rfl) (.inl rfl))

/-- The local attention of the eight heads. -/
def attend (q : FVec F S256x1024 .f32) (kk vv : FVec F S4096x2x128 .bf16) :
    Prog (TpuEff nD τ sig (Elt F) Λ₀ .tc) PUnit := do
  headStore a6 a7 q kk vv 0 (by omega)
  headStore a6 a7 q kk vv 1 (by omega)
  headStore a6 a7 q kk vv 2 (by omega)
  headStore a6 a7 q kk vv 3 (by omega)
  headStore a6 a7 q kk vv 4 (by omega)
  headStore a6 a7 q kk vv 5 (by omega)
  headStore a6 a7 q kk vv 6 (by omega)
  headStore a6 a7 q kk vv 7 (by omega)

end Programs

/-- A program run only when a condition holds, and then the rest. -/
def runIf {F : FTy → Type} [FloatOps F] {α : Type} (c : Prop) [Decidable c]
    (A : c → Prog (TpuEff nD τ sig (Elt F) Λ₀ .tc) PUnit) (rest : Prog (TpuEff nD τ sig (Elt F) Λ₀ .tc) α) :
    Prog (TpuEff nD τ sig (Elt F) Λ₀ .tc) α :=
  if h : c then do A h; rest else rest

section Gather
variable {F : FTy → Type} [FloatOps F]
variable (a2 : Memref sig .tc .vmem S1024x1024 .bf16) (a5 : Memref sig .tc .vmem S1x256x1024 .f32)
  (a6 : Memref sig .tc .vmem S256x1024 .f32)
  (a11 : Memref sig .tc .vmem S16x1024 .bf16) (h11 : a11.IsWhole)
  (a12 : Memref sig .tc .vmem S256x1024 .bf16) (h12 : a12.IsWhole)
  (s17 s18 : DmaSems sig S5) (s19 : DmaSems sig S_)

/-- `n` rows of the gathered output, from the place `off`. -/
abbrev yRows {n : ℕ} (off : Fin 2 → ℕ) (hoff : ∀ a, off a + (Sh2 n 1024).size a ≤ S256x1024.size a) :
    Memref sig .tc .vmem (Sh2 n 1024) .bf16 :=
  a12.slice (Rect.unit (s := S256x1024) off (Sh2 n 1024).size hoff) (fun _ => rfl)

/-- One step of the gather: the rows at `off` go to the partner, the partner's arrive at `off'`. -/
def agStep {n : ℕ} (k : ℕ) (hk : k < 5) (off off' : Fin 2 → ℕ)
    (ho : ∀ a, off a + (Sh2 n 1024).size a ≤ S256x1024.size a) (ho' : ∀ a, off' a + (Sh2 n 1024).size a ≤ S256x1024.size a)
    (w : (Rect.unit (s := S256x1024) off (Sh2 n 1024).size ho).WholeWords (EltTy.packing .bf16))
    (w' : (Rect.unit (s := S256x1024) off' (Sh2 n 1024).size ho').WholeWords (EltTy.packing .bf16)) (p : Dev nD) :
    Prog (TpuEff nD τ sig (Elt F) Λ₀ .tc) PUnit := do
  Prog.lift (.enqueueDma (yRows a12 off ho) (.remote (Dev.tc p) (yRows a12 off ho) (.dma (semAt s17 k hk)))
    (.dma (semAt s18 k hk)) (h12.wordExact_slice rfl _ w) (h12.wordExact_slice rfl _ w) ⟨⟨rfl, Or.inl rfl⟩, trivial⟩)
  Prog.lift (.waitDma2 (semAt s17 k hk) (yRows a12 off ho) (yRows a12 off ho)
    (h12.wordExact_slice rfl _ w) (h12.wordExact_slice rfl _ w))
  Prog.lift (.waitDma2 (semAt s18 k hk) (yRows a12 off' ho') (yRows a12 off' ho')
    (h12.wordExact_slice rfl _ w') (h12.wordExact_slice rfl _ w'))

/-- The sixteen rows of the device's own output: the merged rows times the output projection. -/
def yOwn (o : Vec F S16x1024 .f32) (wo : Vec F S1024x1024 .bf16) : FVec F S16x1024 .bf16 :=
  truncf .bf16 (matmul dot_S16x1024_S1024x1024_S16x1024_1_0_0_1_n_n none o
    (shapeCast S1024x1024 wo shapeCasts_S1024x1024_S1024x1024) (constant S16x1024 .f32 0x00000000#32)) bitsLt_bf16_f32

/-- The device's own output rows are computed and copied to their place `off`. -/
def project (off : Fin 2 → ℕ) (ho : ∀ a, off a + (Sh2 16 1024).size a ≤ S256x1024.size a)
    (w : (Rect.unit (s := S256x1024) off (Sh2 16 1024).size ho).WholeWords (EltTy.packing .bf16)) :
    Prog (TpuEff nD τ sig (Elt F) Λ₀ .tc) PUnit := do
  let o : Vec F S16x1024 .f32 ← Prog.lift (.load a6 (Rect.unit (s := S256x1024) ![0, 0] S16x1024.size
    (inb2 (by omega) (by omega))).toLoadRect (View.loadsAt_vmem h_S16x1024))
  let wo : Vec F S1024x1024 .bf16 ← Prog.lift (.load a2 (Rect.unit (s := S1024x1024) ![0, 0] S1024x1024.size
    inb_S1024x1024_S1024x1024_0_0).toLoadRect (View.loadsAt_vmem h_S1024x1024))
  let _ : Vec F S16x1024 .bf16 ← Prog.lift (.load a11 (Rect.unit (s := S16x1024) ![0, 0] S16x1024.size
    inb_S16x1024_S16x1024_0_0).toLoadRect (View.loadsAt_vmem h_S16x1024))
  Prog.lift (.store a11 (Rect.unit (s := S16x1024) ![0, 0] S16x1024.size inb_S16x1024_S16x1024_0_0)
    (shapeCast S16x1024 (yOwn o wo) rfl) Finset.univ
    (View.stores_vmem h_S16x1024 (h11.storeExact_slice rfl _ packedbf16_S16x1024_S16x1024_0_0) (fun _ => rfl)) (.inl rfl))
  Prog.lift (.enqueueDma a11 (.here (yRows a12 off ho)) (.dma s19.sem) h11.wordExact (h12.wordExact_slice rfl _ w)
    ⟨Or.inl rfl, trivial⟩)
  Prog.lift (.waitDma2 s19.sem a11 (yRows a12 off ho) h11.wordExact (h12.wordExact_slice rfl _ w))

/-- The gathered rows are widened into the result. -/
def emitOut : Prog (TpuEff nD τ sig (Elt F) Λ₀ .tc) PUnit := do
  let v : Vec F S256x1024 .bf16 ← Prog.lift (.load a12 (Rect.unit (s := S256x1024) ![0, 0] S256x1024.size
    (inb2 (by omega) (by omega))).toLoadRect (View.loadsAt_vmem h_S256x1024))
  let _ : Vec F S1x256x1024 .f32 ← Prog.lift (.load a5 (Rect.unit (s := S1x256x1024) ![0, 0, 0] S1x256x1024.size
    inb_S1x256x1024_S1x256x1024_0_0_0).toLoadRect (View.loadsAt_vmem h_S1x256x1024))
  Prog.lift (.store a5 (Rect.unit (s := S1x256x1024) ![0, 0, 0] S1x256x1024.size inb_S1x256x1024_S1x256x1024_0_0_0)
    (shapeCast S1x256x1024 (extf .f32 v bitsLt_bf16_f32) shapeCasts_S256x1024_S1x256x1024) Finset.univ
    (View.stores_vmem_bits_univ h_S1x256x1024 rfl) (.inl rfl))

end Gather

end Cert.KernelIdeal.Flash
-- ==== Proof.Flash.Views.lean ====
/- What a load of a rectangle of a matrix reads, and what a store to one leaves, entry by entry. -/
module

public import proofs.«01_k».proof.Proof.Flash.Canon
public import Idealize.ShloMosaic.Lib.PointwiseCore
public import Idealize.ShloMosaic.Lib.Pipeline.Value

@[expose] public section

namespace Cert.KernelIdeal.Flash

open Idealize.ShloMosaic

section Views
variable {sig : RefSig} {κ : Kind} {Val : EltTy → Type} {sp : Space} {e : EltTy}

/-- The rectangle of a matrix at `(r, c)`: its entry `(i, j)` is the matrix's `(r + i, c + j)`. -/
theorem emb2 {R C r c n m : ℕ} (h : ∀ a, (![r, c] : Fin 2 → ℕ) a + (Sh2 n m).size a ≤ (Sh2 R C).size a)
    (x : (Sh2 n m).Idx) :
    (Rect.unit (s := Sh2 R C) ![r, c] (Sh2 n m).size h).emb x
      = ix2 ⟨r + (x 0).val, lt_of_lt_of_le (Nat.add_lt_add_left (x 0).isLt r) (h 0)⟩
          ⟨c + (x 1).val, lt_of_lt_of_le (Nat.add_lt_add_left (x 1).isLt c) (h 1)⟩ := by
  funext a
  match a with
  | ⟨0, _⟩ => exact Fin.ext (by show r + 1 * (x 0).val = r + (x 0).val; rw [Nat.one_mul])
  | ⟨1, _⟩ => exact Fin.ext (by show c + 1 * (x 1).val = c + (x 1).val; rw [Nat.one_mul])

/-- The rectangle of one matrix of a stack, likewise. -/
theorem emb3 {D R C d r c n m : ℕ} (h : ∀ a, (![d, r, c] : Fin 3 → ℕ) a + (Sh3 1 n m).size a ≤ (Sh3 D R C).size a)
    (x : (Sh3 1 n m).Idx) :
    (Rect.unit (s := Sh3 D R C) ![d, r, c] (Sh3 1 n m).size h).emb x
      = ix3 ⟨d, lt_of_lt_of_le (Nat.lt_succ_self d) (h 0)⟩
          ⟨r + (x 1).val, lt_of_lt_of_le (Nat.add_lt_add_left (x 1).isLt r) (h 1)⟩
          ⟨c + (x 2).val, lt_of_lt_of_le (Nat.add_lt_add_left (x 2).isLt c) (h 2)⟩ := by
  funext a
  match a with
  | ⟨0, _⟩ => exact Fin.ext (by
      have h0 : (x 0).val < 1 := (x 0).isLt
      show d + 1 * (x 0).val = d; omega)
  | ⟨1, _⟩ => exact Fin.ext (by show r + 1 * (x 1).val = r + (x 1).val; rw [Nat.one_mul])
  | ⟨2, _⟩ => exact Fin.ext (by show c + 1 * (x 2).val = c + (x 2).val; rw [Nat.one_mul])

/-- A load of a rectangle of a matrix, entry by entry. -/
theorem readAt2 {R C r c n m : ℕ} (v : View sig κ sp (Sh2 R C) e) (f : v.ty.Contents Val)
    (h : ∀ a, (![r, c] : Fin 2 → ℕ) a + (Sh2 n m).size a ≤ (Sh2 R C).size a) (x : (Sh2 n m).Idx) :
    v.readAt Val (Rect.unit (s := Sh2 R C) ![r, c] (Sh2 n m).size h).toLoadRect f x
      = v.read Val f (ix2 ⟨r + (x 0).val, lt_of_lt_of_le (Nat.add_lt_add_left (x 0).isLt r) (h 0)⟩
          ⟨c + (x 1).val, lt_of_lt_of_le (Nat.add_lt_add_left (x 1).isLt c) (h 1)⟩) :=
  congrArg (v.read Val f) (emb2 h x)

/-- A load of a rectangle of one matrix of a stack, entry by entry. -/
theorem readAt3 {D R C d r c n m : ℕ} (v : View sig κ sp (Sh3 D R C) e) (f : v.ty.Contents Val)
    (h : ∀ a, (![d, r, c] : Fin 3 → ℕ) a + (Sh3 1 n m).size a ≤ (Sh3 D R C).size a) (x : (Sh3 1 n m).Idx) :
    v.readAt Val (Rect.unit (s := Sh3 D R C) ![d, r, c] (Sh3 1 n m).size h).toLoadRect f x
      = v.read Val f (ix3 ⟨d, lt_of_lt_of_le (Nat.lt_succ_self d) (h 0)⟩
          ⟨r + (x 1).val, lt_of_lt_of_le (Nat.add_lt_add_left (x 1).isLt r) (h 1)⟩
          ⟨c + (x 2).val, lt_of_lt_of_le (Nat.add_lt_add_left (x 2).isLt c) (h 2)⟩) :=
  congrArg (v.read Val f) (emb3 h x)

/-- A store to a rectangle of a matrix, read at an entry inside it. -/
theorem write2_in {R C r c n m : ℕ} (v : View sig κ sp (Sh2 R C) e) (f : v.ty.Contents Val)
    (h : ∀ a, (![r, c] : Fin 2 → ℕ) a + (Sh2 n m).size a ≤ (Sh2 R C).size a) (w : (Sh2 n m).Idx → Val e)
    (i : Fin R) (j : Fin C) (i' : Fin n) (j' : Fin m) (hi : i.val = r + i'.val) (hj : j.val = c + j'.val) :
    v.read Val ((v.slice (Rect.unit (s := Sh2 R C) ![r, c] (Sh2 n m).size h)).write Val f w Finset.univ) (ix2 i j)
      = w (ix2 i' j') := by
  have e2 : (Rect.unit (s := Sh2 R C) ![r, c] (Sh2 n m).size h).emb (ix2 i' j') = ix2 i j := by
    rw [emb2]; exact (ix2_inj _ _ _ _).2 ⟨Fin.ext hi.symm, Fin.ext hj.symm⟩
  rw [← e2]
  exact View.read_write_of_mem (v := v.slice (Rect.unit (s := Sh2 R C) ![r, c] (Sh2 n m).size h)) f w (Finset.mem_univ (ix2 i' j'))

/-- A store to a rectangle of a matrix, read at an entry outside it. -/
theorem write2_out {R C r c n m : ℕ} (v : View sig κ sp (Sh2 R C) e) (f : v.ty.Contents Val)
    (h : ∀ a, (![r, c] : Fin 2 → ℕ) a + (Sh2 n m).size a ≤ (Sh2 R C).size a) (w : (Sh2 n m).Idx → Val e)
    (i : Fin R) (j : Fin C) (ho : ¬ (r ≤ i.val ∧ i.val < r + n ∧ c ≤ j.val ∧ j.val < c + m)) :
    v.read Val ((v.slice (Rect.unit (s := Sh2 R C) ![r, c] (Sh2 n m).size h)).write Val f w Finset.univ) (ix2 i j)
      = v.read Val f (ix2 i j) := by
  refine View.read_slice_write_of_not_mem _ _ _ _ ?_
  rw [Rect.map_emb_univ, Rect.mem_set_unit]
  intro hall
  exact ho ⟨(hall 0).1, (hall 0).2, (hall 1).1, (hall 1).2⟩

end Views

section Casts
variable {α : Type}

/-- A stack of one matrix cast to the matrix reads the same entry. -/
theorem cast3 {n m : ℕ} (v : (Sh3 1 n m).Idx → α) (x : (Sh2 n m).Idx) :
    shapeCast (Sh2 n m) v (casts3 n m) x = v (ix3 ⟨0, Nat.one_pos⟩ (x 0) (x 1)) := by
  rw [shapeCast_dropUnit_apply (![n, m])]
  congr 1
  funext a
  match a with
  | ⟨0, _⟩ => rfl
  | ⟨1, _⟩ => rfl
  | ⟨2, _⟩ => rfl

/-- A matrix cast to its own shape is itself. -/
theorem cast2 {n m : ℕ} (v : (Sh2 n m).Idx → α) (h : (Sh2 n m).ShapeCasts (Sh2 n m)) : shapeCast (Sh2 n m) v h = v :=
  shapeCast_self v h

/-- A column stretched over a matrix reads the column at the row. -/
theorem bcast2 {n m : ℕ} (v : (Sh2 n 1).Idx → α) (x : (Sh2 n m).Idx) :
    broadcastTo (Sh2 n m) v (bcastCol n m) x = v (ix2 (x 0) ⟨0, Nat.one_pos⟩) := by
  refine broadcastTo_apply _ _ _ _ fun a => ?_
  match a with
  | ⟨0, _⟩ =>
    show (x 0).val = if n = 1 then 0 else (x 0).val
    have h0 : (x 0).val < n := (x 0).isLt
    split <;> omega
  | ⟨1, _⟩ => rfl

end Casts

end Cert.KernelIdeal.Flash
-- ==== Proof.Flash.Merge.lean ====
/- The merge of two partial softmax results entry by entry, and the vectors a round stores read at an
   entry. A row of numerators has 1024 columns, 128 per head; a row of the small buffer has the eight
   heads' maxima and then their eight denominators. -/
module

public import proofs.«01_k».proof.Proof.Flash.Views

@[expose] public section

noncomputable section

namespace Cert.KernelIdeal.Flash

open Idealize.ShloMosaic Cert.KernelIdeal Cert.KernelIdeal.Gen

variable {F : FTy → Type} [FloatOps F]

/-- The larger of two maxima. -/
def topM (a b : F .f32) : F .f32 := FloatOps.maximumf a b

/-- The factor that rescales a partial result from its own maximum `a` to the common one `m`. -/
def scaleM (a m : F .f32) : F .f32 := FloatOps.exp (FloatOps.subf a m)

/-- Two rows of maxima and denominators merged, at column `col`. -/
def mergeML (a b : ℕ → F .f32) (col : ℕ) : F .f32 :=
  if col < 8 then topM (a col) (b col)
  else FloatOps.addf (FloatOps.mulf (a col) (scaleM (a (col - 8)) (topM (a (col - 8)) (b (col - 8)))))
    (FloatOps.mulf (b col) (scaleM (b (col - 8)) (topM (a (col - 8)) (b (col - 8)))))

/-- Two rows of numerators merged, at column `j`; the second arrived rounded. -/
def mergeO (a : ℕ → F .f32) (b : ℕ → F .bf16) (ma mb : ℕ → F .f32) (j : ℕ) : F .f32 :=
  FloatOps.addf (FloatOps.mulf (a j) (scaleM (ma (j / 128)) (topM (ma (j / 128)) (mb (j / 128)))))
    (FloatOps.mulf (FloatOps.extf .f32 bitsLt_bf16_f32 (b j)) (scaleM (mb (j / 128)) (topM (ma (j / 128)) (mb (j / 128)))))

/-- The merged numerators divided by the merged denominators. -/
def mergeD (a : ℕ → F .f32) (b : ℕ → F .bf16) (ma mb : ℕ → F .f32) (j : ℕ) : F .f32 :=
  FloatOps.divf (mergeO a b ma mb j) (mergeML ma mb (8 + j / 128))

section Entries
variable {n : ℕ} (mi li : Vec F (Sh3 1 n 1) .f32) (oi : Vec F (Sh3 1 n 128) .bf16)
  (ma la : Vec F (Sh2 n 1) .f32) (oa : Vec F (Sh2 n 128) .f32) (i : Fin n)

/-- The merged maxima at a row. -/
theorem mrgM_at : mrgM mi ma (ix2 i 0) = topM (ma (ix2 i 0)) (mi (ix3 0 i 0)) := by
  show FloatOps.maximumf _ (shapeCast (Sh2 n 1) mi (casts3 n 1) _) = _
  rw [cast3]; rfl

/-- The factor of the device's own part at a row. -/
theorem mrgA_at : mrgA mi ma (ix2 i 0) = scaleM (ma (ix2 i 0)) (topM (ma (ix2 i 0)) (mi (ix3 0 i 0))) := by
  rw [← mrgM_at]; rfl

/-- The factor of the part that arrived at a row. -/
theorem mrgB_at : mrgB mi ma (ix2 i 0) = scaleM (mi (ix3 0 i 0)) (topM (ma (ix2 i 0)) (mi (ix3 0 i 0))) := by
  rw [← mrgM_at]
  show FloatOps.exp (FloatOps.subf (shapeCast (Sh2 n 1) mi (casts3 n 1) _) _) = _
  rw [cast3]; rfl

/-- The merged denominators at a row. -/
theorem mrgL_at : mrgL mi li ma la (ix2 i 0)
    = FloatOps.addf (FloatOps.mulf (la (ix2 i 0)) (scaleM (ma (ix2 i 0)) (topM (ma (ix2 i 0)) (mi (ix3 0 i 0)))))
        (FloatOps.mulf (li (ix3 0 i 0)) (scaleM (mi (ix3 0 i 0)) (topM (ma (ix2 i 0)) (mi (ix3 0 i 0))))) := by
  rw [← mrgA_at, ← mrgB_at]
  show FloatOps.addf _ (FloatOps.mulf (shapeCast (Sh2 n 1) li (casts3 n 1) _) _) = _
  rw [cast3]; rfl

/-- The merged numerators at an entry. -/
theorem mrgO_at (j : Fin 128) : mrgO mi oi ma oa (ix2 i j)
    = FloatOps.addf (FloatOps.mulf (oa (ix2 i j)) (scaleM (ma (ix2 i 0)) (topM (ma (ix2 i 0)) (mi (ix3 0 i 0)))))
        (FloatOps.mulf (FloatOps.extf .f32 bitsLt_bf16_f32 (oi (ix3 0 i j)))
          (scaleM (mi (ix3 0 i 0)) (topM (ma (ix2 i 0)) (mi (ix3 0 i 0))))) := by
  rw [← mrgA_at, ← mrgB_at]
  show FloatOps.addf (FloatOps.mulf _ (broadcastTo (Sh2 n 128) _ (bcastCol n 128) _))
    (FloatOps.mulf (FloatOps.extf .f32 bitsLt_bf16_f32 (shapeCast (Sh2 n 128) oi (casts3 n 128) _))
      (broadcastTo (Sh2 n 128) _ (bcastCol n 128) _)) = _
  rw [cast3, bcast2, bcast2]; rfl

/-- The divided numerators at an entry. -/
theorem mrgD_at (j : Fin 128) : mrgD mi li oi ma la oa (ix2 i j)
    = FloatOps.divf (mrgO mi oi ma oa (ix2 i j)) (mrgL mi li ma la (ix2 i 0)) := by
  show FloatOps.divf _ (broadcastTo (Sh2 n 128) _ (bcastCol n 128) _) = _
  rw [bcast2]; rfl

end Entries

/-- What the accumulators hold while a round's merges run, heads below `h` done: the rows from 0 hold the
    merged values of those heads, the rows from `koff` the unmerged values of the others. -/
structure Merging (n koff h : ℕ) (o ml o' ml' : ℕ → ℕ → F .f32)
    (X6 : (Sh2 256 1024).Idx → F .f32) (X7 : (Sh2 256 16).Idx → F .f32) : Prop where
  doneO : ∀ (i : Fin 256) (j : Fin 1024), i.val < n → j.val / 128 < h → X6 (ix2 i j) = o' i j
  restO : ∀ (i : Fin 256) (j : Fin 1024) (r : ℕ), i.val = koff + r → r < n → h ≤ j.val / 128 → X6 (ix2 i j) = o r j
  doneM : ∀ (i : Fin 256) (j : Fin 16), i.val < n → j.val % 8 < h → X7 (ix2 i j) = ml' i j
  restM : ∀ (i : Fin 256) (j : Fin 16) (r : ℕ), i.val = koff + r → r < n → h ≤ j.val % 8 → X7 (ix2 i j) = ml r j

/-- The first `n` rows of slot `k` of the landing buffers hold `oi` and `mli`. -/
structure Landed (n k : ℕ) (oi : ℕ → ℕ → F .bf16) (mli : ℕ → ℕ → F .f32)
    (X9 : (Sh3 5 128 1024).Idx → F .bf16) (X10 : (Sh3 5 128 16).Idx → F .f32) : Prop where
  o : ∀ (s : Fin 5) (i : Fin 128) (j : Fin 1024), s.val = k → i.val < n → X9 (ix3 s i j) = oi i j
  ml : ∀ (s : Fin 5) (i : Fin 128) (j : Fin 16), s.val = k → i.val < n → X10 (ix3 s i j) = mli i j

end Cert.KernelIdeal.Flash
-- ==== Proof.Flash.Base.lean ====
/- The resource algebra of the proof and the triples of a load and a store through a view of a core. -/
module

public import proofs.«01_k».proof.Proof.Flash.Merge
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's copy of the algebra: cells are global semaphores, duties are named by five indices. -/
abbrev UB : Type := URounds (GSem nD τ sig) (Fin 5)
/-- The pipeline library's copy and the protocol's. -/
abbrev UU : Type := UR sig nD τ × UB

local notation "𝕄" => MT nD τ sig Unit (Elt F) ℕ UU ℕ

/-- The pipeline's copy inside the whole. -/
abbrev EP : Emb (UR sig nD τ) (MT nD τ sig Unit (Elt F) ℕ UU ℕ) := embL
/-- The protocol's copy inside the whole. -/
abbrev ER : Emb UB (MT nD τ sig Unit (Elt F) ℕ UU ℕ) := embR

/-- The body has no loop, so no variants. -/
abbrev 𝒱₀ : Variants := Variants.none

/-- The weakest precondition of a program of core `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Access
variable (c : Dev nD) {s : Shape} {e : EltTy} {α : Type}

/-- A load, the elements read being among those held. -/
theorem load_at {Q : α → sProp 𝕄} {cs : CoreSpace} (m : Memref sig .tc cs s e) {r : Rect s} {hl : m.view.LoadsAt r.toLoadRect}
    {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (hS : (m.view.slice r).set ⊆ S) :
    (m.view.loc (c : Thread nD τ) ↦[S]{q} f : sProp 𝕄)
      ⊢ iprop(((m.view.loc (c : Thread nD τ) ↦[S]{q} f) -∗ wpc c (k (m.view.readAt (Elt F) r.toLoadRect f)) Q)
        -∗ wpc c (.op (.load m r.toLoadRect hl) k) Q) :=
  wp_load (m := m) (r := r.toLoadRect) (hl := hl) (k := k) (S := S) (q := q) (f := f) 𝒱₀ (c : Thread nD τ) none Set.univ
    (by rwa [View.set_slice] at hS)

/-- A load from a buffer held whole. -/
theorem load_all {Q : α → sProp 𝕄} {cs : CoreSpace} (m : Memref sig .tc cs s e) {r : Rect s} {hl : m.view.LoadsAt r.toLoadRect}
    {k : (r.shape.Idx → Elt F e) → Prog (TpuEff nD τ sig (Elt F) Λ₀ .tc) α}
    {q : PosShare TreeShare} {f : Buf (Elt F) (m.view.loc (c : Thread nD τ))} :
    (m.view.loc (c : Thread nD τ) ↦{q} f : sProp 𝕄)
      ⊢ iprop(((m.view.loc (c : Thread nD τ) ↦{q} f) -∗ wpc c (k (m.view.readAt (Elt F) r.toLoadRect f)) Q)
        -∗ wpc c (.op (.load m r.toLoadRect hl) k) Q) :=
  load_at c m (Finset.subset_univ _)

/-- A store of a whole rectangle to a buffer held whole. -/
theorem store_at {Q : α → sProp 𝕄} {cs : CoreSpace} (m : Memref sig .tc cs s e) {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {f : Buf (Elt F) (m.view.loc (c : Thread nD τ))} :
    (m.view.loc (c : Thread nD τ) ↦{fullShare} f : sProp 𝕄)
      ⊢ iprop(((m.view.loc (c : Thread nD τ) ↦{fullShare} ((m.view.slice r).write (Elt F) f w Finset.univ)) -∗ wpc c (k ⟨⟩) Q)
        -∗ wpc c (.op (.store m r w Finset.univ hx hm) k) Q) :=
  wp_store (m := m) (r := r) (w := w) (Mk := Finset.univ) (hx := hx) (hm := hm) (k := k) (S := Finset.univ) (f := f)
    𝒱₀ (c : Thread nD τ) none Set.univ (Finset.subset_univ _)

/-- A finished program meets what holds of its value. -/
theorem wpc_ret (a : α) (Q : α → sProp 𝕄) : Q a ⊢ wpc c (.ret a) Q := by
  show Q a ⊢ wp frame (wpE (defs₀ (F := F)) 𝒱₀ (c : Thread nD τ) none) Set.univ (.ret a) Q
  rw [wp_ret]; exact fupd_intro

/-- A program in sequence: the first part's goal is the rest's weakest precondition. -/
theorem wpc_bind {β : Type} (p : Prog (TpuEff nD τ sig (Elt F) Λ₀ .tc) β)
    (k : β → Prog (TpuEff nD τ sig (Elt F) Λ₀ .tc) α) (Q : α → sProp 𝕄) :
    wpc c (p >>= k) Q = wpc c p (fun a => wpc c (k a) Q) := wp_bind _ _ _ _ _ _

end Access

end Cert.KernelIdeal.Flash
-- ==== Proof.Flash.CanonBody.lean ====
/- The printed body is the body written over symbolic row counts. -/
module

public import proofs.«01_k».proof.Proof.Flash.Canon

@[expose] public section

noncomputable section

namespace Cert.KernelIdeal.Flash

open Idealize.ShloMosaic Idealize.SL.Sem Cert.KernelIdeal Cert.KernelIdeal.Gen

theorem geo0z : Geo 128 0 128 0 := ⟨by decide, by decide, by decide, by decide, by decide, by decide, by decide, by decide, by decide, by decide⟩
theorem geo0o : Geo 128 0 0 128 := ⟨by decide, by decide, by decide, by decide, by decide, by decide, by decide, by decide, by decide, by decide⟩
theorem geo1z : Geo 64 1 64 0 := ⟨by decide, by decide, by decide, by decide, by decide, by decide, by decide, by decide, by decide, by decide⟩
theorem geo1o : Geo 64 1 0 64 := ⟨by decide, by decide, by decide, by decide, by decide, by decide, by decide, by decide, by decide, by decide⟩
theorem geo2z : Geo 32 2 32 0 := ⟨by decide, by decide, by decide, by decide, by decide, by decide, by decide, by decide, by decide, by decide⟩
theorem geo2o : Geo 32 2 0 32 := ⟨by decide, by decide, by decide, by decide, by decide, by decide, by decide, by decide, by decide, by decide⟩
theorem geo3z : Geo 16 3 16 0 := ⟨by decide, by decide, by decide, by decide, by decide, by decide, by decide, by decide, by decide, by decide⟩
theorem geo3o : Geo 16 3 0 16 := ⟨by decide, by decide, by decide, by decide, by decide, by decide, by decide, by decide, by decide, by decide⟩
theorem geo4 : Geo 16 4 0 0 := ⟨by decide, by decide, by decide, by decide, by decide, by decide, by decide, by decide, by decide, by decide⟩

variable {F : FTy → Type} [FloatOps F]

section Rounds
variable (arg6 : Memref sig .tc .vmem S256x1024 .f32) (arg7 : Memref sig .tc .vmem S256x16 .f32)
  (arg8 : Memref sig .tc .vmem S128x1024 .bf16) (harg8 : arg8.IsWhole)
  (arg9 : Memref sig .tc .vmem S5x128x1024 .bf16) (harg9 : arg9.IsWhole)
  (arg10 : Memref sig .tc .vmem S5x128x16 .f32)
  (arg13 arg14 arg15 arg16 : DmaSems sig S5)

/-- The first round of the butterfly, sending the half that the device's first bit says. -/
def firstRounds (d0 : Dev nD) : Prog (TpuEff nD τ sig (Elt F) Λ₀ .tc) (BitVec 32) :=
  runIf (k0_cond1 d0 = 1#1) (fun h => round arg6 arg7 arg8 harg8 arg9 harg9 arg10 arg13 arg14 arg15 arg16 geo0z ⟨k0_dev6 d0, k0_dev6_lt d0 h⟩ ⟨k0_dev7 d0, k0_dev7_lt d0 h⟩)
  (runIf (k0_cond2 d0 = 1#1) (fun h => round arg6 arg7 arg8 harg8 arg9 harg9 arg10 arg13 arg14 arg15 arg16 geo0o ⟨k0_dev8 d0, k0_dev8_lt d0 h⟩ ⟨k0_dev9 d0, k0_dev9_lt d0 h⟩)
  (pure 8#32))

/-- The next three rounds, then the rows of the last round loaded and rounded. -/
def middleRounds (d0 : Dev nD) : Prog (TpuEff nD τ sig (Elt F) Λ₀ .tc) (Σ' (_ : BitVec 32), FVec F S16x1024 .bf16) :=
  runIf (k0_cond3 d0 = 1#1) (fun h => round arg6 arg7 arg8 harg8 arg9 harg9 arg10 arg13 arg14 arg15 arg16 geo1z ⟨k0_dev10 d0, k0_dev10_lt d0 h⟩ ⟨k0_dev11 d0, k0_dev11_lt d0 h⟩)
  (runIf (k0_cond4 d0 = 1#1) (fun h => round arg6 arg7 arg8 harg8 arg9 harg9 arg10 arg13 arg14 arg15 arg16 geo1o ⟨k0_dev12 d0, k0_dev12_lt d0 h⟩ ⟨k0_dev13 d0, k0_dev13_lt d0 h⟩)
  (runIf (k0_cond5 d0 = 1#1) (fun h => round arg6 arg7 arg8 harg8 arg9 harg9 arg10 arg13 arg14 arg15 arg16 geo2z ⟨k0_dev14 d0, k0_dev14_lt d0 h⟩ ⟨k0_dev15 d0, k0_dev15_lt d0 h⟩)
  (runIf (k0_cond6 d0 = 1#1) (fun h => round arg6 arg7 arg8 harg8 arg9 harg9 arg10 arg13 arg14 arg15 arg16 geo2o ⟨k0_dev16 d0, k0_dev16_lt d0 h⟩ ⟨k0_dev17 d0, k0_dev17_lt d0 h⟩)
  (runIf (k0_cond7 d0 = 1#1) (fun h => round arg6 arg7 arg8 harg8 arg9 harg9 arg10 arg13 arg14 arg15 arg16 geo3z ⟨k0_dev18 d0, k0_dev18_lt d0 h⟩ ⟨k0_dev19 d0, k0_dev19_lt d0 h⟩)
  (runIf (k0_cond8 d0 = 1#1) (fun h => round arg6 arg7 arg8 harg8 arg9 harg9 arg10 arg13 arg14 arg15 arg16 geo3o ⟨k0_dev20 d0, k0_dev20_lt d0 h⟩ ⟨k0_dev21 d0, k0_dev21_lt d0 h⟩)
  (do let v ← sendRows arg6 geo4; pure ⟨Scalar.xori (Scalar.remsi (Scalar.divsi (Dev.word d0) 1#32) 32#32) 1#32, truncf .bf16 v bitsLt_bf16_f32⟩))))))

end Rounds

/-- The whole body over the named programs: the barrier, the local attention, the five rounds, the
    output projection, the gather, and the result. -/
def canonBody (arg0 : Memref sig .tc .vmem S1x256x1024 .bf16) (harg0 : arg0.IsWhole)
    (arg1 : Memref sig .tc .vmem S1024x1024 .bf16) (harg1 : arg1.IsWhole)
    (arg2 : Memref sig .tc .vmem S1024x1024 .bf16) (harg2 : arg2.IsWhole)
    (arg3 : Memref sig .tc .vmem S1x4096x2x128 .bf16) (harg3 : arg3.IsWhole)
    (arg4 : Memref sig .tc .vmem S1x4096x2x128 .bf16) (harg4 : arg4.IsWhole)
    (arg5 : Memref sig .tc .vmem S1x256x1024 .f32) (harg5 : arg5.IsWhole)
    (arg6 : Memref sig .tc .vmem S256x1024 .f32) (harg6 : arg6.IsWhole)
    (arg7 : Memref sig .tc .vmem S256x16 .f32) (harg7 : arg7.IsWhole)
    (arg8 : Memref sig .tc .vmem S128x1024 .bf16) (harg8 : arg8.IsWhole)
    (arg9 : Memref sig .tc .vmem S5x128x1024 .bf16) (harg9 : arg9.IsWhole)
    (arg10 : Memref sig .tc .vmem S5x128x16 .f32) (harg10 : arg10.IsWhole)
    (arg11 : Memref sig .tc .vmem S16x1024 .bf16) (harg11 : arg11.IsWhole)
    (arg12 : Memref sig .tc .vmem S256x1024 .bf16) (harg12 : arg12.IsWhole)
    (arg13 : DmaSems sig S5)
    (arg14 : DmaSems sig S5)
    (arg15 : DmaSems sig S5)
    (arg16 : DmaSems sig S5)
    (arg17 : DmaSems sig S5)
    (arg18 : DmaSems sig S5)
    (arg19 : DmaSems sig S_) :
    Prog (TpuEff nD τ sig (Elt F) Λ₀ .tc) PUnit := do
  let d0 : Dev nD ← Prog.lift .deviceId
  semSignalWord (⟨k0_dev1 d0, k0_dev1_lt d0⟩ : Dev nD) (sig.barrier 0 rfl) 1#32
  semSignalWord (⟨k0_dev2 d0, k0_dev2_lt d0⟩ : Dev nD) (sig.barrier 0 rfl) 1#32
  semSignalWord (⟨k0_dev3 d0, k0_dev3_lt d0⟩ : Dev nD) (sig.barrier 0 rfl) 1#32
  semSignalWord (⟨k0_dev4 d0, k0_dev4_lt d0⟩ : Dev nD) (sig.barrier 0 rfl) 1#32
  semSignalWord (⟨k0_dev5 d0, k0_dev5_lt d0⟩ : Dev nD) (sig.barrier 0 rfl) 1#32
  semWaitWord (sig.barrier 0 rfl) 5#32
  let x : Vec F S1x256x1024 .bf16 ← Prog.lift (.load arg0 (Rect.unit (s := S1x256x1024) ![0, 0, 0] S1x256x1024.size
    inb_S1x256x1024_S1x256x1024_0_0_0).toLoadRect (View.loadsAt_vmem h_S1x256x1024))
  let wq : Vec F S1024x1024 .bf16 ← Prog.lift (.load arg1 (Rect.unit (s := S1024x1024) ![0, 0] S1024x1024.size
    inb_S1024x1024_S1024x1024_0_0).toLoadRect (View.loadsAt_vmem h_S1024x1024))
  let kk : Vec F S1x4096x2x128 .bf16 ← Prog.lift (.load arg3 (Rect.unit (s := S1x4096x2x128) ![0, 0, 0, 0] S1x4096x2x128.size
    inb_S1x4096x2x128_S1x4096x2x128_0_0_0_0).toLoadRect (View.loadsAt_vmem h_S1x4096x2x128))
  let vv : Vec F S1x4096x2x128 .bf16 ← Prog.lift (.load arg4 (Rect.unit (s := S1x4096x2x128) ![0, 0, 0, 0] S1x4096x2x128.size
    inb_S1x4096x2x128_S1x4096x2x128_0_0_0_0).toLoadRect (View.loadsAt_vmem h_S1x4096x2x128))
  attend arg6 arg7 (queries x wq) (shapeCast S4096x2x128 kk shapeCasts_S1x4096x2x128_S4096x2x128)
    (shapeCast S4096x2x128 vv shapeCasts_S1x4096x2x128_S4096x2x128)
  let _ ← firstRounds arg6 arg7 arg8 harg8 arg9 harg9 arg10 arg13 arg14 arg15 arg16 d0
  let v ← middleRounds arg6 arg7 arg8 harg8 arg9 harg9 arg10 arg13 arg14 arg15 arg16 d0
  lastRound arg6 arg7 arg8 harg8 arg9 harg9 arg10 arg13 arg14 arg15 arg16 geo4 ⟨k0_dev22 d0, k0_dev22_lt d0⟩ ⟨k0_dev23 d0, k0_dev23_lt d0⟩ v.2
  project arg2 arg6 arg11 harg11 arg12 harg12 arg19 (k0_off1 d0) (k0_off1_inb d0) (k0_off1_wordsbf16 d0)
  agStep arg12 harg12 arg17 arg18 1 (by omega) (k0_off1 d0) (k0_off2 d0) (k0_off1_inb d0) (k0_off2_inb d0)
    (k0_off1_wordsbf16 d0) (k0_off2_wordsbf16 d0) ⟨k0_dev24 d0, k0_dev24_lt d0⟩
  agStep arg12 harg12 arg17 arg18 2 (by omega) (k0_off3 d0) (k0_off4 d0) (k0_off3_inb d0) (k0_off4_inb d0)
    (k0_off3_wordsbf16 d0) (k0_off4_wordsbf16 d0) ⟨k0_dev25 d0, k0_dev25_lt d0⟩
  agStep arg12 harg12 arg17 arg18 3 (by omega) (k0_off5 d0) (k0_off6 d0) (k0_off5_inb d0) (k0_off6_inb d0)
    (k0_off5_wordsbf16 d0) (k0_off6_wordsbf16 d0) ⟨k0_dev26 d0, k0_dev26_lt d0⟩
  agStep arg12 harg12 arg17 arg18 4 (by omega) (k0_off7 d0) (k0_off8 d0) (k0_off7_inb d0) (k0_off8_inb d0)
    (k0_off7_wordsbf16 d0) (k0_off8_wordsbf16 d0) ⟨k0_dev27 d0, k0_dev27_lt d0⟩
  emitOut arg5 arg12

set_option maxRecDepth 65536 in
set_option maxHeartbeats 0 in
/-- The printed body is the named programs in sequence: by definitional unfolding. -/
theorem cc0_body_eq_canon : cc0_body (F := F) = canonBody (F := F) := rfl

end Cert.KernelIdeal.Flash
-- ==== Proof.Flash.Spec.lean ====
/- What every device holds at every stage, as functions of all devices' inputs: the partial softmax
   results before each round of the butterfly, the rows a device keeps, the output rows it computes, and
   the gathered output. Rows are numbered by their place among the 256 rows of the whole. -/
module

public import proofs.«01_k».proof.Proof.Flash.CanonBody
public import proofs.«01_k».proof.Proof.Flash.Merge

@[expose] public section

noncomputable section

namespace Cert.KernelIdeal.Flash

open Idealize.ShloMosaic Cert.KernelIdeal Cert.KernelIdeal.Gen

/-- The device whose number differs from `c`'s in bit `b`. -/
def par (b : Fin 5) (c : Dev nD) : Dev nD :=
  ⟨c.val ^^^ 2 ^ b.val, Nat.xor_lt_two_pow (n := 5) c.isLt (Nat.pow_lt_pow_right (by omega) b.isLt)⟩

theorem par_par (b : Fin 5) (c : Dev nD) : par b (par b c) = c :=
  Fin.ext (by show (c.val ^^^ 2 ^ b.val) ^^^ 2 ^ b.val = c.val; rw [Nat.xor_assoc, Nat.xor_self, Nat.xor_zero])

/-- The rows exchanged in round `k`. -/
def nr (k : ℕ) : ℕ := 2 ^ (7 - min k 3)
/-- The bit that pairs devices in round `k`. -/
def rb (k : ℕ) : Fin 5 := ⟨4 - k, by omega⟩
/-- Round `k` lets device `c` keep the upper half. -/
def upper (k : ℕ) (c : Dev nD) : Bool := decide (k < 4) && c.val.testBit (4 - k)
/-- The first row, among those held before round `k`, of the half sent. -/
def soffF (k : ℕ) (c : Dev nD) : ℕ := if k < 4 then (if upper k c then 0 else nr k) else 0
/-- The first row of the half kept. -/
def koffF (k : ℕ) (c : Dev nD) : ℕ := if upper k c then nr k else 0
/-- The number among all rows of the first row held before round `k`. -/
def base : ℕ → Dev nD → ℕ
  | 0, _ => 0
  | k + 1, c => base k c + koffF k c

/-- Each round's row counts and places fit its buffers. -/
theorem geo (k : Fin 5) (c : Dev nD) : Geo (nr k) k (soffF k c) (koffF k c) := by
  match k with
  | ⟨0, _⟩ =>
    unfold soffF koffF; cases h : upper 0 c
    · exact geo0z
    · exact geo0o
  | ⟨1, _⟩ =>
    unfold soffF koffF; cases h : upper 1 c
    · exact geo1z
    · exact geo1o
  | ⟨2, _⟩ =>
    unfold soffF koffF; cases h : upper 2 c
    · exact geo2z
    · exact geo2o
  | ⟨3, _⟩ =>
    unfold soffF koffF; cases h : upper 3 c
    · exact geo3z
    · exact geo3o
  | ⟨4, _⟩ => exact geo4

/-- The rows a device's partner sends are the rows the device keeps. -/
theorem sent_kept (k : Fin 5) (c : Dev nD) :
    base k (par (rb k) c) + soffF k (par (rb k) c) = base (k + 1) c := by
  revert k c; decide

/-- The rows of the gathered output that device `c` holds before step `k` are `2^k · 8` from this one. -/
def blk (k : ℕ) (c : Dev nD) : ℕ := c.val / 2 ^ k * 2 ^ k * 8
/-- How many they are. -/
def agN (k : ℕ) : ℕ := 8 * 2 ^ k

theorem blk_le (k : Fin 5) (c : Dev nD) : blk k c + agN k ≤ 256 := by revert k c; decide

variable (F : FTy → Type) [FloatOps F]

/-- Every device's inputs. -/
structure Ins where
  x : Dev nD → Vec F S1x256x1024 .bf16
  wq : Dev nD → Vec F S1024x1024 .bf16
  wo : Dev nD → Vec F S1024x1024 .bf16
  kk : Dev nD → Vec F S1x4096x2x128 .bf16
  vv : Dev nD → Vec F S1x4096x2x128 .bf16

variable {F}

/-- One row of the local attention's numerators, at column `j`. -/
def attRow (q : FVec F S256x1024 .f32) (kk vv : FVec F S4096x2x128 .bf16) (r j : ℕ) : F .f32 :=
  attO q kk vv (j / 128 % 8) (by omega) (ix2 ⟨r % 256, by omega⟩ ⟨j % 128, by omega⟩)

/-- One row of its maxima and denominators. -/
def attRowML (q : FVec F S256x1024 .f32) (kk : FVec F S4096x2x128 .bf16) (r j : ℕ) : F .f32 :=
  if j < 8 then attM q kk (j % 8) (by omega) (ix2 ⟨r % 256, by omega⟩ 0)
  else attL q kk (j % 8) (by omega) (ix2 ⟨r % 256, by omega⟩ 0)

namespace Ins
variable (I : Ins F)

/-- Device `c`'s queries. -/
def q (c : Dev nD) : FVec F S256x1024 .f32 := queries (I.x c) (I.wq c)
/-- Its keys. -/
def keys (c : Dev nD) : FVec F S4096x2x128 .bf16 := shapeCast S4096x2x128 (I.kk c) shapeCasts_S1x4096x2x128_S4096x2x128
/-- Its values. -/
def vals (c : Dev nD) : FVec F S4096x2x128 .bf16 := shapeCast S4096x2x128 (I.vv c) shapeCasts_S1x4096x2x128_S4096x2x128

/-- The numerators, and the maxima with the denominators, that device `c` holds before round `k`. -/
def st : ℕ → Dev nD → (ℕ → ℕ → F .f32) × (ℕ → ℕ → F .f32)
  | 0, c => (attRow (I.q c) (I.keys c) (I.vals c), attRowML (I.q c) (I.keys c))
  | k + 1, c =>
    (fun r => mergeO ((st k c).1 r) (fun j => FloatOps.truncf .bf16 bitsLt_bf16_f32 ((st k (par (rb k) c)).1 r j))
        ((st k c).2 r) ((st k (par (rb k) c)).2 r),
      fun r => mergeML ((st k c).2 r) ((st k (par (rb k) c)).2 r))

/-- The numerators. -/
def O (k : ℕ) (c : Dev nD) : ℕ → ℕ → F .f32 := (I.st k c).1
/-- The numerators rounded for sending. -/
def R (k : ℕ) (c : Dev nD) (r j : ℕ) : F .bf16 := FloatOps.truncf .bf16 bitsLt_bf16_f32 (I.O k c r j)
/-- The maxima and denominators. -/
def ML (k : ℕ) (c : Dev nD) : ℕ → ℕ → F .f32 := (I.st k c).2
/-- The last round's quotients. -/
def D (c : Dev nD) (r : ℕ) : ℕ → F .f32 :=
  mergeD (I.O 4 c r) (I.R 4 (par (rb 4) c) r) (I.ML 4 c r) (I.ML 4 (par (rb 4) c) r)

theorem O_succ (k : ℕ) (c : Dev nD) (r : ℕ) :
    I.O (k + 1) c r = mergeO (I.O k c r) (I.R k (par (rb k) c) r) (I.ML k c r) (I.ML k (par (rb k) c) r) := rfl
theorem ML_succ (k : ℕ) (c : Dev nD) (r : ℕ) : I.ML (k + 1) c r = mergeML (I.ML k c r) (I.ML k (par (rb k) c) r) := rfl

/-- The sixteen output rows device `c` computes. -/
def Y (c : Dev nD) : FVec F S16x1024 .bf16 :=
  yOwn (fun x => I.D c (base 4 c + (x 0).val) (x 1).val) (I.wo c)

/-- The gathered output on device `c`: rows `16 e` to `16 e + 15` were computed by device `2 e` or `2 e + 1`,
    whichever has `c`'s parity. -/
def ytot (c : Dev nD) : (Sh2 256 1024).Idx → F .bf16 := fun x =>
  I.Y ⟨2 * ((x 0).val / 16) + c.val % 2, by have h : (x 0).val < 256 := (x 0).isLt; show _ < 32; omega⟩
    (ix2 ⟨(x 0).val % 16, by omega⟩ (x 1))

/-- What the numerators' landing buffer holds once every round's rows have arrived. -/
def landBufO (c : Dev nD) : (Sh3 5 128 1024).Idx → F .bf16 := fun x =>
  I.R (x 0).val (par (rb (x 0).val) c) (base ((x 0).val + 1) c + (x 1).val) (x 2).val
/-- The same for the maxima and denominators. -/
def landBufML (c : Dev nD) : (Sh3 5 128 16).Idx → F .f32 := fun x =>
  I.ML (x 0).val (par (rb (x 0).val) c) (base ((x 0).val + 1) c + (x 1).val) (x 2).val

/-- Device `c`'s result. -/
def out (c : Dev nD) : FVec F S1x256x1024 .f32 :=
  shapeCast S1x256x1024 (extf .f32 (I.ytot c : FVec F S256x1024 .bf16) bitsLt_bf16_f32) shapeCasts_S256x1024_S1x256x1024

end Ins

end Cert.KernelIdeal.Flash
-- ==== Proof.Flash.Protocol.lean ====
/- The protocol between the devices: the semaphore cells, what each delivers, what every device owes the
   others in the order it pays, and the levels by which no wait can be circular. -/
module

public import proofs.«01_k».proof.Proof.Flash.Base
public import proofs.«01_k».proof.Proof.Flash.Spec

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers and their parts -/

abbrev A6 : Memref sig .tc .vmem S256x1024 .f32 := Memref.whole cc0_scratch0
abbrev A7 : Memref sig .tc .vmem S256x16 .f32 := Memref.whole cc0_scratch1
abbrev A8 : Memref sig .tc .vmem S128x1024 .bf16 := Memref.whole cc0_scratch2
abbrev A9 : Memref sig .tc .vmem S5x128x1024 .bf16 := Memref.whole cc0_scratch3
abbrev A10 : Memref sig .tc .vmem S5x128x16 .f32 := Memref.whole cc0_scratch4
abbrev A11 : Memref sig .tc .vmem S16x1024 .bf16 := Memref.whole cc0_scratch5
abbrev A12 : Memref sig .tc .vmem S256x1024 .bf16 := Memref.whole cc0_scratch6

/-- Where round `k`'s numerators land. -/
abbrev LO (k : Fin 5) : Memref sig .tc .vmem (Sh2 (nr k) 1024) .bf16 := landO A9 (geo k 0)
/-- Where round `k`'s maxima and denominators land. -/
abbrev LM (k : Fin 5) : Memref sig .tc .vmem (Sh2 (nr k) 16) .f32 := landML A10 (geo k 0)
/-- Where round `k`'s numerators are sent from. -/
abbrev SO (k : Fin 5) : Memref sig .tc .vmem (Sh2 (nr k) 1024) .bf16 := srcO A8 (geo k 0)
/-- Where round `k`'s maxima and denominators are sent from. -/
abbrev SM (k : Fin 5) (c : Dev nD) : Memref sig .tc .vmem (Sh2 (nr k) 16) .f32 := srcML A7 (geo k c)

theorem blk_inb (k : Fin 5) (c : Dev nD) : ∀ a, (![blk k c, 0] : Fin 2 → ℕ) a + (Sh2 (agN k) 1024).size a ≤ S256x1024.size a :=
  inb2 (blk_le k c) (by omega)

/-- The rows of the gathered output that device `c` holds before step `k`. -/
abbrev YV (k : Fin 5) (c : Dev nD) : Memref sig .tc .vmem (Sh2 (agN k) 1024) .bf16 := yRows A12 ![blk k c, 0] (blk_inb k c)

/-- Round `k`'s landing rows of numerators on device `c`. -/
def onLO (k : Fin 5) (c : Dev nD) (f : Buf (Elt F) ((LO k).view.loc (c : Thread nD τ))) : sProp 𝕄 :=
  (LO k).view.loc (c : Thread nD τ) ↦[(LO k).view.set]{fullShare} f
/-- Round `k`'s landing rows of maxima and denominators on device `c`. -/
def onLM (k : Fin 5) (c : Dev nD) (f : Buf (Elt F) ((LM k).view.loc (c : Thread nD τ))) : sProp 𝕄 :=
  (LM k).view.loc (c : Thread nD τ) ↦[(LM k).view.set]{fullShare} f
/-- On device `c`, the output rows that device `e` holds before step `k`. -/
def onY (k : Fin 5) (e c : Dev nD) (q : PosShare TreeShare) (f : Buf (Elt F) ((YV k e).view.loc (c : Thread nD τ))) : sProp 𝕄 :=
  (YV k e).view.loc (c : Thread nD τ) ↦[(YV k e).view.set]{q} f

instance onLO_storable (k : Fin 5) (c : Dev nD) (f) : BI.Storable (upEmb : UEmb _ 𝕄) (onLO (F := F) k c f) := by
  unfold onLO; infer_instance
instance onLM_storable (k : Fin 5) (c : Dev nD) (f) : BI.Storable (upEmb : UEmb _ 𝕄) (onLM (F := F) k c f) := by
  unfold onLM; infer_instance
instance onY_storable (k : Fin 5) (e c : Dev nD) (q) (f) : BI.Storable (upEmb : UEmb _ 𝕄) (onY (F := F) k e c q f) := by
  unfold onY; infer_instance

/-! ## Cells -/

/-- A transfer's cell: which of the three kinds of transfer, whether the receiver's, which round. -/
abbrev XI : Type := Fin 3 × Bool × Fin 5

/-- Its semaphore. -/
def xs (x : XI) : DmaSem sig := ⟨6 + (10 * x.1.val + (if x.2.1 then 5 else 0) + x.2.2.val), by
  have h1 := x.1.isLt; have h2 := x.2.2.isLt; show _ < 37; split <;> omega⟩

/-- The transfer a semaphore belongs to. -/
def decodeX (q : DmaSem sig) : Option XI :=
  if h : 6 ≤ q.val ∧ q.val < 36 then
    some (⟨(q.val - 6) / 10, by omega⟩, decide (5 ≤ (q.val - 6) % 10), ⟨(q.val - 6) % 5, by omega⟩)
  else none

set_option maxRecDepth 4000 in
theorem decode_xs (x : XI) : decodeX (xs x) = some x := by
  revert x; decide

theorem xs_inj {x y : XI} (h : xs x = xs y) : x = y := by
  have := congrArg decodeX h; rw [decode_xs, decode_xs] at this; exact Option.some.inj this

/-- The gather has no step 0. -/
def live (x : XI) : Bool := !(decide (x.1 = 2) && decide (x.2.2 = 0))

abbrev barS : Sem sig := sig.barrier 0 rfl
/-- A device's barrier cell. -/
abbrev bc (c : Dev nD) : GSem nD τ sig := ((c : Thread nD τ), .reg barS)
/-- A device's transfer cell. -/
abbrev xc (c : Dev nD) (x : XI) : GSem nD τ sig := ((c : Thread nD τ), .dma (xs x))
/-- The semaphore of the copies inside a device. -/
abbrev cpS : DmaSem sig := (cc0_scratch13 : DmaSems sig S_).sem
/-- Its cell. -/
abbrev cc (c : Dev nD) : GSem nD τ sig := ((c : Thread nD τ), .dma cpS)

theorem decode_cp : decodeX cpS = none := by decide

theorem xs0 (k : Fin 5) (b : Bool) (h : k.val < 5) :
    semAt (if b then cc0_scratch8 else cc0_scratch7 : DmaSems sig S5) k.val h = xs (0, b, k) := by
  revert k b; decide
theorem xs1 (k : Fin 5) (b : Bool) (h : k.val < 5) :
    semAt (if b then cc0_scratch10 else cc0_scratch9 : DmaSems sig S5) k.val h = xs (1, b, k) := by
  revert k b; decide
theorem xs2 (k : Fin 5) (b : Bool) (h : k.val < 5) :
    semAt (if b then cc0_scratch12 else cc0_scratch11 : DmaSems sig S5) k.val h = xs (2, b, k) := by
  revert k b; decide

/-- The bit that pairs the two devices of a transfer. -/
def pb (a : Fin 3) (k : Fin 5) : Fin 5 := if a = 2 then k else rb k

/-- The units a transfer credits. -/
def amt (x : XI) : ℕ := match x.1 with
  | 0 => (LO x.2.2).view.dmaCredit
  | 1 => (LM x.2.2).view.dmaCredit
  | 2 => (YV x.2.2 0).view.dmaCredit

theorem nr_pos (k : ℕ) : 0 < nr k := Nat.two_pow_pos _
theorem agN_pos (k : ℕ) : 0 < agN k := Nat.mul_pos (by omega) (Nat.two_pow_pos _)

theorem amt_pos (x : XI) : 0 < amt x := by
  obtain ⟨a, b, k⟩ := x
  match a with
  | 0 => exact View.dmaCredit_pos _ (numel2_pos (nr_pos _) (by omega))
  | 1 => exact View.dmaCredit_pos _ (numel2_pos (nr_pos _) (by omega))
  | 2 => exact View.dmaCredit_pos _ (numel2_pos (agN_pos _) (by omega))

/-! ## What the cells deliver -/

variable (I : Ins F)

/-- The sender's half share comes back. -/
def sendPay (a : Fin 3) (k : Fin 5) (c : Dev nD) : sProp 𝕄 := match a with
  | 0 => iprop(∃ f : Buf (Elt F) ((SO k).view.loc (c : Thread nD τ)),
      (SO k).view.loc (c : Thread nD τ) ↦[(SO k).view.set]{fullShare.right} f)
  | 1 => iprop(∃ f : Buf (Elt F) ((SM k c).view.loc (c : Thread nD τ)),
      (SM k c).view.loc (c : Thread nD τ) ↦[(SM k c).view.set]{fullShare.right} f)
  | 2 => iprop(∃ f, onY (F := F) k c c fullShare.right f)

/-- The receiver's rows come filled with the partner's. -/
def recvPay (a : Fin 3) (k : Fin 5) (c : Dev nD) : sProp 𝕄 := match a with
  | 0 => onLO k c (I.landBufO c)
  | 1 => onLM k c (I.landBufML c)
  | 2 => onY k (par k c) c fullShare (I.ytot c)

/-- What the device `p` gives a partner over bit `b` to write into. -/
def room (b : Fin 5) (p : Dev nD) : sProp 𝕄 :=
  iprop((∃ f, onLO (F := F) (rb b) p f) ∗ (∃ f, onLM (F := F) (rb b) p f)
    ∗ if b = 0 then iprop(emp) else iprop(∃ f, onY (F := F) b (par b p) p fullShare f))

def xPay (x : XI) (c : Dev nD) : sProp 𝕄 := if x.2.1 then recvPay I x.1 x.2.2 c else sendPay x.1 x.2.2 c

/-- The units the copy of a device's own output rows credits. -/
def cpN : ℕ := (YV 1 0).view.dmaCredit
theorem cpN_pos : 0 < cpN := View.dmaCredit_pos _ (numel2_pos (agN_pos _) (by omega))
/-- What that copy delivers: the rows in their place, and the buffer they came from. -/
def cpPay (c : Dev nD) : sProp 𝕄 :=
  iprop(onY 1 c c fullShare (I.ytot c) ∗ ∃ f : Buf (Elt F) (A11.view.loc (c : Thread nD τ)), A11.view.loc (c : Thread nD τ) ↦[A11.view.set]{fullShare} f)

/-- The cells' one round: a barrier has a duty per bit, of one unit; a transfer's cell the duty 0 of its credit. -/
def sched : Rounds.Schedule (GSem nD τ sig) (Fin 5) 𝕄 where
  duties g r := if r = 0 ∧ g.1.2 = .tc then
      (match g.2 with
        | .reg s => if s = barS then Finset.univ else ∅
        | .dma q => match decodeX q with
          | some x => if live x then {0} else ∅
          | none => if q = cpS then {0} else ∅)
    else ∅
  unitless _ := False
  amount g _ _ := match g.2 with
    | .reg s => 1
    | .dma q => match decodeX q with
      | some x => amt x
      | none => cpN
  payload g _ d := match g.2 with
    | .reg s => room d (par d g.1.1)
    | .dma q => match decodeX q with
      | some x => xPay I x g.1.1
      | none => cpPay I g.1.1
  amount_pos g _ _ _ := by
    split
    · exact Nat.one_pos
    · split
      · exact amt_pos _
      · exact cpN_pos

instance sched_payload_storable (g : GSem nD τ sig) (r : ℕ) (d : Fin 5) :
    BI.Storable (upEmb : UEmb _ 𝕄) ((sched I).payload g r d) := by
  show BI.Storable upEmb (match g.2 with
    | .reg s => room d (par d g.1.1)
    | .dma q => match decodeX q with
      | some x => xPay I x g.1.1
      | none => cpPay I g.1.1)
  unfold xPay recvPay sendPay room cpPay
  (repeat' split) <;> infer_instance

section Sched
variable (c : Dev nD)

theorem duties_bar : (sched I).duties (bc c) 0 = Finset.univ := by
  dsimp only [sched]; rw [if_pos ⟨rfl, rfl⟩, if_pos rfl]
theorem duties_x (x : XI) (h : live x = true) : (sched I).duties (xc c x) 0 = {0} := by
  dsimp only [sched]; rw [if_pos ⟨rfl, rfl⟩, decode_xs]; exact if_pos h
theorem duties_dead (x : XI) (h : live x = false) (r : ℕ) : (sched I).duties (xc c x) r = ∅ := by
  dsimp only [sched]; split
  · rw [decode_xs]; dsimp only; rw [h]; rfl
  · rfl
theorem duties_cp : (sched I).duties (cc c) 0 = {0} := by
  dsimp only [sched]; rw [if_pos ⟨rfl, rfl⟩, decode_cp]; exact if_pos rfl
theorem duties_later (g : GSem nD τ sig) : ∀ r, 1 ≤ r → (sched I).duties g r = ∅ :=
  fun r hr => by dsimp only [sched]; rw [if_neg fun h => by omega]

theorem amount_bar (d : Fin 5) : (sched I).amount (bc c) 0 d = 1 := rfl
theorem amount_x (x : XI) (d : Fin 5) : (sched I).amount (xc c x) 0 d = amt x := by
  dsimp only [sched]; rw [decode_xs]
theorem expect_bar : (sched I).expect (bc c) 0 = 5 := by
  unfold Schedule.expect Schedule.amountOf
  rw [duties_bar, Finset.sum_congr rfl fun d _ => amount_bar I c d]; rfl
theorem expect_x (x : XI) (h : live x = true) : (sched I).expect (xc c x) 0 = amt x := by
  unfold Schedule.expect Schedule.amountOf; rw [duties_x I c x h, Finset.sum_singleton, amount_x]

theorem amount_cp (d : Fin 5) : (sched I).amount (cc c) 0 d = cpN := by
  dsimp only [sched]; rw [decode_cp]
theorem expect_cp : (sched I).expect (cc c) 0 = cpN := by
  unfold Schedule.expect Schedule.amountOf; rw [duties_cp I c, Finset.sum_singleton, amount_cp]
theorem payload_cp (d : Fin 5) : (sched I).payload (cc c) 0 d = cpPay I c := by
  dsimp only [sched]; rw [decode_cp]
theorem rest_cp : bigSep ((sched I).duties (cc c) 0 \ ∅) (fun d => (sched I).payload (cc c) 0 d) = cpPay I c := by
  rw [Finset.sdiff_empty, duties_cp I c, bigSep_singleton, payload_cp]

theorem payload_bar (d : Fin 5) : (sched I).payload (bc c) 0 d = room d (par d c) := rfl
theorem payload_x (x : XI) (d : Fin 5) : (sched I).payload (xc c x) 0 d = xPay I x c := by
  dsimp only [sched]; rw [decode_xs]

theorem rest_bar : bigSep ((sched I).duties (bc c) 0 \ ∅) (fun d => (sched I).payload (bc c) 0 d)
    = (bigSep Finset.univ fun d => room (F := F) d (par d c)) := by
  rw [Finset.sdiff_empty, duties_bar]; rfl
theorem rest_x (x : XI) (h : live x = true) :
    bigSep ((sched I).duties (xc c x) 0 \ ∅) (fun d => (sched I).payload (xc c x) 0 d) = xPay I x c := by
  rw [Finset.sdiff_empty, duties_x I c x h, bigSep_singleton, payload_x]

end Sched

/-! ## What is owed, in the order it is paid -/

/-- The cell of the `s`-th payment of device `c`: five barrier units, the rounds' two transfers each, the gather's four. -/
def dueCell (c : Dev nD) (s : ℕ) : GSem nD τ sig :=
  if h : s < 5 then bc (par ⟨s, h⟩ c)
  else if h : s < 15 then
    (if s % 2 = 1 then xc (par (rb ((s - 5) / 2)) c) (0, true, ⟨(s - 5) / 2, by omega⟩)
      else xc (par (rb ((s - 5) / 2)) c) (1, true, ⟨(s - 5) / 2, by omega⟩))
  else xc (par ⟨(s - 14) % 5, Nat.mod_lt _ (by omega)⟩ c) (2, true, ⟨(s - 14) % 5, Nat.mod_lt _ (by omega)⟩)

/-- Its units. -/
def dueAmt (s : ℕ) : ℕ :=
  if h : s < 5 then 1
  else if h : s < 15 then
    (if s % 2 = 1 then amt (0, true, ⟨(s - 5) / 2, by omega⟩) else amt (1, true, ⟨(s - 5) / 2, by omega⟩))
  else amt (2, true, ⟨(s - 14) % 5, Nat.mod_lt _ (by omega)⟩)

/-- What device `c` owes with `n` payments to go, of the nineteen. -/
def owed (c : Dev nD) : ℕ → CellTallies nD τ sig Unit
  | 0 => 0
  | n + 1 => owed c n + tallyAt (dueCell c (18 - n)) () (dueAmt (18 - n))

theorem owed_pos {c : Dev nD} {n : ℕ} {g : GSem nD τ sig} {u : Unit} (h : 0 < owed c n g u) (hn : n ≤ 19) :
    ∃ s, 19 - n ≤ s ∧ s < 19 ∧ g = dueCell c s := by
  induction n with
  | zero => exact absurd h (lt_irrefl 0)
  | succ n ih =>
    rw [owed, Pi.add_apply, Finsupp.add_apply] at h
    by_cases hz : 0 < owed c n g u
    · obtain ⟨s, h1, h2, h3⟩ := ih hz (by omega)
      exact ⟨s, by omega, h2, h3⟩
    · have h' : 0 < tallyAt (dueCell c (18 - n)) () (dueAmt (18 - n)) g u := by omega
      rw [tallyAt_apply] at h'
      by_cases hg : g = dueCell c (18 - n) ∧ u = ()
      · exact ⟨18 - n, by omega, by omega, hg.1⟩
      · rw [if_neg hg] at h'; exact absurd h' (lt_irrefl 0)

def L (g : GSem nD τ sig) : Finset Unit := if g.1.2 = .tc then {()} else ∅
/-- Barriers at 1, the receivers' cells above them in the order of their rounds, everything else at 0. -/
def lv (g : GSem nD τ sig) (_ : Unit) : ℕ := match g.2 with
  | .reg _ => 1
  | .dma q => match decodeX q with
    | some x => if x.2.1 then (if x.1 = 2 then 7 + x.2.2.val else 2 + x.2.2.val) else 0
    | none => 0

theorem L_of_ne (g : GSem nD τ sig) (h : g.1.2 ≠ .tc) : L g = ∅ := if_neg h
theorem L_tc (c : Dev nD) (sm : SemLoc sig) : L ((c : Thread nD τ), sm) = {()} := if_pos rfl

theorem lv_x (c : Dev nD) (x : XI) : lv (xc c x) () = if x.2.1 then (if x.1 = 2 then 7 + x.2.2.val else 2 + x.2.2.val) else 0 := by
  dsimp only [lv]; rw [decode_xs]

/-- The level of the `s`-th payment's cell. -/
def dueLv (s : ℕ) : ℕ := if s < 5 then 1 else if s < 15 then 2 + (s - 5) / 2 else 7 + (s - 14) % 5

theorem lv_due (c : Dev nD) (s : ℕ) : lv (dueCell c s) () = dueLv s := by
  unfold dueCell dueLv
  split
  · rfl
  · split
    · split <;> (rw [lv_x]; rfl)
    · rw [lv_x]; rfl
theorem L_due (c : Dev nD) (s : ℕ) : L (dueCell c s) = {()} := by
  unfold dueCell
  split
  · rfl
  · split
    · split <;> rfl
    · rfl

/-- A wait whose cell lies below everything still owed may go on. -/
theorem mayWait (c : Dev nD) (sm : SemLoc sig) (n : ℕ) (hn : n ≤ 19)
    (hl : ∀ s, 19 - n ≤ s → s < 19 → lv ((c : Thread nD τ), sm) () < dueLv s) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by obtain ⟨s, -, -, rfl⟩ := owed_pos hg hn; rw [L_due]; exact Finset.mem_singleton_self _)
    (fun p hp => by rw [Finset.mem_singleton.mp hp])
    (fun g u hg => by obtain ⟨s, h1, h2, rfl⟩ := owed_pos hg hn; rw [lv_due]; exact hl s h1 h2)

end Cert.KernelIdeal.Flash
-- ==== Proof.Flash.Comm.lean ====
/- The communication steps at any transfer: a copy to the partner, the wait for a cell, and the barrier.
   Each step opens the cell's shared record and pays or collects what the schedule says. -/
module

public import proofs.«01_k».proof.Proof.Flash.Protocol

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rows held in halves -/

/-- Rows written over, when what was written is what other contents show there. -/
theorem pts_written (c : Dev nD) {s : Shape} {e : EltTy} {cs : CoreSpace} (m : Memref sig .tc cs s e) {q : PosShare TreeShare}
    (f f' : Buf (Elt F) (m.view.loc (c : Thread nD τ))) (w : s.Idx → Elt F e) (h : m.view.read (Elt F) f' = w) :
    (m.view.loc (c : Thread nD τ) ↦[m.view.set]{q} (m.view.write (Elt F) f w Finset.univ) : sProp 𝕄)
      = (m.view.loc (c : Thread nD τ) ↦[m.view.set]{q} f') :=
  pointsTo_congr fun i hi => by
    subst h
    rw [View.write_read_eq_piecewise]
    exact Finset.piecewise_eq_of_mem _ _ _ hi

/-- A whole buffer with the right half of some elements lent out. -/
def lent {ℓ : Loc nD τ sig} (S : Finset (Idx ℓ)) (f : Buf (Elt F) ℓ) : sProp 𝕄 :=
  iprop((ℓ ↦[S]{fullShare.left} f) ∗ ℓ ↦[Finset.univ \ S]{fullShare} f)

/-- Half of some elements of a whole buffer is lent. -/
theorem lend {ℓ : Loc nD τ sig} (S : Finset (Idx ℓ)) (f : Buf (Elt F) ℓ) :
    (ℓ ↦{fullShare} f : sProp 𝕄) ⊢ iprop(lent S f ∗ ℓ ↦[S]{fullShare.right} f) := by
  unfold lent
  iintro H
  ihave H := (pointsTo_split_subset (Finset.subset_univ S)).1 $$ H
  icases H with ⟨H1, H2⟩
  ihave H1 := (pointsTo_share (PosShare.mem_left_op_right fullShare)).1 $$ H1
  icases H1 with ⟨Ha, Hb⟩
  isplitr [Hb]
  · isplitl [Ha] <;> iassumption
  iexact Hb

/-- The two halves of the same elements make them whole again, at the contents of the one kept. -/
theorem rejoin {ℓ : Loc nD τ sig} (S : Finset (Idx ℓ)) (f g : Buf (Elt F) ℓ) :
    iprop((ℓ ↦[S]{fullShare.left} f) ∗ ℓ ↦[S]{fullShare.right} g) ⊢ (ℓ ↦[S]{fullShare} f : sProp 𝕄) := by
  iintro ⟨Ha, Hb⟩
  ihave H := (persistent_entails_right (pointsTo_agree (q₁ := fullShare.left) (q₂ := fullShare.right) (f := f) (g := g) (I := S) (J := S))) $$ [Ha Hb]
  · isplitl [Ha] <;> iassumption
  icases H with ⟨%h, Ha, Hb⟩
  iapply (pointsTo_share (PosShare.mem_left_op_right fullShare)).2
  isplitl [Ha]; · iexact Ha
  iapply (Entails.of_eq (pointsTo_congr fun i hi => ((h i (Finset.mem_inter.mpr ⟨hi, hi⟩)).1.symm : g i = f i)))
  iexact Hb

/-- What was lent comes back. -/
theorem unlend {ℓ : Loc nD τ sig} (S : Finset (Idx ℓ)) (f g : Buf (Elt F) ℓ) :
    iprop(lent S f ∗ ℓ ↦[S]{fullShare.right} g) ⊢ (ℓ ↦{fullShare} f : sProp 𝕄) := by
  unfold lent
  iintro ⟨⟨Ha, Hc⟩, Hb⟩
  ihave H := (rejoin S f g) $$ [Ha Hb]
  · isplitl [Ha] <;> iassumption
  iapply (pointsTo_split_subset (Finset.subset_univ S)).2
  isplitl [H] <;> iassumption

/-! ## The shared records -/

/-- A device's cells in one list: the thirty transfers', the inner copies', the barrier's. -/
abbrev CI : Type := Fin 32
def csem (j : CI) : SemLoc sig := if h : j.val < 31 then .dma ⟨6 + j.val, by show _ < 37; omega⟩ else .reg barS
abbrev kcell (ck : Dev nD × CI) : GSem nD τ sig := ((ck.1 : Thread nD τ), csem ck.2)
/-- A transfer's place in the list. -/
def xj (x : XI) : CI := ⟨10 * x.1.val + (if x.2.1 then 5 else 0) + x.2.2.val, by
  have h1 := x.1.isLt; have h2 := x.2.2.isLt; split <;> omega⟩

theorem csem_xj (x : XI) : csem (xj x) = .dma (xs x) := by
  have h1 := x.1.isLt; have h2 := x.2.2.isLt
  exact dif_pos (by unfold xj; dsimp only; split <;> omega)
theorem kcell_xj (c : Dev nD) (x : XI) : kcell (c, xj x) = xc c x := Prod.ext rfl (csem_xj x)
theorem kcell_bar (c : Dev nD) : kcell (c, (31 : CI)) = bc c := rfl
theorem kcell_cp (c : Dev nD) : kcell (c, (30 : CI)) = cc c := rfl

variable (I : Ins F) (K : Dev nD × CI → ℕ)

/-- Every cell's record, and that its one round is open. -/
def records : sProp 𝕄 :=
  iprop((bigSep Finset.univ fun ck : Dev nD × CI => cellInv ER (sched I) (K ck) (kcell ck))
    ∗ (bigSep Finset.univ fun ck : Dev nD × CI => reached ER (kcell ck) 0) ∗ levAts L lv)

instance records_persistent : BI.Persistent (records I K) := by unfold records; infer_instance

theorem inv_at (ck : Dev nD × CI) : records I K ⊢ cellInv ER (sched I) (K ck) (kcell ck) := by
  unfold records
  exact sep_elim_left.trans (bigSep_elim (Finset.mem_univ ck))
theorem reached_at (ck : Dev nD × CI) : records I K ⊢ reached ER (kcell ck) 0 := by
  unfold records
  exact sep_elim_right.trans (sep_elim_left.trans (bigSep_elim (Finset.mem_univ ck)))
theorem wait_at (c : Dev nD) (sm : SemLoc sig) (n : ℕ) (hn : n ≤ 19)
    (hl : ∀ s, 19 - n ≤ s → s < 19 → lv ((c : Thread nD τ), sm) () < dueLv s) :
    records I K ⊢ MayWait (c : Thread nD τ) sm () (owed c n) := by
  unfold records
  exact sep_elim_right.trans (sep_elim_right.trans (mayWait c sm n hn hl))

theorem inv_x (c : Dev nD) (x : XI) : records I K ⊢ cellInv ER (sched I) (K (c, xj x)) (xc c x) := by
  rw [← kcell_xj]; exact inv_at I K (c, xj x)
theorem reached_x (c : Dev nD) (x : XI) : records I K ⊢ reached ER (xc c x) 0 := by
  rw [← kcell_xj]; exact reached_at I K (c, xj x)

/-- What device `c` still owes, whatever it has waited for. -/
def owesE (c : Dev nD) (n : ℕ) : sProp 𝕄 := iprop(∃ W, owes (c : Thread nD τ) (owed c n) W)

/-- What one transfer of device `c` needs: the two tokens it pays with, its two positions, its receiver's credit. -/
def Tx (a : Fin 3) (k : Fin 5) (c : Dev nD) : sProp 𝕄 :=
  iprop((dutyTok ER (xc c (a, false, k)) 0 0 ∗ dutyTok ER (xc (par (pb a k) c) (a, true, k)) 0 0)
    ∗ (atPos ER (xc c (a, false, k)) 0 ∅ 0 ∗ atPos ER (xc c (a, true, k)) 0 ∅ 0)
    ∗ cred (tallyAt (xc c (a, true, k)) () (amt (a, true, k))))

/-- What it leaves: both counters at zero. -/
def Dn (a : Fin 3) (k : Fin 5) (c : Dev nD) : sProp 𝕄 :=
  iprop(semVal (xc c (a, false, k)) 0 ∗ semVal (xc c (a, true, k)) 0)

/-! ## The steps -/

/-- A copy to the partner: the sender's half and the partner's rows go, the sender's credit comes. -/
theorem send_step {α : Type} {Q : α → sProp 𝕄} (c p : Dev nD) (a : Fin 3) (k : Fin 5) (n : ℕ) (hl : live (a, false, k) = true) (hp : p = par (pb a k) c)
    {s : Shape} {e : EltTy} {src : Memref sig .tc .vmem s e} {dst : Memref sig .tc .vmem s e}
    {sS sR : DmaSem sig} (hS : sS = xs (a, false, k)) (hR : sR = xs (a, true, k))
    {hsc : (dst : Memref sig (Dev.tc p : Thread nD τ).2.kind .vmem s e).view.ref.isScScratch = false}
    {hsrc : src.view.WordExact} {hdst : dst.view.WordExact}
    {hsem : DmaTarget.Typed .vmem (.dma sR) (.remote (Dev.tc p : Thread nD τ) dst (.dma sS) hsc)}
    {kk : PUnit → Prog (TpuEff nD τ sig (Elt F) Λ₀ .tc) α}
    {fs : Buf (Elt F) (src.view.loc (c : Thread nD τ))} {fd : Buf (Elt F) (dst.view.loc (p : Thread nD τ))}
    (hN : dst.view.dmaCredit = amt (a, true, k))
    (hdue : dueCell c (18 - n) = xc p (a, true, k)) (hdueA : dueAmt (18 - n) = amt (a, true, k))
    (hpay₁ : (src.view.loc (c : Thread nD τ) ↦[src.view.set]{fullShare.right} fs : sProp 𝕄) ⊢ sendPay a k c)
    (hpay₂ : (dst.view.loc (p : Thread nD τ) ↦[dst.view.set]{fullShare} (dst.view.write (Elt F) fd (src.view.read (Elt F) fs) Finset.univ) : sProp 𝕄)
      ⊢ recvPay I a k p) :
    iprop(records I K ∗ (src.view.loc (c : Thread nD τ) ↦[src.view.set]{fullShare.right} fs)
        ∗ (dst.view.loc (p : Thread nD τ) ↦[dst.view.set]{fullShare} fd) ∗ owesE c (n + 1)
        ∗ dutyTok ER (xc c (a, false, k)) 0 0 ∗ dutyTok ER (xc p (a, true, k)) 0 0)
      ⊢ iprop(((cred (tallyAt (xc c (a, false, k)) () (amt (a, false, k))) ∗ owesE c n) -∗ wpc c (kk ⟨⟩) Q)
        -∗ wpc c (.op (.enqueueDma src (.remote (Dev.tc p : Thread nD τ) dst (.dma sS) hsc) (.dma sR) hsrc hdst hsem) kk) Q) := by
  subst hS hR
  have hl' : live (a, true, k) = true := hl
  unfold owesE
  iintro ⟨#HR, Hs, Hd, ⟨%W, Ho⟩, Ht1, Ht2⟩ Hk
  have h1 : (0 : Fin 5) ∈ (sched I).duties (xc c (a, false, k)) 0 := by rw [duties_x I c _ hl]; exact Finset.mem_singleton_self _
  have h2 : (0 : Fin 5) ∈ (sched I).duties (xc p (a, true, k)) 0 := by rw [duties_x I p _ hl']; exact Finset.mem_singleton_self _
  have hO : owed c (n + 1) = owed c n + tallyAt (xc p (a, true, k)) () (amt (a, true, k)) := by rw [owed, hdue, hdueA]
  have hp1 : (src.view.loc (c : Thread nD τ) ↦[src.view.set]{fullShare.right} fs : sProp 𝕄) ⊢ (sched I).payload (xc c (a, false, k)) 0 0 := by
    rw [payload_x]; exact hpay₁
  have hp2 : (dst.view.loc (p : Thread nD τ) ↦[dst.view.set]{fullShare} (dst.view.write (Elt F) fd (src.view.read (Elt F) fs) Finset.univ) : sProp 𝕄)
      ⊢ (sched I).payload (xc p (a, true, k)) 0 0 := by
    rw [payload_x]; exact hpay₂
  have hA : amt (a, true, k) = amt (a, false, k) := rfl
  rw [← hA]
  iapply (Rounds.wp_send_pointsTo 𝒱₀ ER (sched I) (c : Thread nD τ) none (κ₁ := K (c, xj (a, false, k))) (κ₂ := K (p, xj (a, true, k)))
    (c' := (p : Thread nD τ)) (dst := dst) (sem := .dma (xs (a, true, k))) (r₁ := 0) (r₂ := 0) (d₁ := 0) (d₂ := 0) (fd := fd) (fs := fs) (q := fullShare.right)
    h1 h2 () () (amt (a, true, k)) hN (amount_x I c _ 0) (amount_x I p _ 0) (O₀ := owed c (n + 1)) (owed c n) hO (W := W) hp1 hp2) $$ [Hs Hd Ho Ht1 Ht2]
  · isplitr; · iapply (inv_x I K c (a, false, k)); iexact HR
    isplitr; · iapply (inv_x I K p (a, true, k)); iexact HR
    isplitl [Hs]; · iexact Hs
    isplitl [Hd]; · iexact Hd
    isplitl [Ho]; · iexact Ho
    isplitl [Ht1]; · iexact Ht1
    isplitr; · iapply (reached_x I K c (a, false, k)); iexact HR
    isplitl [Ht2]; · iexact Ht2
    iapply (reached_x I K p (a, true, k)); iexact HR
  iintro ⟨Hc, Ho⟩
  iapply Hk
  isplitl [Hc]; · iexact Hc
  iexists W; iexact Ho

/-- A wait for a transfer's cell: what it delivers comes, and its counter, at zero, is the device's again. -/
theorem wait_step {α : Type} {Q : α → sProp 𝕄} (c : Dev nD) (x : XI) (n : ℕ) (hl : live x = true) (hn : n ≤ 19)
    {sp sp' : Space} {s s' : Shape} {e e' : EltTy} {κ' : Kind} {src : Memref sig .tc sp' s' e'} {dst : Memref sig κ' sp s e}
    {sS : DmaSem sig} (hS : sS = xs x) {hsrc : src.view.WordExact} {hdst : dst.view.WordExact}
    {kk : PUnit → Prog (TpuEff nD τ sig (Elt F) Λ₀ .tc) α}
    (hN : dst.view.dmaCredit = amt x) (hlv : ∀ s, 19 - n ≤ s → s < 19 → lv (xc c x) () < dueLv s) :
    iprop(records I K ∗ cred (tallyAt (xc c x) () (amt x)) ∗ owesE c n ∗ atPos ER (xc c x) 0 ∅ 0)
      ⊢ iprop(((owesE c n ∗ semVal (xc c x) 0 ∗ xPay I x c) -∗ wpc c (kk ⟨⟩) Q)
        -∗ wpc c (.op (.waitDma2 sS src dst hsrc hdst) kk) Q) := by
  subst hS
  unfold owesE
  iintro ⟨#HR, Hc, ⟨%W, Ho⟩, Hat⟩ Hk
  rw [← hN]
  iapply (Rounds.wp_wait_rest_token 𝒱₀ ER (sched I) (c : Thread nD τ) none (κ := K (c, xj x))
      (wpE_waitDma2_eq 𝒱₀ (c : Thread nD τ) none Set.univ) (Set.mem_univ _) () (O := owed c n) (W := W) (R := 0) (m := 0) (T := ∅)
      (by rw [Nat.zero_add, expect_x I c x hl, hN])) $$ [Hc Ho Hat]
  · isplitr; · iapply (inv_x I K c x); iexact HR
    isplitl [Hc]; · iexact Hc
    isplitl [Ho]; · iexact Ho
    isplitr
    · iapply (wait_at I K c (.dma (xs x)) n hn hlv); iexact HR
    iexact Hat
  iintro ⟨Ho, Hat, -, Hpay⟩
  ihave Hp := (Entails.of_eq (rest_x I c x hl)) $$ Hpay
  imod (Rounds.cell_close ER (sched I) (Set.mem_univ (K (c, xj x))) (fun h => h) (R := 0 + 1) (duties_later I (xc c x))) $$ [Hat] with Hz
  · isplitr; · iapply (inv_x I K c x); iexact HR
    iexact Hat
  iapply Hk
  isplitl [Ho]; · iexists _; iexact Ho
  isplitl [Hz] <;> iassumption

/-- A unit to the partner's barrier over bit `b`, with the room the partner may write into. -/
theorem signal_step {α : Type} {Q : α → sProp 𝕄} (c p : Dev nD) (b : Fin 5) (hp : p = par b c)
    {kk : PUnit → Prog (TpuEff nD τ sig (Elt F) Λ₀ .tc) α} (n : ℕ) (hn : 18 - n = b.val) :
    iprop(records I K ∗ owesE c (n + 1) ∗ dutyTok ER (bc p) 0 b ∗ room b c)
      ⊢ iprop((owesE c n -∗ wpc c (kk ⟨⟩) Q)
        -∗ wpc c (.op (.semSignal (Dev.tc p : Thread nD τ) barS 1) kk) Q) := by
  subst hp
  unfold owesE
  iintro ⟨#HR, ⟨%W, Ho⟩, Ht, Hroom⟩ Hk
  have hdue : dueCell c (18 - n) = bc (par b c) := by
    rw [hn]; exact dif_pos b.isLt
  have hamt : dueAmt (18 - n) = 1 := by rw [hn]; exact dif_pos b.isLt
  iapply (Rounds.wp_signal 𝒱₀ ER (sched I) (c : Thread nD τ) none (dst := (par b c : Thread nD τ)) (κ := K (par b c, 31)) (r := 0)
      (d := b) (k' := 1) (by rw [duties_bar]; exact Finset.mem_univ _) (amount_bar I (par b c) b) () (O₀ := owed c (n + 1)) (owed c n)
      (by rw [owed, hdue, hamt]) (W := W)) $$ [Ho Ht Hroom]
  · isplitr; · iapply (inv_at I K (par b c, 31)); iexact HR
    isplitl [Ho]; · iexact Ho
    isplitl [Ht]; · iexact Ht
    isplitl [Hroom]; · rw [payload_bar, par_par]; iexact Hroom
    iapply (reached_at I K (par b c, 31)); iexact HR
  iintro Ho
  iapply Hk
  iexists W; iexact Ho

/-- The barrier's wait: every partner's room comes. -/
theorem barrier_step {α : Type} {Q : α → sProp 𝕄} (c : Dev nD)
    {kk : PUnit → Prog (TpuEff nD τ sig (Elt F) Λ₀ .tc) α} :
    iprop(records I K ∗ cred (tallyAt (bc c) () 5) ∗ owesE c 14 ∗ atPos ER (bc c) 0 ∅ 0)
      ⊢ iprop(((owesE c 14 ∗ semVal (bc c) 0 ∗ bigSep Finset.univ fun d => room (F := F) d (par d c)) -∗ wpc c (kk ⟨⟩) Q)
        -∗ wpc c (.op (.semWait barS 5) kk) Q) := by
  unfold owesE
  iintro ⟨#HR, Hc, ⟨%W, Ho⟩, Hat⟩ Hk
  iapply (Rounds.wp_wait_rest_token 𝒱₀ ER (sched I) (c : Thread nD τ) none (κ := K (c, 31))
      (wpE_semWait_eq 𝒱₀ (c : Thread nD τ) none Set.univ) (Set.mem_univ _) () (O := owed c 14) (W := W) (R := 0) (m := 0) (T := ∅)
      (by rw [Nat.zero_add, expect_bar])) $$ [Hc Ho Hat]
  · isplitr; · iapply (inv_at I K (c, 31)); iexact HR
    isplitl [Hc]; · iexact Hc
    isplitl [Ho]; · iexact Ho
    isplitr
    · iapply (wait_at I K c (.reg barS) 14 (by omega) (by
        intro s h1 h2
        show 1 < dueLv s
        unfold dueLv; rw [if_neg (by omega)]; split <;> omega)); iexact HR
    iexact Hat
  iintro ⟨Ho, Hat, -, Hpay⟩
  ihave Hp := (Entails.of_eq (rest_bar I c)) $$ Hpay
  imod (Rounds.cell_close ER (sched I) (Set.mem_univ (K (c, 31))) (fun h => h) (R := 0 + 1) (duties_later I (bc c))) $$ [Hat] with Hz
  · isplitr; · iapply (inv_at I K (c, 31)); iexact HR
    iexact Hat
  iapply Hk
  isplitl [Ho]; · iexists _; iexact Ho
  isplitl [Hz] <;> iassumption

/-- A cell that delivers nothing closes at once. -/
theorem close_idle (c : Dev nD) (j : CI) (h : ∀ r, (sched I).duties (kcell (c, j)) r = ∅) :
    iprop(records I K ∗ atPos ER (kcell (c, j)) 0 ∅ 0) ⊢ (|={Set.univ}=> semVal (kcell (c, j)) 0 : sProp 𝕄) := by
  iintro ⟨#HR, Hat⟩
  iapply (Rounds.cell_close ER (sched I) (Set.mem_univ (K (c, j))) (fun h => h) (R := 0) (fun r _ => h r))
  isplitr; · iapply (inv_at I K (c, j)); iexact HR
  iexact Hat

end Cert.KernelIdeal.Flash
-- ==== Proof.Flash.MergeSteps.lean ====
/- One head's merge run: the triple of the program that merges what arrived with what the device holds. -/
module

public import proofs.«01_k».proof.Proof.Flash.Base

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A rectangle inside another one selects elements among the other's. -/
theorem slice_set_sub {κ : Kind} {sp : Space} {s : Shape} {e : EltTy} (v : View sig κ sp s e) {r r' : Rect s}
    (h : r.set ⊆ r'.set) : (v.slice r).set ⊆ (v.slice r').set := by
  rw [View.set_slice, View.set_slice]; exact Finset.map_subset_map.2 h

/-- A rectangle of one matrix of a stack lies inside another one of the same matrix when its rows and columns do. -/
theorem rect3_sub {D R C d r c n m r' c' n' m' : ℕ}
    (h : ∀ a, (![d, r, c] : Fin 3 → ℕ) a + (Sh3 1 n m).size a ≤ (Sh3 D R C).size a)
    (h' : ∀ a, (![d, r', c'] : Fin 3 → ℕ) a + (Sh3 1 n' m').size a ≤ (Sh3 D R C).size a)
    (h1 : r' ≤ r) (h2 : r + n ≤ r' + n') (h3 : c' ≤ c) (h4 : c + m ≤ c' + m') :
    (Rect.unit (s := Sh3 D R C) ![d, r, c] (Sh3 1 n m).size h).set
      ⊆ (Rect.unit (s := Sh3 D R C) ![d, r', c'] (Sh3 1 n' m').size h').set := by
  intro i hi
  rw [Rect.mem_set_unit] at hi ⊢
  intro a
  have hh := hi a
  match a, hh with
  | ⟨0, _⟩, hh => exact hh
  | ⟨1, _⟩, hh => exact ⟨h1.trans hh.1, lt_of_lt_of_le hh.2 h2⟩
  | ⟨2, _⟩, hh => exact ⟨h3.trans hh.1, lt_of_lt_of_le hh.2 h4⟩

/-- The entries after one head's three stores: that head is merged too. -/
theorem merging_next {n k soff koff : ℕ} (g : Geo n k soff koff) (h : ℕ) (hh : h < 8)
    (v6 : View sig .tc .vmem S256x1024 .f32) (v7 : View sig .tc .vmem S256x16 .f32)
    (v9 : View sig .tc .vmem S5x128x1024 .bf16) (v10 : View sig .tc .vmem S5x128x16 .f32)
    {o ml mli : ℕ → ℕ → F .f32} {oi : ℕ → ℕ → F .bf16}
    {f6 : v6.ty.Contents (Elt F)} {f7 : v7.ty.Contents (Elt F)} {f9 : v9.ty.Contents (Elt F)} {f10 : v10.ty.Contents (Elt F)}
    (hM : Merging n koff h o ml (fun i => mergeO (o i) (oi i) (ml i) (mli i)) (fun i => mergeML (ml i) (mli i))
      (v6.read (Elt F) f6) (v7.read (Elt F) f7))
    (hL : Landed n k oi mli (v9.read (Elt F) f9) (v10.read (Elt F) f10))
    (i1 : ∀ a, (![0, h * 128] : Fin 2 → ℕ) a + (Sh2 n 128).size a ≤ (Sh2 256 1024).size a)
    (i2 : ∀ a, (![k, 0, h] : Fin 3 → ℕ) a + (Sh3 1 n 1).size a ≤ (Sh3 5 128 16).size a)
    (i3 : ∀ a, (![k, 0, h * 128] : Fin 3 → ℕ) a + (Sh3 1 n 128).size a ≤ (Sh3 5 128 1024).size a)
    (i4 : ∀ a, (![koff, h] : Fin 2 → ℕ) a + (Sh2 n 1).size a ≤ (Sh2 256 16).size a)
    (i5 : ∀ a, (![koff, h * 128] : Fin 2 → ℕ) a + (Sh2 n 128).size a ≤ (Sh2 256 1024).size a)
    (i6 : ∀ a, (![0, h] : Fin 2 → ℕ) a + (Sh2 n 1).size a ≤ (Sh2 256 16).size a)
    (i7 : ∀ a, (![0, 8 + h] : Fin 2 → ℕ) a + (Sh2 n 1).size a ≤ (Sh2 256 16).size a)
    (i8 : ∀ a, (![k, 0, 8 + h] : Fin 3 → ℕ) a + (Sh3 1 n 1).size a ≤ (Sh3 5 128 16).size a)
    (i9 : ∀ a, (![koff, 8 + h] : Fin 2 → ℕ) a + (Sh2 n 1).size a ≤ (Sh2 256 16).size a) :
    Merging n koff (h + 1) o ml (fun i => mergeO (o i) (oi i) (ml i) (mli i)) (fun i => mergeML (ml i) (mli i))
      (v6.read (Elt F) ((v6.slice (Rect.unit (s := Sh2 256 1024) ![0, h * 128] (Sh2 n 128).size i1)).write (Elt F) f6
        (shapeCast (Sh2 n 128) (mrgO
          (v10.readAt (Elt F) (Rect.unit (s := Sh3 5 128 16) ![k, 0, h] (Sh3 1 n 1).size i2).toLoadRect f10)
          (v9.readAt (Elt F) (Rect.unit (s := Sh3 5 128 1024) ![k, 0, h * 128] (Sh3 1 n 128).size i3).toLoadRect f9)
          (v7.readAt (Elt F) (Rect.unit (s := Sh2 256 16) ![koff, h] (Sh2 n 1).size i4).toLoadRect f7)
          (v6.readAt (Elt F) (Rect.unit (s := Sh2 256 1024) ![koff, h * 128] (Sh2 n 128).size i5).toLoadRect f6)) rfl) Finset.univ))
      (v7.read (Elt F) ((v7.slice (Rect.unit (s := Sh2 256 16) ![0, h] (Sh2 n 1).size i6)).write (Elt F)
        ((v7.slice (Rect.unit (s := Sh2 256 16) ![0, 8 + h] (Sh2 n 1).size i7)).write (Elt F) f7
          (shapeCast (Sh2 n 1) (mrgL
            (v10.readAt (Elt F) (Rect.unit (s := Sh3 5 128 16) ![k, 0, h] (Sh3 1 n 1).size i2).toLoadRect f10)
            (v10.readAt (Elt F) (Rect.unit (s := Sh3 5 128 16) ![k, 0, 8 + h] (Sh3 1 n 1).size i8).toLoadRect f10)
            (v7.readAt (Elt F) (Rect.unit (s := Sh2 256 16) ![koff, h] (Sh2 n 1).size i4).toLoadRect f7)
            (v7.readAt (Elt F) (Rect.unit (s := Sh2 256 16) ![koff, 8 + h] (Sh2 n 1).size i9).toLoadRect f7)) rfl) Finset.univ)
        (shapeCast (Sh2 n 1) (mrgM
          (v10.readAt (Elt F) (Rect.unit (s := Sh3 5 128 16) ![k, 0, h] (Sh3 1 n 1).size i2).toLoadRect f10)
          (v7.readAt (Elt F) (Rect.unit (s := Sh2 256 16) ![koff, h] (Sh2 n 1).size i4).toLoadRect f7)) rfl) Finset.univ)) := by
  have hmi (i : Fin n) : v10.readAt (Elt F) (Rect.unit (s := Sh3 5 128 16) ![k, 0, h] (Sh3 1 n 1).size i2).toLoadRect f10
      (ix3 0 i 0) = mli i h := (readAt3 v10 f10 i2 _).trans ((hL.ml _ _ _ rfl (by simp)).trans (by simp))
  have hli (i : Fin n) : v10.readAt (Elt F) (Rect.unit (s := Sh3 5 128 16) ![k, 0, 8 + h] (Sh3 1 n 1).size i8).toLoadRect f10
      (ix3 0 i 0) = mli i (8 + h) := (readAt3 v10 f10 i8 _).trans ((hL.ml _ _ _ rfl (by simp)).trans (by simp))
  have hoi (i : Fin n) (j : Fin 128) : v9.readAt (Elt F)
      (Rect.unit (s := Sh3 5 128 1024) ![k, 0, h * 128] (Sh3 1 n 128).size i3).toLoadRect f9
      (ix3 0 i j) = oi i (h * 128 + j) := (readAt3 v9 f9 i3 _).trans ((hL.o _ _ _ rfl (by simp)).trans (by simp))
  have hma (i : Fin n) : v7.readAt (Elt F) (Rect.unit (s := Sh2 256 16) ![koff, h] (Sh2 n 1).size i4).toLoadRect f7
      (ix2 i 0) = ml i h := (readAt2 v7 f7 i4 _).trans ((hM.restM _ _ i rfl i.isLt (by simp; omega)).trans (by simp))
  have hla (i : Fin n) : v7.readAt (Elt F) (Rect.unit (s := Sh2 256 16) ![koff, 8 + h] (Sh2 n 1).size i9).toLoadRect f7
      (ix2 i 0) = ml i (8 + h) := (readAt2 v7 f7 i9 _).trans ((hM.restM _ _ i rfl i.isLt (by simp; omega)).trans (by simp))
  have hoa (i : Fin n) (j : Fin 128) : v6.readAt (Elt F)
      (Rect.unit (s := Sh2 256 1024) ![koff, h * 128] (Sh2 n 128).size i5).toLoadRect f6
      (ix2 i j) = o i (h * 128 + j) := (readAt2 v6 f6 i5 _).trans ((hM.restO _ _ i rfl i.isLt (by simp; omega)).trans (by simp))
  refine ⟨fun i j hi hj => ?_, fun i j r hr hrn hj => ?_, fun i j hi hj => ?_, fun i j r hr hrn hj => ?_⟩
  · by_cases hjh : j.val / 128 = h
    · rw [write2_in v6 f6 i1 _ i j ⟨i.val, hi⟩ ⟨j.val - h * 128, by omega⟩ (by simp) (by simp; omega), cast2, mrgO_at,
        hmi, hoi, hma, hoa]
      have : h * 128 + (j.val - h * 128) = j.val := by omega
      simp only [this]
      unfold mergeO; rw [hjh]
    · rw [write2_out v6 f6 i1 _ i j (by omega)]
      exact hM.doneO i j hi (by omega)
  · rw [write2_out v6 f6 i1 _ i j (by omega)]
    exact hM.restO i j r hr hrn (by omega)
  · by_cases hjh : j.val % 8 = h
    · by_cases h8 : j.val < 8
      · rw [write2_in v7 _ i6 _ i j ⟨i.val, hi⟩ 0 (by simp) (by simp; omega), cast2, mrgM_at, hmi, hma]
        unfold mergeML; rw [if_pos h8, show j.val = h by omega]
      · rw [write2_out v7 _ i6 _ i j (by omega),
          write2_in v7 _ i7 _ i j ⟨i.val, hi⟩ 0 (by simp) (by simp; omega), cast2, mrgL_at, hmi, hma, hli, hla]
        unfold mergeML; rw [if_neg h8, show j.val = 8 + h by omega, show 8 + h - 8 = h by omega]
    · rw [write2_out v7 _ i6 _ i j (by omega), write2_out v7 _ i7 _ i j (by omega)]
      exact hM.doneM i j hi (by omega)
  · rw [write2_out v7 _ i6 _ i j (by omega), write2_out v7 _ i7 _ i j (by omega)]
    exact hM.restM i j r hr hrn (by omega)

section Head
variable (a6 : Memref sig .tc .vmem S256x1024 .f32) (a7 : Memref sig .tc .vmem S256x16 .f32)
  (a9 : Memref sig .tc .vmem S5x128x1024 .bf16) (a10 : Memref sig .tc .vmem S5x128x16 .f32)

/-- What one head's merge runs on: both accumulators whole, and any share of the slot's landing rows. -/
def mergeRes (c : Dev nD) {n k soff koff : ℕ} (g : Geo n k soff koff) (q9 q10 : PosShare TreeShare)
    (f6 : Buf (Elt F) (a6.view.loc (c : Thread nD τ))) (f7 : Buf (Elt F) (a7.view.loc (c : Thread nD τ)))
    (f9 : Buf (Elt F) (a9.view.loc (c : Thread nD τ))) (f10 : Buf (Elt F) (a10.view.loc (c : Thread nD τ))) : sProp 𝕄 :=
  iprop((a6.view.loc (c : Thread nD τ) ↦{fullShare} f6) ∗ (a7.view.loc (c : Thread nD τ) ↦{fullShare} f7)
    ∗ (a9.view.loc (c : Thread nD τ) ↦[(landO a9 g).view.set]{q9} f9)
    ∗ (a10.view.loc (c : Thread nD τ) ↦[(landML a10 g).view.set]{q10} f10))

/-- One head's merge takes the accumulators from heads below `h` merged to heads below `h + 1` merged. -/
theorem headMerge_spec (c : Dev nD) {n k soff koff : ℕ} (g : Geo n k soff koff) (h : ℕ) (hh : h < 8)
    {q9 q10 : PosShare TreeShare} {o ml mli : ℕ → ℕ → F .f32} {oi : ℕ → ℕ → F .bf16}
    {f6 : Buf (Elt F) (a6.view.loc (c : Thread nD τ))} {f7 : Buf (Elt F) (a7.view.loc (c : Thread nD τ))}
    {f9 : Buf (Elt F) (a9.view.loc (c : Thread nD τ))} {f10 : Buf (Elt F) (a10.view.loc (c : Thread nD τ))}
    (hM : Merging n koff h o ml (fun i => mergeO (o i) (oi i) (ml i) (mli i)) (fun i => mergeML (ml i) (mli i))
      (a6.view.read (Elt F) f6) (a7.view.read (Elt F) f7))
    (hL : Landed n k oi mli (a9.view.read (Elt F) f9) (a10.view.read (Elt F) f10))
    (Q : PUnit → sProp 𝕄) :
    mergeRes a6 a7 a9 a10 c g q9 q10 f6 f7 f9 f10
      ⊢ iprop((∀ f6' f7', ⌜Merging n koff (h + 1) o ml (fun i => mergeO (o i) (oi i) (ml i) (mli i))
          (fun i => mergeML (ml i) (mli i)) (a6.view.read (Elt F) f6') (a7.view.read (Elt F) f7')⌝ -∗
          mergeRes a6 a7 a9 a10 c g q9 q10 f6' f7' f9 f10 -∗ Q ⟨⟩)
        -∗ wpc c (headMerge a6 a7 a9 a10 g h hh) Q) := by
  have e9 : ((landO a9 g).view.set) = (a9.view.slice (Rect.unit (s := S5x128x1024) ![k, 0, 0] (Sh3 1 n 1024).size
    (inb3 (by have := g.hk; omega) (by have := g.hn; omega) (by omega)))).set := View.set_reshape _ _
  have e10 : ((landML a10 g).view.set) = (a10.view.slice (Rect.unit (s := S5x128x16) ![k, 0, 0] (Sh3 1 n 16).size
    (inb3 (by have := g.hk; omega) (by have := g.hn; omega) (by omega)))).set := View.set_reshape _ _
  unfold mergeRes headMerge
  simp only [Prog.lift, Prog.bind_op, Prog.bind_ret]
  iintro ⟨H6, H7, H9, H10⟩ Hk
  iapply (load_at c a10 (e10 ▸ slice_set_sub _ (rect3_sub _ _ (by omega) (by omega) (by omega) (by omega)))) $$ H10
  iintro H10
  iapply (load_at c a10 (e10 ▸ slice_set_sub _ (rect3_sub _ _ (by omega) (by omega) (by omega) (by omega)))) $$ H10
  iintro H10
  iapply (load_at c a9 (e9 ▸ slice_set_sub _ (rect3_sub _ _ (by omega) (by omega) (by omega) (by omega)))) $$ H9
  iintro H9
  iapply (load_all c a7) $$ H7; iintro H7
  iapply (load_all c a7) $$ H7; iintro H7
  iapply (load_all c a6) $$ H6; iintro H6
  iapply (load_all c a6) $$ H6; iintro H6
  iapply (store_at c a6) $$ H6; iintro H6
  iapply (load_all c a7) $$ H7; iintro H7
  iapply (store_at c a7) $$ H7; iintro H7
  iapply (load_all c a7) $$ H7; iintro H7
  iapply (store_at c a7) $$ H7; iintro H7
  iapply (wpc_ret c _ Q)
  iapply Hk $$ %_ %_ [] [H6 H7 H9 H10]
  rotate_left
  · isplitl [H6]; · iexact H6
    isplitl [H7]; · iexact H7
    isplitl [H9] <;> iassumption
  ipureintro
  exact merging_next g h hh a6.view a7.view a9.view a10.view hM hL _ _ _ _ _ _ _ _ _

end Head

end Cert.KernelIdeal.Flash
-- ==== Proof.Flash.Exchange.lean ====
/- One round's exchange of rows with the partner: what is sent arrives, and what the partner sent is here. -/
module

public import proofs.«01_k».proof.Proof.Flash.Comm
public import proofs.«01_k».proof.Proof.Flash.MergeSteps

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credits of a round's transfers -/

theorem credit_LO (k : Fin 5) (b : Bool) : (LO k).view.dmaCredit = amt (0, b, k) := rfl
theorem credit_LM (k : Fin 5) (b : Bool) : (LM k).view.dmaCredit = amt (1, b, k) := rfl
theorem credit_SO (k : Fin 5) (b : Bool) : (SO k).view.dmaCredit = amt (0, b, k) := by
  match k with
  | 0 => rfl
  | 1 => rfl
  | 2 => rfl
  | 3 => rfl
  | 4 => rfl
theorem credit_SM (k : Fin 5) (c : Dev nD) (b : Bool) : (SM k c).view.dmaCredit = amt (1, b, k) := by
  match k with
  | 0 => rfl
  | 1 => rfl
  | 2 => rfl
  | 3 => rfl
  | 4 => rfl

/-! ## The payments of a round -/

theorem due_o (k : Fin 5) (c : Dev nD) : dueCell c (5 + 2 * k.val) = xc (par (rb k) c) (0, true, k) := by
  match k with
  | 0 => rfl
  | 1 => rfl
  | 2 => rfl
  | 3 => rfl
  | 4 => rfl
theorem due_ml (k : Fin 5) (c : Dev nD) : dueCell c (6 + 2 * k.val) = xc (par (rb k) c) (1, true, k) := by
  match k with
  | 0 => rfl
  | 1 => rfl
  | 2 => rfl
  | 3 => rfl
  | 4 => rfl
theorem dueA_o (k : Fin 5) : dueAmt (5 + 2 * k.val) = amt (0, true, k) := by
  match k with
  | 0 => rfl
  | 1 => rfl
  | 2 => rfl
  | 3 => rfl
  | 4 => rfl
theorem dueA_ml (k : Fin 5) : dueAmt (6 + 2 * k.val) = amt (1, true, k) := by
  match k with
  | 0 => rfl
  | 1 => rfl
  | 2 => rfl
  | 3 => rfl
  | 4 => rfl
/-- A sender's wait lies below every payment. -/
theorem below_send (c : Dev nD) (a : Fin 3) (k : Fin 5) (s : ℕ) : lv (xc c (a, false, k)) () < dueLv s := by
  rw [lv_x]; dsimp only; rw [if_neg Bool.false_ne_true]; unfold dueLv; (repeat' split) <;> omega
/-- A round's receiver's wait lies below the payments of the later rounds. -/
theorem below_recv (c : Dev nD) (a : Fin 3) (ha : a ≠ 2) (k : Fin 5) (s : ℕ) (h : 7 + 2 * k.val ≤ s) (h' : s < 19) :
    lv (xc c (a, true, k)) () < dueLv s := by
  have := k.isLt
  rw [lv_x, if_pos rfl, if_neg ha]; unfold dueLv; dsimp only; (repeat' split) <;> omega

/-! ## What the views of a round read -/

theorem read_LO (k : Fin 5) (p : Dev nD) (I : Ins F) (x : (Sh2 (nr k) 1024).Idx) :
    (LO k).view.read (Elt F) (I.landBufO p) x = I.R k (par (rb k) p) (base (k + 1) p + (x 0).val) (x 1).val := by
  show shapeCast (Sh2 (nr k) 1024) (A9.view.readAt (Elt F) (Rect.unit (s := S5x128x1024) ![k.val, 0, 0] (Sh3 1 (nr k) 1024).size
    (inb3 (by have := (geo k 0).hk; omega) (by have := (geo k 0).hn; omega) (by omega))).toLoadRect (I.landBufO p)) (casts3 (nr k) 1024) x = _
  rw [cast3]
  refine (readAt3 (Val := Elt F) A9.view (I.landBufO p) _ _).trans ?_
  show I.R k.val (par (rb k) p) (base (k + 1) p + (0 + (x 0).val)) (0 + (x 1).val) = _
  rw [Nat.zero_add, Nat.zero_add]
theorem read_LM (k : Fin 5) (p : Dev nD) (I : Ins F) (x : (Sh2 (nr k) 16).Idx) :
    (LM k).view.read (Elt F) (I.landBufML p) x = I.ML k (par (rb k) p) (base (k + 1) p + (x 0).val) (x 1).val := by
  show shapeCast (Sh2 (nr k) 16) (A10.view.readAt (Elt F) (Rect.unit (s := S5x128x16) ![k.val, 0, 0] (Sh3 1 (nr k) 16).size
    (inb3 (by have := (geo k 0).hk; omega) (by have := (geo k 0).hn; omega) (by omega))).toLoadRect (I.landBufML p)) (casts3 (nr k) 16) x = _
  rw [cast3]
  refine (readAt3 (Val := Elt F) A10.view (I.landBufML p) _ _).trans ?_
  show I.ML k.val (par (rb k) p) (base (k + 1) p + (0 + (x 0).val)) (0 + (x 1).val) = _
  rw [Nat.zero_add, Nat.zero_add]

variable (I : Ins F) (K : Dev nD × CI → ℕ)

/-- The accumulators hold device `c`'s state before round `k` on `n` rows. -/
structure Holds (n k : ℕ) (c : Dev nD) (X6 : (Sh2 256 1024).Idx → F .f32) (X7 : (Sh2 256 16).Idx → F .f32) : Prop where
  o : ∀ (i : Fin 256) (j : Fin 1024), i.val < n → X6 (ix2 i j) = I.O k c (base k c + i.val) j.val
  ml : ∀ (i : Fin 256) (j : Fin 16), i.val < n → X7 (ix2 i j) = I.ML k c (base k c + i.val) j.val

/-- What a device holds after a round's exchange: the rows filled, the counters at zero. -/
def landed (k : Fin 5) (c : Dev nD) : sProp 𝕄 :=
  iprop((onLO k c (I.landBufO c) ∗ onLM k c (I.landBufML c)) ∗ Dn 0 k c ∗ Dn 1 k c)

/-- What it needs for one: the partner's rows, the transfers' tokens. -/
def toSend (k : Fin 5) (c : Dev nD) : sProp 𝕄 :=
  iprop(((∃ f, onLO (F := F) k (par (rb k) c) f) ∗ (∃ f, onLM (F := F) k (par (rb k) c) f)) ∗ Tx 0 k c ∗ Tx 1 k c)

theorem xPay_so (k : Fin 5) (c : Dev nD) : xPay I (0, false, k) c
    = iprop(∃ f : Buf (Elt F) ((SO k).view.loc (c : Thread nD τ)), (SO k).view.loc (c : Thread nD τ) ↦[(SO k).view.set]{fullShare.right} f) := rfl
theorem xPay_sm (k : Fin 5) (c : Dev nD) : xPay I (1, false, k) c
    = iprop(∃ f : Buf (Elt F) ((SM k c).view.loc (c : Thread nD τ)), (SM k c).view.loc (c : Thread nD τ) ↦[(SM k c).view.set]{fullShare.right} f) := rfl
theorem xPay_ro (k : Fin 5) (c : Dev nD) : xPay I (0, true, k) c = onLO k c (I.landBufO c) := rfl
theorem xPay_rm (k : Fin 5) (c : Dev nD) : xPay I (1, true, k) c = onLM k c (I.landBufML c) := rfl

/-- The send buffer after its store: its first rows are what was stored. -/
theorem stored (c : Dev nD) (k : Fin 5) (f8 : Buf (Elt F) (A8.view.loc (c : Thread nD τ))) (v : FVec F (Sh2 (nr k) 1024) .bf16)
    (h : ∀ a, (![0, 0] : Fin 2 → ℕ) a + (Sh2 (nr k) 1024).size a ≤ S128x1024.size a) :
    (A8.view.loc (c : Thread nD τ) ↦{fullShare} ((A8.view.slice (Rect.unit (s := S128x1024) ![0, 0] (Sh2 (nr k) 1024).size h)).write (Elt F) f8
        (shapeCast (Sh2 (nr k) 1024) v rfl) Finset.univ) : sProp 𝕄)
      ⊢ iprop(∃ fs : Buf (Elt F) (A8.view.loc (c : Thread nD τ)), ⌜(SO k).view.read (Elt F) fs = v⌝ ∗ A8.view.loc (c : Thread nD τ) ↦{fullShare} fs) := by
  iintro H
  iexists _
  isplitr
  rotate_left
  · iexact H
  ipureintro
  exact (View.read_write_univ _ _).trans (cast2 v rfl)

/-- One exchange: the rows sent arrive at the partner, the partner's here. -/
theorem exchange_spec (c p p' : Dev nD) (k : Fin 5) (hp : p = par (rb k) c) (hp' : p' = par (rb k) c)
    (g : Geo (nr k) k (soffF k c) (koffF k c)) (v : FVec F (Sh2 (nr k) 1024) .bf16)
    (hv : ∀ x, v x = I.R k c (base k c + soffF k c + (x 0).val) (x 1).val)
    (f7 : Buf (Elt F) (A7.view.loc (c : Thread nD τ)))
    (h7 : ∀ (i : Fin 256) (j : Fin 16) (r : ℕ), i.val = soffF k c + r → r < nr k →
      A7.view.read (Elt F) f7 (ix2 i j) = I.ML k c (base k c + soffF k c + r) j.val)
    (h8 : A8.IsWhole) (h9 : A9.IsWhole) (n : ℕ) (hn : n + 2 * k.val = 12) (Q : PUnit → sProp 𝕄) :
    iprop(records I K ∗ (A7.view.loc (c : Thread nD τ) ↦{fullShare} f7) ∗ (∃ f8, A8.view.loc (c : Thread nD τ) ↦{fullShare} f8)
        ∗ toSend k c ∗ owesE c (n + 2))
      ⊢ iprop((((A7.view.loc (c : Thread nD τ) ↦{fullShare} f7) ∗ (∃ f8, A8.view.loc (c : Thread nD τ) ↦{fullShare} f8)
          ∗ landed I k c ∗ owesE c n) -∗ Q ⟨⟩)
        -∗ wpc c (exchangeRest A7 A8 h8 A9 h9 A10 cc0_scratch7 cc0_scratch8 cc0_scratch9 cc0_scratch10 g p p' v) Q) := by
  subst hp hp'
  have hk := k.isLt
  have e0 := xs0 k false k.isLt
  have e1 := xs0 k true k.isLt
  have e2 := xs1 k false k.isLt
  have e3 := xs1 k true k.isLt
  have sk := sent_kept k (par (rb k) c)
  rw [par_par] at sk
  unfold exchangeRest toSend Tx
  simp only [Prog.lift, Prog.bind_op, Prog.bind_ret]
  iintro ⟨#HR, H7, ⟨%f8, H8⟩, ⟨⟨⟨%fo, Hlo⟩, %fm, Hlm⟩, ⟨⟨Ht1, Ht2⟩, ⟨Ha1, Ha2⟩, Hc2⟩, ⟨Ht3, Ht4⟩, ⟨Ha3, Ha4⟩, Hc4⟩, Ho⟩ Hk
  iapply (load_all c A8) $$ H8; iintro H8
  iapply (store_at c A8) $$ H8; iintro H8
  ihave H8 := (stored c k f8 v _) $$ H8
  icases H8 with ⟨%fs, %hfs, H8⟩
  ihave H8 := (lend (SO k).view.set fs) $$ H8
  icases H8 with ⟨H8, H8r⟩
  ihave H7 := (lend (SM k c).view.set f7) $$ H7
  icases H7 with ⟨H7, H7r⟩
  have hs1 : ((SO k).view.loc (c : Thread nD τ) ↦[(SO k).view.set]{fullShare.right} fs : sProp 𝕄) ⊢ sendPay 0 k c := by
    unfold sendPay; iintro H; iexists _; iexact H
  have hr1 : ((LO k).view.loc (par (rb k) c : Thread nD τ) ↦[(LO k).view.set]{fullShare}
      ((LO k).view.write (Elt F) fo ((SO k).view.read (Elt F) fs) Finset.univ) : sProp 𝕄) ⊢ recvPay I 0 k (par (rb k) c) := by
    refine Entails.of_eq (pts_written _ (LO k) _ (I.landBufO (par (rb k) c)) _ (funext fun x => ?_))
    rw [read_LO, par_par, hfs, ← sk]
    exact (hv x).symm
  have hs2 : ((SM k c).view.loc (c : Thread nD τ) ↦[(SM k c).view.set]{fullShare.right} f7 : sProp 𝕄) ⊢ sendPay 1 k c := by
    unfold sendPay; iintro H; iexists _; iexact H
  have hr2 : ((LM k).view.loc (par (rb k) c : Thread nD τ) ↦[(LM k).view.set]{fullShare}
      ((LM k).view.write (Elt F) fm ((SM k c).view.read (Elt F) f7) Finset.univ) : sProp 𝕄) ⊢ recvPay I 1 k (par (rb k) c) := by
    refine Entails.of_eq (pts_written _ (LM k) _ (I.landBufML (par (rb k) c)) _ (funext fun x => ?_))
    rw [read_LM, par_par, ← sk]
    refine Eq.symm ((congrArg (A7.view.read (Elt F) f7) (emb2 _ x)).trans ?_)
    refine (h7 _ _ (x 0).val rfl (x 0).isLt).trans ?_
    show I.ML k c _ (0 + (x 1).val) = _
    rw [Nat.zero_add]
  iapply (send_step I K c (par (rb k) c) 0 k (n + 1) (by simp [live]) rfl e0 e1 (src := SO k) (dst := LO k) (fd := fo) (credit_LO k true)
    (by rw [show 18 - (n + 1) = 5 + 2 * k.val by omega]; exact due_o k c)
    (by rw [show 18 - (n + 1) = 5 + 2 * k.val by omega]; exact dueA_o k) hs1 hr1) $$ [H8r Hlo Ho Ht1 Ht2]
  · isplitr; · iexact HR
    isplitl [H8r]; · iexact H8r
    isplitl [Hlo]; · unfold onLO; iexact Hlo
    isplitl [Ho]; · iexact Ho
    isplitl [Ht1]; · iexact Ht1
    iexact Ht2
  iintro ⟨Hc1, Ho⟩
  iapply (send_step I K c (par (rb k) c) 1 k n (by simp [live]) rfl e2 e3 (src := SM k c) (dst := LM k) (fd := fm) (credit_LM k true)
    (by rw [show 18 - n = 6 + 2 * k.val by omega]; exact due_ml k c)
    (by rw [show 18 - n = 6 + 2 * k.val by omega]; exact dueA_ml k) hs2 hr2) $$ [H7r Hlm Ho Ht3 Ht4]
  · isplitr; · iexact HR
    isplitl [H7r]; · iexact H7r
    isplitl [Hlm]; · unfold onLM; iexact Hlm
    isplitl [Ho]; · iexact Ho
    isplitl [Ht3]; · iexact Ht3
    iexact Ht4
  iintro ⟨Hc3, Ho⟩
  iapply (wait_step I K c (0, false, k) n (by simp [live]) (by omega) e0 (credit_SO k false) (fun s _ _ => below_send c 0 k s)) $$ [Hc1 Ho Ha1]
  · isplitr; · iexact HR
    isplitl [Hc1]; · iexact Hc1
    isplitl [Ho] <;> iassumption
  iintro ⟨Ho, Hz1, Hp1⟩
  iapply (wait_step I K c (0, true, k) n (by simp [live]) (by omega) e1 (credit_LO k true)
    (fun s h1 h2 => below_recv c 0 (by decide) k s (by omega) h2)) $$ [Hc2 Ho Ha2]
  · isplitr; · iexact HR
    isplitl [Hc2]; · iexact Hc2
    isplitl [Ho] <;> iassumption
  iintro ⟨Ho, Hz2, Hp2⟩
  iapply (wait_step I K c (1, false, k) n (by simp [live]) (by omega) e2 (credit_SM k c false) (fun s _ _ => below_send c 1 k s)) $$ [Hc3 Ho Ha3]
  · isplitr; · iexact HR
    isplitl [Hc3]; · iexact Hc3
    isplitl [Ho] <;> iassumption
  iintro ⟨Ho, Hz3, Hp3⟩
  iapply (wait_step I K c (1, true, k) n (by simp [live]) (by omega) e3 (credit_LM k true)
    (fun s h1 h2 => below_recv c 1 (by decide) k s (by omega) h2)) $$ [Hc4 Ho Ha4]
  · isplitr; · iexact HR
    isplitl [Hc4]; · iexact Hc4
    isplitl [Ho] <;> iassumption
  iintro ⟨Ho, Hz4, Hp4⟩
  iapply (wpc_ret c _ Q)
  iapply Hk
  unfold landed Dn
  ihave Hp1 := (Entails.of_eq (xPay_so I k c)) $$ Hp1
  ihave Hp2 := (Entails.of_eq (xPay_ro I k c)) $$ Hp2
  ihave Hp3 := (Entails.of_eq (xPay_sm I k c)) $$ Hp3
  ihave Hp4 := (Entails.of_eq (xPay_rm I k c)) $$ Hp4
  icases Hp1 with ⟨%g1, Hp1⟩
  icases Hp3 with ⟨%g3, Hp3⟩
  ihave H8 := (unlend (ℓ := A8.view.loc (c : Thread nD τ)) (SO k).view.set fs g1) $$ [H8 Hp1]
  · isplitl [H8] <;> iassumption
  ihave H7 := (unlend (ℓ := A7.view.loc (c : Thread nD τ)) (SM k c).view.set f7 g3) $$ [H7 Hp3]
  · isplitl [H7] <;> iassumption
  isplitl [H7]; · iexact H7
  isplitl [H8]; · iexists _; iexact H8
  isplitr [Ho]
  · isplitl [Hp2 Hp4]
    · isplitl [Hp2] <;> iassumption
    isplitl [Hz1 Hz2]
    · isplitl [Hz1] <;> iassumption
    isplitl [Hz3] <;> iassumption
  iexact Ho

end Cert.KernelIdeal.Flash
-- ==== Proof.Flash.Round.lean ====
/- One whole round of the reduction: the exchange, then the eight heads' merges. -/
module

public import proofs.«01_k».proof.Proof.Flash.Exchange

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CI → ℕ)

/-- The accumulators, holding device `c`'s state before round `k` on `n` rows. -/
def acc (n k : ℕ) (c : Dev nD) : sProp 𝕄 :=
  iprop(∃ f6 f7, ⌜Holds I n k c (A6.view.read (Elt F) f6) (A7.view.read (Elt F) f7)⌝
    ∗ (A6.view.loc (c : Thread nD τ) ↦{fullShare} f6) ∗ A7.view.loc (c : Thread nD τ) ↦{fullShare} f7)

/-- How many rows are held before round `k`. -/
def held (k : ℕ) : ℕ := 2 ^ (8 - k)

theorem soff_fits (k : Fin 5) (c : Dev nD) : soffF k c + nr k ≤ held k := by revert k c; decide
theorem koff_fits (k : Fin 5) (c : Dev nD) : koffF k c + nr k ≤ held k := by revert k c; decide

/-- The rows kept, before any head is merged. -/
theorem merging_zero {k : Fin 5} {c : Dev nD} {X6 : (Sh2 256 1024).Idx → F .f32} {X7 : (Sh2 256 16).Idx → F .f32}
    (h : Holds I (held k) k c X6 X7) (o' ml' : ℕ → ℕ → F .f32) :
    Merging (nr k) (koffF k c) 0 (fun r => I.O k c (base (k + 1) c + r)) (fun r => I.ML k c (base (k + 1) c + r)) o' ml' X6 X7 := by
  have hf := koff_fits k c
  refine ⟨fun i j hi hj => absurd hj (Nat.not_lt_zero _), fun i j r hr hrn hj => ?_, fun i j hi hj => absurd hj (Nat.not_lt_zero _),
    fun i j r hr hrn hj => ?_⟩
  · rw [h.o i j (by omega), hr]; show _ = I.O k c (base k c + koffF k c + r) j; rw [Nat.add_assoc]
  · rw [h.ml i j (by omega), hr]; show _ = I.ML k c (base k c + koffF k c + r) j; rw [Nat.add_assoc]

/-- All heads merged: the state before the next round. -/
theorem merging_done {k : Fin 5} {c : Dev nD} {X6 : (Sh2 256 1024).Idx → F .f32} {X7 : (Sh2 256 16).Idx → F .f32} {o ml : ℕ → ℕ → F .f32}
    (h : Merging (nr k) (koffF k c) 8 o ml (fun r => I.O (k + 1) c (base (k + 1) c + r)) (fun r => I.ML (k + 1) c (base (k + 1) c + r)) X6 X7) :
    Holds I (nr k) (k + 1) c X6 X7 :=
  ⟨fun i j hi => h.doneO i j hi (by omega), fun i j hi => h.doneM i j hi (by omega)⟩

/-- What has landed is the partner's state on the rows kept. -/
theorem landed_rows (k : Fin 5) (c : Dev nD) :
    Landed (nr k) k (fun r => I.R k (par (rb k) c) (base (k + 1) c + r)) (fun r => I.ML k (par (rb k) c) (base (k + 1) c + r))
      (A9.view.read (Elt F) (I.landBufO c)) (A10.view.read (Elt F) (I.landBufML c)) := by
  constructor <;>
  · intro s i j hs hi
    obtain rfl : s = k := Fin.ext hs
    rfl

/-- A round's exchange from the state before it, whose rows to send have been loaded: what is left to
    merge, with the partner's rows landed. -/
theorem round_exchange (c p p' : Dev nD) (k : Fin 5) (hp : p = par (rb k) c) (hp' : p' = par (rb k) c)
    (g : Geo (nr k) k (soffF k c) (koffF k c)) (f6 : Buf (Elt F) (A6.view.loc (c : Thread nD τ))) (f7 : Buf (Elt F) (A7.view.loc (c : Thread nD τ)))
    (hH : Holds I (held k) k c (A6.view.read (Elt F) f6) (A7.view.read (Elt F) f7))
    (h8 : A8.IsWhole) (h9 : A9.IsWhole) (n : ℕ) (hn : n + 2 * k.val = 12) (Q : PUnit → sProp 𝕄)
    (i1 : ∀ a, (![soffF k c, 0] : Fin 2 → ℕ) a + (Sh2 (nr k) 1024).size a ≤ S256x1024.size a) :
    iprop(records I K ∗ (A6.view.loc (c : Thread nD τ) ↦{fullShare} f6) ∗ (A7.view.loc (c : Thread nD τ) ↦{fullShare} f7)
        ∗ (∃ f8, A8.view.loc (c : Thread nD τ) ↦{fullShare} f8) ∗ toSend k c ∗ owesE c (n + 2))
      ⊢ iprop(((mergeRes A6 A7 A9 A10 c g fullShare fullShare f6 f7 (I.landBufO c) (I.landBufML c)
          -∗ (∃ f8, A8.view.loc (c : Thread nD τ) ↦{fullShare} f8) -∗ (Dn 0 k c ∗ Dn 1 k c) -∗ owesE c n -∗ Q ⟨⟩)
        -∗ wpc c (exchangeRest A7 A8 h8 A9 h9 A10 cc0_scratch7 cc0_scratch8 cc0_scratch9 cc0_scratch10 g p p'
          (truncf .bf16 (A6.view.readAt (Elt F) (Rect.unit (s := S256x1024) ![soffF k c, 0] (Sh2 (nr k) 1024).size i1).toLoadRect f6 : FVec F (Sh2 (nr k) 1024) .f32) bitsLt_bf16_f32)) Q)) := by
  have hf := soff_fits k c
  have hv : ∀ x : (Sh2 (nr k) 1024).Idx, (truncf .bf16 (A6.view.readAt (Elt F) (Rect.unit (s := S256x1024) ![soffF k c, 0] (Sh2 (nr k) 1024).size i1).toLoadRect f6 : FVec F (Sh2 (nr k) 1024) .f32) bitsLt_bf16_f32 : FVec F (Sh2 (nr k) 1024) .bf16) x
      = I.R k c (base k c + soffF k c + (x 0).val) (x 1).val := by
    intro x
    have hx : (x 0).val < nr k := (x 0).isLt
    unfold Ins.R
    refine congrArg (FloatOps.truncf .bf16 bitsLt_bf16_f32) ((readAt2 (Val := Elt F) A6.view f6 i1 x).trans ?_)
    rw [hH.o _ _ (by show soffF k c + (x 0).val < _; omega)]
    show I.O k c (base k c + (soffF k c + (x 0).val)) (0 + (x 1).val) = _
    rw [Nat.zero_add, Nat.add_assoc]
  have h7 : ∀ (i : Fin 256) (j : Fin 16) (r : ℕ), i.val = soffF k c + r → r < nr k →
      A7.view.read (Elt F) f7 (ix2 i j) = I.ML k c (base k c + soffF k c + r) j.val := by
    intro i j r hi hr
    rw [hH.ml i j (by omega), hi, Nat.add_assoc]
  iintro ⟨#HR, H6, H7, H8, Hs, Ho⟩ Hk
  iapply (exchange_spec I K c p p' k hp hp' g _ hv f7 h7 h8 h9 n hn Q) $$ [H7 H8 Hs Ho]
  · isplitr; · iexact HR
    isplitl [H7]; · iexact H7
    isplitl [H8]; · iexact H8
    isplitl [Hs] <;> iassumption
  iintro ⟨H7, H8, Hl, Ho⟩
  unfold landed
  icases Hl with ⟨⟨Hlo, Hlm⟩, Hd⟩
  iapply Hk $$ [H6 H7 Hlo Hlm] H8 Hd Ho
  unfold mergeRes
  isplitl [H6]; · iexact H6
  isplitl [H7]; · iexact H7
  isplitl [Hlo]
  · unfold onLO; iexact Hlo
  · unfold onLM; iexact Hlm

/-- One whole round. -/
theorem round_spec (c p p' : Dev nD) (k : Fin 5) (hp : p = par (rb k) c) (hp' : p' = par (rb k) c)
    (g : Geo (nr k) k (soffF k c) (koffF k c)) (h8 : A8.IsWhole) (h9 : A9.IsWhole) (n : ℕ) (hn : n + 2 * k.val = 12) (Q : PUnit → sProp 𝕄) :
    iprop(records I K ∗ acc I (held k) k c ∗ (∃ f8, A8.view.loc (c : Thread nD τ) ↦{fullShare} f8) ∗ toSend k c ∗ owesE c (n + 2))
      ⊢ iprop(((acc I (nr k) (k + 1) c ∗ (∃ f8, A8.view.loc (c : Thread nD τ) ↦{fullShare} f8) ∗ landed I k c ∗ owesE c n) -∗ Q ⟨⟩)
        -∗ wpc c (round A6 A7 A8 h8 A9 h9 A10 cc0_scratch7 cc0_scratch8 cc0_scratch9 cc0_scratch10 g p p') Q) := by
  unfold round sendRows acc
  simp only [Prog.lift, Prog.bind_op, Prog.bind_ret]
  iintro ⟨#HR, ⟨%f6, %f7, %hH, H6, H7⟩, H8, Hs, Ho⟩ Hk
  iapply (load_all c A6) $$ H6; iintro H6
  rw [wpc_bind]
  iapply (round_exchange I K c p p' k hp hp' g f6 f7 hH h8 h9 n hn _ _) $$ [H6 H7 H8 Hs Ho]
  · isplitr; · iexact HR
    isplitl [H6]; · iexact H6
    isplitl [H7]; · iexact H7
    isplitl [H8]; · iexact H8
    isplitl [Hs] <;> iassumption
  iintro Hres H8 Hd Ho
  have hM := merging_zero I hH (fun r => I.O (k + 1) c (base (k + 1) c + r)) (fun r => I.ML (k + 1) c (base (k + 1) c + r))
  have hL := landed_rows I k c
  rw [wpc_bind]; iapply (headMerge_spec A6 A7 A9 A10 c g 0 _ hM hL _) $$ Hres; iintro %g6 %g7 %hM Hres
  rw [wpc_bind]; iapply (headMerge_spec A6 A7 A9 A10 c g 1 _ hM hL _) $$ Hres; iintro %g6 %g7 %hM Hres
  rw [wpc_bind]; iapply (headMerge_spec A6 A7 A9 A10 c g 2 _ hM hL _) $$ Hres; iintro %g6 %g7 %hM Hres
  rw [wpc_bind]; iapply (headMerge_spec A6 A7 A9 A10 c g 3 _ hM hL _) $$ Hres; iintro %g6 %g7 %hM Hres
  rw [wpc_bind]; iapply (headMerge_spec A6 A7 A9 A10 c g 4 _ hM hL _) $$ Hres; iintro %g6 %g7 %hM Hres
  rw [wpc_bind]; iapply (headMerge_spec A6 A7 A9 A10 c g 5 _ hM hL _) $$ Hres; iintro %g6 %g7 %hM Hres
  rw [wpc_bind]; iapply (headMerge_spec A6 A7 A9 A10 c g 6 _ hM hL _) $$ Hres; iintro %g6 %g7 %hM Hres
  iapply (headMerge_spec A6 A7 A9 A10 c g 7 _ hM hL _) $$ Hres; iintro %g6 %g7 %hM Hres
  iapply Hk
  unfold mergeRes landed
  icases Hres with ⟨H6, H7, Hlo, Hlm⟩
  isplitl [H6 H7]
  · iexists g6; iexists g7
    isplitr; · ipureintro; exact merging_done I hM
    isplitl [H6] <;> iassumption
  isplitl [H8]; · iexact H8
  isplitl [Hlo Hlm Hd]
  · isplitl [Hlo Hlm]
    · isplitl [Hlo]
      · unfold onLO; iexact Hlo
      · unfold onLM; iexact Hlm
    iexact Hd
  iexact Ho

end Cert.KernelIdeal.Flash
-- ==== Proof.Flash.LastRound.lean ====
/- The last round: the exchange and the eight heads' divided merges. -/
module

public import proofs.«01_k».proof.Proof.Flash.Round

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the accumulators hold while the last round's divided merges run, heads below `h` done: the rows
    from 0 hold those heads' quotients and the other heads' numerators; maxima and denominators stay. -/
structure Closing (n h : ℕ) (o ml d : ℕ → ℕ → F .f32)
    (X6 : (Sh2 256 1024).Idx → F .f32) (X7 : (Sh2 256 16).Idx → F .f32) : Prop where
  done : ∀ (i : Fin 256) (j : Fin 1024), i.val < n → j.val / 128 < h → X6 (ix2 i j) = d i j
  rest : ∀ (i : Fin 256) (j : Fin 1024), i.val < n → h ≤ j.val / 128 → X6 (ix2 i j) = o i j
  ml : ∀ (i : Fin 256) (j : Fin 16), i.val < n → X7 (ix2 i j) = ml i j

/-- The entries after one head's store of quotients. -/
theorem closing_next {n k soff : ℕ} (g : Geo n k soff 0) (h : ℕ) (hh : h < 8)
    (v6 : View sig .tc .vmem S256x1024 .f32) (v7 : View sig .tc .vmem S256x16 .f32)
    (v9 : View sig .tc .vmem S5x128x1024 .bf16) (v10 : View sig .tc .vmem S5x128x16 .f32)
    {o ml mli : ℕ → ℕ → F .f32} {oi : ℕ → ℕ → F .bf16}
    {f6 : v6.ty.Contents (Elt F)} {f7 : v7.ty.Contents (Elt F)} {f9 : v9.ty.Contents (Elt F)} {f10 : v10.ty.Contents (Elt F)}
    (hM : Closing n h o ml (fun i => mergeD (o i) (oi i) (ml i) (mli i)) (v6.read (Elt F) f6) (v7.read (Elt F) f7))
    (hL : Landed n k oi mli (v9.read (Elt F) f9) (v10.read (Elt F) f10))
    (i1 : ∀ a, (![0, h * 128] : Fin 2 → ℕ) a + (Sh2 n 128).size a ≤ (Sh2 256 1024).size a)
    (i2 : ∀ a, (![k, 0, h] : Fin 3 → ℕ) a + (Sh3 1 n 1).size a ≤ (Sh3 5 128 16).size a)
    (i3 : ∀ a, (![k, 0, h * 128] : Fin 3 → ℕ) a + (Sh3 1 n 128).size a ≤ (Sh3 5 128 1024).size a)
    (i4 : ∀ a, (![0, h] : Fin 2 → ℕ) a + (Sh2 n 1).size a ≤ (Sh2 256 16).size a)
    (i5 : ∀ a, (![0, h * 128] : Fin 2 → ℕ) a + (Sh2 n 128).size a ≤ (Sh2 256 1024).size a)
    (i8 : ∀ a, (![k, 0, 8 + h] : Fin 3 → ℕ) a + (Sh3 1 n 1).size a ≤ (Sh3 5 128 16).size a)
    (i9 : ∀ a, (![0, 8 + h] : Fin 2 → ℕ) a + (Sh2 n 1).size a ≤ (Sh2 256 16).size a) :
    Closing n (h + 1) o ml (fun i => mergeD (o i) (oi i) (ml i) (mli i))
      (v6.read (Elt F) ((v6.slice (Rect.unit (s := Sh2 256 1024) ![0, h * 128] (Sh2 n 128).size i1)).write (Elt F) f6
        (shapeCast (Sh2 n 128) (mrgD
          (v10.readAt (Elt F) (Rect.unit (s := Sh3 5 128 16) ![k, 0, h] (Sh3 1 n 1).size i2).toLoadRect f10)
          (v10.readAt (Elt F) (Rect.unit (s := Sh3 5 128 16) ![k, 0, 8 + h] (Sh3 1 n 1).size i8).toLoadRect f10)
          (v9.readAt (Elt F) (Rect.unit (s := Sh3 5 128 1024) ![k, 0, h * 128] (Sh3 1 n 128).size i3).toLoadRect f9)
          (v7.readAt (Elt F) (Rect.unit (s := Sh2 256 16) ![0, h] (Sh2 n 1).size i4).toLoadRect f7)
          (v7.readAt (Elt F) (Rect.unit (s := Sh2 256 16) ![0, 8 + h] (Sh2 n 1).size i9).toLoadRect f7)
          (v6.readAt (Elt F) (Rect.unit (s := Sh2 256 1024) ![0, h * 128] (Sh2 n 128).size i5).toLoadRect f6)) rfl) Finset.univ))
      (v7.read (Elt F) f7) := by
  have hn := g.hn
  have hmi (i : Fin n) : v10.readAt (Elt F) (Rect.unit (s := Sh3 5 128 16) ![k, 0, h] (Sh3 1 n 1).size i2).toLoadRect f10
      (ix3 0 i 0) = mli i h := (readAt3 v10 f10 i2 _).trans ((hL.ml _ _ _ rfl (by simp)).trans (by simp))
  have hli (i : Fin n) : v10.readAt (Elt F) (Rect.unit (s := Sh3 5 128 16) ![k, 0, 8 + h] (Sh3 1 n 1).size i8).toLoadRect f10
      (ix3 0 i 0) = mli i (8 + h) := (readAt3 v10 f10 i8 _).trans ((hL.ml _ _ _ rfl (by simp)).trans (by simp))
  have hoi (i : Fin n) (j : Fin 128) : v9.readAt (Elt F)
      (Rect.unit (s := Sh3 5 128 1024) ![k, 0, h * 128] (Sh3 1 n 128).size i3).toLoadRect f9
      (ix3 0 i j) = oi i (h * 128 + j) := (readAt3 v9 f9 i3 _).trans ((hL.o _ _ _ rfl (by simp)).trans (by simp))
  have hma (i : Fin n) : v7.readAt (Elt F) (Rect.unit (s := Sh2 256 16) ![0, h] (Sh2 n 1).size i4).toLoadRect f7
      (ix2 i 0) = ml i h := (readAt2 v7 f7 i4 _).trans ((hM.ml _ _ (by simp)).trans (by simp))
  have hla (i : Fin n) : v7.readAt (Elt F) (Rect.unit (s := Sh2 256 16) ![0, 8 + h] (Sh2 n 1).size i9).toLoadRect f7
      (ix2 i 0) = ml i (8 + h) := (readAt2 v7 f7 i9 _).trans ((hM.ml _ _ (by simp)).trans (by simp))
  have hoa (i : Fin n) (j : Fin 128) : v6.readAt (Elt F)
      (Rect.unit (s := Sh2 256 1024) ![0, h * 128] (Sh2 n 128).size i5).toLoadRect f6
      (ix2 i j) = o i (h * 128 + j) := (readAt2 v6 f6 i5 _).trans ((hM.rest _ _ (by simp) (by simp; omega)).trans (by simp))
  refine ⟨fun i j hi hj => ?_, fun i j hi hj => ?_, hM.ml⟩
  · by_cases hjh : j.val / 128 = h
    · rw [write2_in v6 f6 i1 _ i j ⟨i.val, hi⟩ ⟨j.val - h * 128, by omega⟩ (by simp) (by simp; omega), cast2, mrgD_at, mrgO_at,
        mrgL_at, hmi, hoi, hma, hoa, hli, hla]
      have : h * 128 + (j.val - h * 128) = j.val := by omega
      simp only [this]
      unfold mergeD mergeO mergeML; rw [hjh, if_neg (by omega), show 8 + h - 8 = h by omega]
    · rw [write2_out v6 f6 i1 _ i j (by omega)]
      exact hM.done i j hi (by omega)
  · rw [write2_out v6 f6 i1 _ i j (by omega)]
    exact hM.rest i j hi (by omega)

section Head
variable (a6 : Memref sig .tc .vmem S256x1024 .f32) (a7 : Memref sig .tc .vmem S256x16 .f32)
  (a9 : Memref sig .tc .vmem S5x128x1024 .bf16) (a10 : Memref sig .tc .vmem S5x128x16 .f32)

/-- One head's divided merge takes heads below `h` done to heads below `h + 1` done. -/
theorem headFinal_spec (c : Dev nD) {n k soff : ℕ} (g : Geo n k soff 0) (h : ℕ) (hh : h < 8)
    {q9 q10 : PosShare TreeShare} {o ml mli : ℕ → ℕ → F .f32} {oi : ℕ → ℕ → F .bf16}
    {f6 : Buf (Elt F) (a6.view.loc (c : Thread nD τ))} {f7 : Buf (Elt F) (a7.view.loc (c : Thread nD τ))}
    {f9 : Buf (Elt F) (a9.view.loc (c : Thread nD τ))} {f10 : Buf (Elt F) (a10.view.loc (c : Thread nD τ))}
    (hM : Closing n h o ml (fun i => mergeD (o i) (oi i) (ml i) (mli i)) (a6.view.read (Elt F) f6) (a7.view.read (Elt F) f7))
    (hL : Landed n k oi mli (a9.view.read (Elt F) f9) (a10.view.read (Elt F) f10))
    (Q : PUnit → sProp 𝕄) :
    mergeRes a6 a7 a9 a10 c g q9 q10 f6 f7 f9 f10
      ⊢ iprop((∀ f6', ⌜Closing n (h + 1) o ml (fun i => mergeD (o i) (oi i) (ml i) (mli i))
          (a6.view.read (Elt F) f6') (a7.view.read (Elt F) f7)⌝ -∗
          mergeRes a6 a7 a9 a10 c g q9 q10 f6' f7 f9 f10 -∗ Q ⟨⟩)
        -∗ wpc c (headFinal a6 a7 a9 a10 g h hh) Q) := by
  have e9 : ((landO a9 g).view.set) = (a9.view.slice (Rect.unit (s := S5x128x1024) ![k, 0, 0] (Sh3 1 n 1024).size
    (inb3 (by have := g.hk; omega) (by have := g.hn; omega) (by omega)))).set := View.set_reshape _ _
  have e10 : ((landML a10 g).view.set) = (a10.view.slice (Rect.unit (s := S5x128x16) ![k, 0, 0] (Sh3 1 n 16).size
    (inb3 (by have := g.hk; omega) (by have := g.hn; omega) (by omega)))).set := View.set_reshape _ _
  unfold mergeRes headFinal
  simp only [Prog.lift, Prog.bind_op, Prog.bind_ret]
  iintro ⟨H6, H7, H9, H10⟩ Hk
  iapply (load_at c a10 (e10 ▸ slice_set_sub _ (rect3_sub _ _ (by omega) (by omega) (by omega) (by omega)))) $$ H10
  iintro H10
  iapply (load_at c a10 (e10 ▸ slice_set_sub _ (rect3_sub _ _ (by omega) (by omega) (by omega) (by omega)))) $$ H10
  iintro H10
  iapply (load_at c a9 (e9 ▸ slice_set_sub _ (rect3_sub _ _ (by omega) (by omega) (by omega) (by omega)))) $$ H9
  iintro H9
  iapply (load_all c a7) $$ H7; iintro H7
  iapply (load_all c a7) $$ H7; iintro H7
  iapply (load_all c a6) $$ H6; iintro H6
  iapply (load_all c a6) $$ H6; iintro H6
  iapply (store_at c a6) $$ H6; iintro H6
  iapply (wpc_ret c _ Q)
  iapply Hk $$ %_ [] [H6 H7 H9 H10]
  rotate_left
  · isplitl [H6]; · iexact H6
    isplitl [H7]; · iexact H7
    isplitl [H9] <;> iassumption
  ipureintro
  exact closing_next g h hh a6.view a7.view a9.view a10.view hM hL _ _ _ _ _ _ _

end Head

variable (I : Ins F) (K : Dev nD × CI → ℕ)

/-- The accumulators once the last round is over: the first sixteen rows are the quotients. -/
def quot (c : Dev nD) : sProp 𝕄 :=
  iprop(∃ f6, ⌜∀ (i : Fin 256) (j : Fin 1024), i.val < 16 → A6.view.read (Elt F) f6 (ix2 i j) = I.D c (base 4 c + i.val) j.val⌝
    ∗ A6.view.loc (c : Thread nD τ) ↦{fullShare} f6)

/-- The last round, its rows to send loaded before. -/
theorem lastRound_spec (c p p' : Dev nD) (hp : p = par (rb 4) c) (hp' : p' = par (rb 4) c)
    (g : Geo 16 4 0 0) (f6 : Buf (Elt F) (A6.view.loc (c : Thread nD τ))) (f7 : Buf (Elt F) (A7.view.loc (c : Thread nD τ)))
    (hH : Holds I 16 4 c (A6.view.read (Elt F) f6) (A7.view.read (Elt F) f7)) (h8 : A8.IsWhole) (h9 : A9.IsWhole) (Q : PUnit → sProp 𝕄)
    (i1 : ∀ a, (![0, 0] : Fin 2 → ℕ) a + (Sh2 16 1024).size a ≤ S256x1024.size a) :
    iprop(records I K ∗ (A6.view.loc (c : Thread nD τ) ↦{fullShare} f6) ∗ (A7.view.loc (c : Thread nD τ) ↦{fullShare} f7)
        ∗ (∃ f8, A8.view.loc (c : Thread nD τ) ↦{fullShare} f8) ∗ toSend 4 c ∗ owesE c 6)
      ⊢ iprop(((quot I c ∗ (∃ f7, A7.view.loc (c : Thread nD τ) ↦{fullShare} f7) ∗ (∃ f8, A8.view.loc (c : Thread nD τ) ↦{fullShare} f8)
          ∗ landed I 4 c ∗ owesE c 4) -∗ Q ⟨⟩)
        -∗ wpc c (lastRound A6 A7 A8 h8 A9 h9 A10 cc0_scratch7 cc0_scratch8 cc0_scratch9 cc0_scratch10 g p p'
          (truncf .bf16 (A6.view.readAt (Elt F) (Rect.unit (s := S256x1024) ![0, 0] (Sh2 16 1024).size i1).toLoadRect f6 : FVec F (Sh2 16 1024) .f32) bitsLt_bf16_f32)) Q) := by
  unfold lastRound
  have hb : base 5 c = base 4 c := rfl
  iintro ⟨#HR, H6, H7, H8, Hs, Ho⟩ Hk
  rw [wpc_bind]
  iapply (round_exchange I K c p p' 4 hp hp' g f6 f7 hH h8 h9 4 rfl _ i1) $$ [H6 H7 H8 Hs Ho]
  · isplitr; · iexact HR
    isplitl [H6]; · iexact H6
    isplitl [H7]; · iexact H7
    isplitl [H8]; · iexact H8
    isplitl [Hs] <;> iassumption
  iintro Hres H8 Hd Ho
  ihave Hres := (Entails.of_eq (show mergeRes (n := nr 4) (k := 4) (soff := soffF 4 c) (koff := koffF 4 c) A6 A7 A9 A10 c g fullShare fullShare f6 f7
      (I.landBufO c) (I.landBufML c) = mergeRes (n := 16) (k := 4) (soff := 0) (koff := 0) A6 A7 A9 A10 c g fullShare fullShare f6 f7
      (I.landBufO c) (I.landBufML c) from rfl)) $$ Hres
  have hM : Closing 16 0 (fun r => I.O 4 c (base 4 c + r)) (fun r => I.ML 4 c (base 4 c + r))
      (fun r => I.D c (base 4 c + r)) (A6.view.read (Elt F) f6) (A7.view.read (Elt F) f7) :=
    ⟨fun i j hi hj => absurd hj (Nat.not_lt_zero _), fun i j hi _ => hH.o i j hi, hH.ml⟩
  have hL : Landed 16 4 (fun r => I.R 4 (par (rb 4) c) (base 4 c + r)) (fun r => I.ML 4 (par (rb 4) c) (base 4 c + r))
      (A9.view.read (Elt F) (I.landBufO c)) (A10.view.read (Elt F) (I.landBufML c)) := landed_rows I 4 c
  rw [wpc_bind]; iapply (headFinal_spec A6 A7 A9 A10 c g 0 _ hM hL _) $$ Hres; iintro %g6 %hM Hres
  rw [wpc_bind]; iapply (headFinal_spec A6 A7 A9 A10 c g 1 _ hM hL _) $$ Hres; iintro %g6 %hM Hres
  rw [wpc_bind]; iapply (headFinal_spec A6 A7 A9 A10 c g 2 _ hM hL _) $$ Hres; iintro %g6 %hM Hres
  rw [wpc_bind]; iapply (headFinal_spec A6 A7 A9 A10 c g 3 _ hM hL _) $$ Hres; iintro %g6 %hM Hres
  rw [wpc_bind]; iapply (headFinal_spec A6 A7 A9 A10 c g 4 _ hM hL _) $$ Hres; iintro %g6 %hM Hres
  rw [wpc_bind]; iapply (headFinal_spec A6 A7 A9 A10 c g 5 _ hM hL _) $$ Hres; iintro %g6 %hM Hres
  rw [wpc_bind]; iapply (headFinal_spec A6 A7 A9 A10 c g 6 _ hM hL _) $$ Hres; iintro %g6 %hM Hres
  iapply (headFinal_spec A6 A7 A9 A10 c g 7 _ hM hL _) $$ Hres; iintro %g6 %hM Hres
  iapply Hk
  unfold mergeRes landed quot
  icases Hres with ⟨H6, H7, Hlo, Hlm⟩
  isplitl [H6]
  · iexists g6
    isplitr; · ipureintro; exact fun i j hi => hM.done i j hi (by omega)
    iexact H6
  isplitl [H7]; · iexists f7; iexact H7
  isplitl [H8]; · iexact H8
  isplitl [Hlo Hlm Hd]
  · isplitl [Hlo Hlm]
    · isplitl [Hlo]
      · unfold onLO; iexact Hlo
      · unfold onLM; iexact Hlm
    iexact Hd
  iexact Ho

end Cert.KernelIdeal.Flash
-- ==== Proof.Flash.Gather.lean ====
/- The device's own output rows, the steps of the gather, and the result. -/
module

public import proofs.«01_k».proof.Proof.Flash.LastRound

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Credits, payments and levels of the gather -/

theorem credit_YV (k : Fin 5) (c : Dev nD) (b : Bool) : (YV k c).view.dmaCredit = amt (2, b, k) := rfl
theorem due_y (k : Fin 5) (hk : k ≠ 0) (c : Dev nD) : dueCell c (14 + k.val) = xc (par k c) (2, true, k) := by
  match k, hk with
  | 1, _ => rfl
  | 2, _ => rfl
  | 3, _ => rfl
  | 4, _ => rfl
theorem dueA_y (k : Fin 5) (hk : k ≠ 0) : dueAmt (14 + k.val) = amt (2, true, k) := by
  match k, hk with
  | 1, _ => rfl
  | 2, _ => rfl
  | 3, _ => rfl
  | 4, _ => rfl
theorem below_y (c : Dev nD) (k : Fin 5) (s : ℕ) (h : 15 + k.val ≤ s) (h' : s < 19) : lv (xc c (2, true, k)) () < dueLv s := by
  have := k.isLt
  rw [lv_x, if_pos rfl, if_pos rfl]; unfold dueLv; dsimp only; (repeat' split) <;> omega

theorem par_parity (k : Fin 5) (hk : k ≠ 0) (c : Dev nD) : (par k c).val % 2 = c.val % 2 := by
  revert k c; decide

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

variable (I : Ins F) (K : Dev nD × CI → ℕ)

/-- Devices of one parity gather the same rows. -/
theorem ytot_par (k : Fin 5) (hk : k ≠ 0) (c : Dev nD) : I.ytot (par k c) = I.ytot c := by
  unfold Ins.ytot
  simp only [par_parity k hk c]

/-- A device's own rows, in the gathered output. -/
theorem ytot_own (c : Dev nD) (x : (Sh2 (agN 1) 1024).Idx) : (YV 1 c).view.read (Elt F) (I.ytot c) x = I.Y c x := by
  have h0 : (x 0).val < 16 := (x 0).isLt
  refine (congrArg (I.ytot c) (emb2 (blk_inb 1 c) x)).trans ?_
  unfold Ins.ytot
  have e : blk 1 c = c.val / 2 * 16 := by show c.val / 2 ^ 1 * 2 ^ 1 * 8 = _; omega
  have hc : (⟨2 * ((blk 1 c + (x 0).val) / 16) + c.val % 2, by rw [e]; have := c.isLt; show _ < 32; have : c.val < 32 := c.isLt; omega⟩ : Dev nD) = c :=
    Fin.ext (by show 2 * ((blk 1 c + (x 0).val) / 16) + c.val % 2 = c.val; rw [e]; omega)
  have hx : (ix2 (⟨(blk 1 c + (x 0).val) % 16, by omega⟩ : Fin 16) ⟨0 + (x 1).val, by rw [Nat.zero_add]; exact (x 1).isLt⟩ : S16x1024.Idx) = x := by
    funext a
    match a with
    | ⟨0, _⟩ => exact Fin.ext (by show (blk 1 c + (x 0).val) % 16 = (x 0).val; rw [e]; omega)
    | ⟨1, _⟩ => exact Fin.ext (Nat.zero_add _)
  exact (congrFun (congrArg I.Y hc) _).trans (congrArg (I.Y c) hx)

/-- One step of the gather: the device's rows go to the partner, the partner's rows arrive. -/
theorem agStep_spec (c p : Dev nD) (k : Fin 5) (hk : k ≠ 0) (hp : p = par k c) (h12 : A12.IsWhole)
    {off off' : Fin 2 → ℕ} (ho : ∀ a, off a + (Sh2 (agN k) 1024).size a ≤ S256x1024.size a)
    (ho' : ∀ a, off' a + (Sh2 (agN k) 1024).size a ≤ S256x1024.size a)
    (w : (Rect.unit (s := S256x1024) off (Sh2 (agN k) 1024).size ho).WholeWords (EltTy.packing .bf16))
    (w' : (Rect.unit (s := S256x1024) off' (Sh2 (agN k) 1024).size ho').WholeWords (EltTy.packing .bf16))
    (e : off = ![blk k c, 0]) (e' : off' = ![blk k (par k c), 0]) (n : ℕ) (hn : n + k.val = 4) (hk5 : k.val < 5) (Q : PUnit → sProp 𝕄) :
    iprop(records I K ∗ onY k c c fullShare (I.ytot c) ∗ (∃ f, onY (F := F) k c (par k c) fullShare f) ∗ Tx 2 k c ∗ owesE c (n + 1))
      ⊢ iprop(((onY k c c fullShare (I.ytot c) ∗ onY k (par k c) c fullShare (I.ytot c) ∗ Dn 2 k c ∗ owesE c n) -∗ Q ⟨⟩)
        -∗ wpc c (agStep A12 h12 cc0_scratch11 cc0_scratch12 k.val hk5 off off' ho ho' w w' p) Q) := by
  subst e e' hp
  have e0 := xs2 k false k.isLt
  have e1 := xs2 k true k.isLt
  have hl : live (2, false, k) = true := (by decide : ∀ k : Fin 5, k ≠ 0 → live (2, false, k) = true) k hk
  have hl' : live (2, true, k) = true := hl
  have hs1 : ((YV k c).view.loc (c : Thread nD τ) ↦[(YV k c).view.set]{fullShare.right} (I.ytot c) : sProp 𝕄) ⊢ sendPay 2 k c := by
    unfold sendPay onY; iintro H; iexists _; iexact H
  have hr1 (fo) : ((YV k c).view.loc (par k c : Thread nD τ) ↦[(YV k c).view.set]{fullShare}
      ((YV k c).view.write (Elt F) fo ((YV k c).view.read (Elt F) (I.ytot c)) Finset.univ) : sProp 𝕄) ⊢ recvPay I 2 k (par k c) := by
    refine Entails.of_eq ((pts_written _ (YV k c) fo (I.ytot (par k c)) _ ?_).trans ?_)
    · rw [ytot_par I k hk]
    · show _ = onY k (par k (par k c)) (par k c) fullShare (I.ytot (par k c))
      rw [par_par]; rfl
  have hx1 : xPay I (2, false, k) c = iprop(∃ f, (YV k c).view.loc (c : Thread nD τ) ↦[(YV k c).view.set]{fullShare.right} f) := rfl
  have hx2 : xPay I (2, true, k) c = onY k (par k c) c fullShare (I.ytot c) := rfl
  have hpb : pb 2 k = k := if_pos rfl
  unfold agStep Tx Dn
  simp only [Prog.lift, Prog.bind_op, Prog.bind_ret]
  rw [hpb]
  iintro ⟨#HR, Hy, ⟨%fo, Hroom⟩, ⟨⟨Ht1, Ht2⟩, ⟨Ha1, Ha2⟩, Hc2⟩, Ho⟩ Hk
  unfold onY
  ihave Hy := (pointsTo_share (PosShare.mem_left_op_right fullShare)).1 $$ Hy
  icases Hy with ⟨Hy, Hyr⟩
  iapply (send_step I K c (par k c) 2 k n hl (by rw [hpb]) e0 e1 (src := YV k c) (dst := YV k c) (fd := fo) (credit_YV k c true)
    (by rw [show 18 - n = 14 + k.val by omega]; exact due_y k hk c)
    (by rw [show 18 - n = 14 + k.val by omega]; exact dueA_y k hk) hs1 (hr1 fo)) $$ [Hyr Hroom Ho Ht1 Ht2]
  · isplitr; · iexact HR
    isplitl [Hyr]; · iexact Hyr
    isplitl [Hroom]; · iexact Hroom
    isplitl [Ho]; · iexact Ho
    isplitl [Ht1]; · iexact Ht1
    iexact Ht2
  iintro ⟨Hc1, Ho⟩
  iapply (wait_step I K c (2, false, k) n hl (by omega) e0 (credit_YV k c false) (fun s _ _ => below_send c 2 k s)) $$ [Hc1 Ho Ha1]
  · isplitr; · iexact HR
    isplitl [Hc1]; · iexact Hc1
    isplitl [Ho] <;> iassumption
  iintro ⟨Ho, Hz1, Hp1⟩
  iapply (wait_step I K c (2, true, k) n hl' (by omega) e1 (credit_YV k (par k c) true)
    (fun s h1 h2 => below_y c k s (by omega) h2)) $$ [Hc2 Ho Ha2]
  · isplitr; · iexact HR
    isplitl [Hc2]; · iexact Hc2
    isplitl [Ho] <;> iassumption
  iintro ⟨Ho, Hz2, Hp2⟩
  ihave Hp1 := (Entails.of_eq hx1) $$ Hp1
  ihave Hp2 := (Entails.of_eq hx2) $$ Hp2
  icases Hp1 with ⟨%g1, Hp1⟩
  ihave Hy := (rejoin (ℓ := (YV k c).view.loc (c : Thread nD τ)) (YV k c).view.set (I.ytot c) g1) $$ [Hy Hp1]
  · isplitl [Hy] <;> iassumption
  iapply (wpc_ret c _ Q)
  iapply Hk
  isplitl [Hy]; · iexact Hy
  isplitl [Hp2]; · unfold onY; iexact Hp2
  isplitl [Hz1 Hz2]
  · isplitl [Hz1] <;> iassumption
  iexact Ho

/-- What the copy of the device's own rows needs. -/
def Cp (c : Dev nD) : sProp 𝕄 := iprop(dutyTok ER (cc c) 0 0 ∗ atPos ER (cc c) 0 ∅ 0)

abbrev A2 : Memref sig .tc .vmem S1024x1024 .bf16 := Memref.whole cc0_stg2_0
abbrev A5 : Memref sig .tc .vmem S1x256x1024 .f32 := Memref.whole cc0_stg5_0

/-- The output rows the device computes, in their place. -/
theorem project_spec (c : Dev nD) (h11 : A11.IsWhole) (h12 : A12.IsWhole) {off : Fin 2 → ℕ}
    (ho : ∀ a, off a + (Sh2 16 1024).size a ≤ S256x1024.size a)
    (w : (Rect.unit (s := S256x1024) off (Sh2 16 1024).size ho).WholeWords (EltTy.packing .bf16))
    (e : off = ![blk 1 c, 0]) (Q : PUnit → sProp 𝕄) :
    iprop(records I K ∗ quot I c ∗ (A2.view.loc (c : Thread nD τ) ↦{fullShare} I.wo c) ∗ (∃ f, A11.view.loc (c : Thread nD τ) ↦{fullShare} f)
        ∗ (∃ f, onY (F := F) 1 c c fullShare f) ∗ Cp c ∗ owesE c 4)
      ⊢ iprop((((∃ f6, A6.view.loc (c : Thread nD τ) ↦{fullShare} f6) ∗ (A2.view.loc (c : Thread nD τ) ↦{fullShare} I.wo c)
          ∗ (∃ f, A11.view.loc (c : Thread nD τ) ↦{fullShare} f) ∗ onY 1 c c fullShare (I.ytot c) ∗ semVal (cc c) 0 ∗ owesE c 4) -∗ Q ⟨⟩)
        -∗ wpc c (project A2 A6 A11 h11 A12 h12 cc0_scratch13 off ho w) Q) := by
  subst e
  unfold project quot Cp owesE
  simp only [Prog.lift, Prog.bind_op, Prog.bind_ret]
  iintro ⟨#HR, ⟨%f6, %hf, H6⟩, H2, ⟨%f11, H11⟩, ⟨%fy, Hy⟩, ⟨Ht, Hat⟩, ⟨%W, Ho⟩⟩ Hk
  iapply (load_all c A6) $$ H6; iintro H6
  iapply (load_all c A2) $$ H2; iintro H2
  iapply (load_all c A11) $$ H11; iintro H11
  iapply (store_at c A11) $$ H11; iintro H11
  have hy : yOwn (A6.view.readAt (Elt F) (Rect.unit (s := S256x1024) ![0, 0] S16x1024.size (inb2 (by omega) (by omega))).toLoadRect f6)
      (A2.view.readAt (Elt F) (Rect.unit (s := S1024x1024) ![0, 0] S1024x1024.size inb_S1024x1024_S1024x1024_0_0).toLoadRect (I.wo c)) = I.Y c := by
    unfold Ins.Y
    congr 1
    · funext x
      refine (readAt2 (Val := Elt F) A6.view f6 _ x).trans ?_
      have h0 : (x 0).val < 16 := (x 0).isLt
      rw [hf _ _ (by show 0 + (x 0).val < 16; omega)]
      exact congrArg₂ (I.D c) (congrArg (base 4 c + ·) (Nat.zero_add _)) (Nat.zero_add _)
    · exact Memref.readAt_unit_zero (Elt F) cc0_stg2_0 zero2 _ _
  have hw : ((A11.view.slice (Rect.unit (s := S16x1024) ![0, 0] S16x1024.size inb_S16x1024_S16x1024_0_0)).write (Elt F) f11
      (shapeCast S16x1024 (yOwn (A6.view.readAt (Elt F) (Rect.unit (s := S256x1024) ![0, 0] S16x1024.size (inb2 (by omega) (by omega))).toLoadRect f6)
      (A2.view.readAt (Elt F) (Rect.unit (s := S1024x1024) ![0, 0] S1024x1024.size inb_S1024x1024_S1024x1024_0_0).toLoadRect (I.wo c))) rfl) Finset.univ)
      = I.Y c := by
    rw [hy]
    exact (Memref.write_access_unit_zero_univ (Elt F) cc0_scratch5 zero2 _ _ _).trans (shapeCast_self _ _)
  ihave H11 := (Entails.of_eq (congrArg (fun f => (A11.view.loc (c : Thread nD τ) ↦{fullShare} f : sProp 𝕄)) hw)) $$ H11
  have hset : A11.view.set = Finset.univ := View.set_whole _
  have hpay : iprop(((YV 1 c).view.loc (c : Thread nD τ) ↦[(YV 1 c).view.set]{fullShare} ((YV 1 c).view.write (Elt F) fy (A11.view.read (Elt F) (I.Y c)) Finset.univ))
      ∗ (A11.view.loc (c : Thread nD τ) ↦[A11.view.set]{fullShare} I.Y c)) ⊢ (sched I).payload (cc c) 0 0 := by
    rw [payload_cp]
    unfold cpPay onY
    iintro ⟨H1, H2⟩
    isplitl [H1]
    · iapply (Entails.of_eq (pts_written c (YV 1 c) fy (I.ytot c) _ (funext fun x => ytot_own I c x))); iexact H1
    iexists _; iexact H2
  have hd : (0 : Fin 5) ∈ (sched I).duties (cc c) 0 := by rw [duties_cp I c]; exact Finset.mem_singleton_self _
  unfold onY
  iapply (Rounds.wp_copy_pointsTo 𝒱₀ ER (sched I) (c : Thread nD τ) none (κ := K (c, 30)) (r := 0) (d := 0) (fd := fy) (fs := I.Y c) (q := fullShare)
    (src := A11) (dst := YV 1 c) hd () cpN rfl (amount_cp I c 0) hpay) $$ [H11 Hy Ht]
  · isplitr; · iapply (inv_at I K (c, 30)); iexact HR
    isplitl [H11]; · rw [hset]; iexact H11
    isplitl [Hy]; · iexact Hy
    isplitl [Ht]; · iexact Ht
    iapply (reached_at I K (c, 30)); iexact HR
  iintro Hc
  iapply (Rounds.wp_wait_rest_token 𝒱₀ ER (sched I) (c : Thread nD τ) none (κ := K (c, 30))
      (wpE_waitDma2_eq 𝒱₀ (c : Thread nD τ) none Set.univ) (Set.mem_univ _) () (O := owed c 4) (W := W) (R := 0) (m := 0) (T := ∅)
      (by rw [Nat.zero_add]; exact (expect_cp I c).symm)) $$ [Hc Ho Hat]
  · isplitr; · iapply (inv_at I K (c, 30)); iexact HR
    isplitl [Hc]; · iexact Hc
    isplitl [Ho]; · iexact Ho
    isplitr
    · iapply (wait_at I K c (.dma cpS) 4 (by omega) (fun s _ _ => by
        have : lv (cc c) () = 0 := by dsimp only [lv]; rw [decode_cp]
        rw [this]; unfold dueLv; (repeat' split) <;> omega)); iexact HR
    iexact Hat
  iintro ⟨Ho, Hat, -, Hpay⟩
  ihave Hp := (Entails.of_eq (rest_cp I c)) $$ Hpay
  imod (Rounds.cell_close ER (sched I) (Set.mem_univ (K (c, 30))) (fun h => h) (R := 0 + 1) (duties_later I (cc c))) $$ [Hat] with Hz
  · isplitr; · iapply (inv_at I K (c, 30)); iexact HR
    iexact Hat
  iapply (wpc_ret c _ Q)
  iapply Hk
  unfold cpPay onY
  icases Hp with ⟨Hy, ⟨%g11, H11⟩⟩
  isplitl [H6]; · iexists _; iexact H6
  isplitl [H2]; · iexact H2
  isplitl [H11]; · iexists g11; rw [hset]; iexact H11
  isplitl [Hy]; · iexact Hy
  isplitl [Hz]; · iexact Hz
  iexists _; iexact Ho

/-- The gathered rows, widened into the result. -/
theorem emitOut_spec (c : Dev nD) (Q : PUnit → sProp 𝕄) :
    iprop((A12.view.loc (c : Thread nD τ) ↦{fullShare} I.ytot c) ∗ (∃ f, A5.view.loc (c : Thread nD τ) ↦{fullShare} f))
      ⊢ iprop((((A12.view.loc (c : Thread nD τ) ↦{fullShare} I.ytot c) ∗ (A5.view.loc (c : Thread nD τ) ↦{fullShare} I.out c)) -∗ Q ⟨⟩)
        -∗ wpc c (emitOut A5 A12) Q) := by
  unfold emitOut
  simp only [Prog.lift, Prog.bind_op, Prog.bind_ret]
  iintro ⟨H12, ⟨%f5, H5⟩⟩ Hk
  iapply (load_all c A12) $$ H12; iintro H12
  iapply (load_all c A5) $$ H5; iintro H5
  iapply (store_at c A5) $$ H5; iintro H5
  have e1 : A12.view.readAt (Elt F) (Rect.unit (s := S256x1024) ![0, 0] S256x1024.size (inb2 (by omega) (by omega))).toLoadRect (I.ytot c) = I.ytot c :=
    Memref.readAt_unit_zero (Elt F) cc0_scratch6 zero2 _ _
  rw [e1]
  have hw : ((A5.view.slice (Rect.unit (s := S1x256x1024) ![0, 0, 0] S1x256x1024.size inb_S1x256x1024_S1x256x1024_0_0_0)).write (Elt F) f5
      (shapeCast S1x256x1024 (extf .f32 (I.ytot c : FVec F S256x1024 .bf16) bitsLt_bf16_f32) shapeCasts_S256x1024_S1x256x1024) Finset.univ) = I.out c :=
    Memref.write_access_unit_zero_univ (Elt F) cc0_stg5_0 zero3 _ _ _
  ihave H5 := (Entails.of_eq (congrArg (fun f => (A5.view.loc (c : Thread nD τ) ↦{fullShare} f : sProp 𝕄)) hw)) $$ H5
  iapply (wpc_ret c _ Q)
  iapply Hk
  isplitl [H12] <;> iassumption

end Cert.KernelIdeal.Flash
-- ==== Proof.Flash.Parts.lean ====
/- The landing buffers by round and the gathered output by blocks. -/
module

public import proofs.«01_k».proof.Proof.Flash.Gather

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## A whole buffer as disjoint parts and the rest -/

section Parts
variable {ℓ : Loc nD τ sig} (S : Fin 5 → Finset (Idx ℓ)) (hS : ∀ k k' : Fin 5, k ≠ k' → Disjoint (S k) (S k'))

/-- The elements in none of the parts. -/
def others : Finset (Idx ℓ) := Finset.univ \ Finset.univ.biUnion S

include hS in
theorem split_parts :
    (iprop(∃ f : Buf (Elt F) ℓ, ℓ ↦{fullShare} f) : sProp 𝕄)
      ⊢ iprop((bigSep Finset.univ fun k => iprop(∃ f : Buf (Elt F) ℓ, ℓ ↦[S k]{fullShare} f)) ∗ ∃ f : Buf (Elt F) ℓ, ℓ ↦[others S]{fullShare} f) := by
  iintro ⟨%f, H⟩
  ihave H := (pointsTo_split_subset (Finset.subset_univ (Finset.univ.biUnion S))).1 $$ H
  icases H with ⟨H1, H2⟩
  isplitl [H1]
  · have h : (ℓ ↦[Finset.univ.biUnion S]{fullShare} f : sProp 𝕄)
        ⊢ bigSep Finset.univ fun k => iprop(∃ f : Buf (Elt F) ℓ, ℓ ↦[S k]{fullShare} f) := by
      rw [pointsTo_biUnion Finset.univ S (fun t _ t' _ h => hS t t' h)]
      have h1 : ∀ k : Fin 5, (ℓ ↦[S k]{fullShare} f : sProp 𝕄) ⊢ iprop(∃ f : Buf (Elt F) ℓ, ℓ ↦[S k]{fullShare} f) := fun k => by
        iintro H; iexists f; iexact H
      exact bigSep_mono fun k _ => h1 k
    iapply h; iexact H1
  iexists f; iexact H2

include hS in
theorem join_parts :
    (iprop((bigSep Finset.univ fun k => iprop(∃ f : Buf (Elt F) ℓ, ℓ ↦[S k]{fullShare} f)) ∗ ∃ f : Buf (Elt F) ℓ, ℓ ↦[others S]{fullShare} f) : sProp 𝕄)
      ⊢ iprop(∃ f : Buf (Elt F) ℓ, ℓ ↦{fullShare} f) := by
  iintro ⟨H1, ⟨%f, H2⟩⟩
  ihave H1 := (BI.bigSep_exists_pi Finset.univ (fun (k : Fin 5) (f : Buf (Elt F) ℓ) => (ℓ ↦[S k]{fullShare} f : sProp 𝕄))) $$ H1
  icases H1 with ⟨%fs, H1⟩
  ihave H1 := (pointsTo_biUnion_join Finset.univ S fs f (fun t _ t' _ h => hS t t' h)) $$ H1
  icases H1 with ⟨%g, -, H1⟩
  iexists ((Finset.univ.biUnion S).piecewise g f)
  iapply (pointsTo_join_subset (ℓ := ℓ) (q := fullShare) (g := g) (f := f) (Finset.subset_univ (Finset.univ.biUnion S)))
  isplitl [H1]; · iexact H1
  unfold others; iexact H2

end Parts

/-! ## The landing buffers -/

theorem mem_LO (k : Fin 5) {x : S5x128x1024.Idx} (h : x ∈ (LO k).view.set) : (x 0).val = k.val := by
  have e : ((LO k).view.set : Finset S5x128x1024.Idx) = (Rect.unit (s := S5x128x1024) ![k.val, 0, 0] (Sh3 1 (nr k) 1024).size
      (inb3 (by have := (geo k 0).hk; omega) (by have := (geo k 0).hn; omega) (by omega))).set :=
    (View.set_reshape _ _).trans (View.set_slice_whole _ _)
  have h2 := Rect.mem_set_unit.1 ((Finset.ext_iff.1 e x).1 h) (0 : Fin 3)
  have h3 : k.val ≤ (x 0).val ∧ (x 0).val < k.val + 1 := h2
  omega

theorem mem_LM (k : Fin 5) {x : S5x128x16.Idx} (h : x ∈ (LM k).view.set) : (x 0).val = k.val := by
  have e : ((LM k).view.set : Finset S5x128x16.Idx) = (Rect.unit (s := S5x128x16) ![k.val, 0, 0] (Sh3 1 (nr k) 16).size
      (inb3 (by have := (geo k 0).hk; omega) (by have := (geo k 0).hn; omega) (by omega))).set :=
    (View.set_reshape _ _).trans (View.set_slice_whole _ _)
  have h2 := Rect.mem_set_unit.1 ((Finset.ext_iff.1 e x).1 h) (0 : Fin 3)
  have h3 : k.val ≤ (x 0).val ∧ (x 0).val < k.val + 1 := h2
  omega

theorem LO_disjoint (k k' : Fin 5) (h : k ≠ k') : Disjoint (LO k).view.set (LO k').view.set :=
  Finset.disjoint_left.2 fun x hx hx' => h (Fin.ext ((mem_LO k hx).symm.trans (mem_LO k' hx')))
theorem LM_disjoint (k k' : Fin 5) (h : k ≠ k') : Disjoint (LM k).view.set (LM k').view.set :=
  Finset.disjoint_left.2 fun x hx hx' => h (Fin.ext ((mem_LM k hx).symm.trans (mem_LM k' hx')))

/-- The elements of the landing buffers in no round's rows. -/
def rest9 (c : Dev nD) : sProp 𝕄 :=
  iprop(∃ f : Buf (Elt F) (A9.view.loc (c : Thread nD τ)), A9.view.loc (c : Thread nD τ) ↦[others (ℓ := A9.view.loc (c : Thread nD τ)) fun k => (LO k).view.set]{fullShare} f)
def rest10 (c : Dev nD) : sProp 𝕄 :=
  iprop(∃ f : Buf (Elt F) (A10.view.loc (c : Thread nD τ)), A10.view.loc (c : Thread nD τ) ↦[others (ℓ := A10.view.loc (c : Thread nD τ)) fun k => (LM k).view.set]{fullShare} f)

theorem split_LO (c : Dev nD) : (iprop(∃ f, A9.view.loc (c : Thread nD τ) ↦{fullShare} f) : sProp 𝕄)
    ⊢ iprop((bigSep Finset.univ fun k => iprop(∃ f, onLO (F := F) k c f)) ∗ rest9 c) :=
  split_parts (ℓ := A9.view.loc (c : Thread nD τ)) (fun k => (LO k).view.set) LO_disjoint
theorem join_LO (c : Dev nD) : (iprop((bigSep Finset.univ fun k => iprop(∃ f, onLO (F := F) k c f)) ∗ rest9 c) : sProp 𝕄)
    ⊢ iprop(∃ f, A9.view.loc (c : Thread nD τ) ↦{fullShare} f) :=
  join_parts (ℓ := A9.view.loc (c : Thread nD τ)) (fun k => (LO k).view.set) LO_disjoint
theorem split_LM (c : Dev nD) : (iprop(∃ f, A10.view.loc (c : Thread nD τ) ↦{fullShare} f) : sProp 𝕄)
    ⊢ iprop((bigSep Finset.univ fun k => iprop(∃ f, onLM (F := F) k c f)) ∗ rest10 c) :=
  split_parts (ℓ := A10.view.loc (c : Thread nD τ)) (fun k => (LM k).view.set) LM_disjoint
theorem join_LM (c : Dev nD) : (iprop((bigSep Finset.univ fun k => iprop(∃ f, onLM (F := F) k c f)) ∗ rest10 c) : sProp 𝕄)
    ⊢ iprop(∃ f, A10.view.loc (c : Thread nD τ) ↦{fullShare} f) :=
  join_parts (ℓ := A10.view.loc (c : Thread nD τ)) (fun k => (LM k).view.set) LM_disjoint

/-! ## The gathered output by blocks -/

/-- The rows of the gathered output from `a`, `n` of them. -/
def rowsOf (a n : ℕ) : Finset S256x1024.Idx := Finset.univ.filter fun x => a ≤ (x 0).val ∧ (x 0).val < a + n

/-- On device `c`, rows of the gathered output. -/
def Yrows (c : Dev nD) (a n : ℕ) (f : Buf (Elt F) (A12.view.loc (c : Thread nD τ))) : sProp 𝕄 :=
  A12.view.loc (c : Thread nD τ) ↦[(rowsOf a n : Finset (Idx (A12.view.loc (c : Thread nD τ))))]{fullShare} f

theorem YV_set (k : Fin 5) (e : Dev nD) : (YV k e).view.set = rowsOf (blk k e) (agN k) := by
  refine (View.set_slice_whole _ _).trans (Finset.ext fun x => ?_)
  refine Rect.mem_set_unit.trans ?_
  unfold rowsOf
  rw [Finset.mem_filter]
  constructor
  · intro h; exact ⟨Finset.mem_univ _, h (0 : Fin 2)⟩
  · rintro ⟨-, h⟩ a
    match a with
    | ⟨0, _⟩ => exact h
    | ⟨1, _⟩ => exact ⟨Nat.zero_le _, lt_of_lt_of_eq (x 1).isLt (Nat.zero_add _).symm⟩

theorem onY_rows (k : Fin 5) (e c : Dev nD) (f) : onY (F := F) k e c fullShare f = Yrows c (blk k e) (agN k) f := by
  unfold onY Yrows
  exact congrArg (fun S => (A12.view.loc (c : Thread nD τ) ↦[S]{fullShare} f : sProp 𝕄)) (YV_set k e)

theorem Yrows_all (c : Dev nD) (f) : Yrows (F := F) c 0 256 f = (A12.view.loc (c : Thread nD τ) ↦{fullShare} f) := by
  unfold Yrows
  refine congrArg (fun S => (A12.view.loc (c : Thread nD τ) ↦[S]{fullShare} f : sProp 𝕄)) ?_
  refine Finset.ext fun x => ?_
  unfold rowsOf
  rw [Finset.mem_filter]
  exact ⟨fun _ => Finset.mem_univ _, fun _ => ⟨Finset.mem_univ _, Nat.zero_le _, (x 0).isLt⟩⟩

/-- Neighbouring rows in one. -/
theorem Yrows_append (c : Dev nD) (a n : ℕ) (f) :
    Yrows (F := F) c a (n + n) f ⊣⊢ iprop(Yrows c a n f ∗ Yrows c (a + n) n f) := by
  unfold Yrows
  have hd : Disjoint (rowsOf a n) (rowsOf (a + n) n) := Finset.disjoint_left.2 fun x h1 h2 => by
    have := (Finset.mem_filter.1 h1).2; have := (Finset.mem_filter.1 h2).2; omega
  have hu : rowsOf a (n + n) = rowsOf a n ∪ rowsOf (a + n) n := Finset.ext fun x => by
    unfold rowsOf
    rw [Finset.mem_union, Finset.mem_filter, Finset.mem_filter, Finset.mem_filter]
    constructor
    · rintro ⟨h, h1, h2⟩
      by_cases h3 : (x 0).val < a + n
      · exact Or.inl ⟨h, h1, h3⟩
      · exact Or.inr ⟨h, by omega, by omega⟩
    · rintro (⟨h, h1, h2⟩ | ⟨h, h1, h2⟩)
      · exact ⟨h, by omega, by omega⟩
      · exact ⟨h, by omega, by omega⟩
  rw [hu]
  exact pointsTo_union (ℓ := A12.view.loc (c : Thread nD τ)) hd

theorem blk_step (k : Fin 5) (hk : k ≠ 0) (c : Dev nD) :
    (blk (k + 1) c = blk k c ∧ blk k (par k c) = blk k c + agN k) ∨ (blk (k + 1) c = blk k (par k c) ∧ blk k c = blk k (par k c) + agN k) := by
  revert hk; revert k c; decide

/-- What a device holds after a step: its rows and its partner's. -/
theorem onY_step (k : Fin 5) (hk : k ≠ 0) (c : Dev nD) (f) :
    Yrows (F := F) c (blk (k + 1) c) (agN (k + 1)) f ⊣⊢ iprop(onY k c c fullShare f ∗ onY k (par k c) c fullShare f) := by
  have hn : agN (k.val + 1) = agN k + agN k := by unfold agN; omega
  rw [onY_rows, onY_rows, hn]
  rcases blk_step k hk c with ⟨h1, h2⟩ | ⟨h1, h2⟩
  · rw [h1, h2]; exact Yrows_append c _ _ f
  · rw [h1, h2]
    exact ⟨(Yrows_append c _ _ f).1.trans sep_comm.1, sep_comm.1.trans (Yrows_append c _ _ f).2⟩

theorem blk_top (c : Dev nD) : blk 5 c = 0 := by revert c; decide

/-- The whole of the gathered output is the device's own rows and its four partners'. -/
theorem split_Y (c : Dev nD) : (iprop(∃ f, A12.view.loc (c : Thread nD τ) ↦{fullShare} f) : sProp 𝕄)
    ⊢ iprop((∃ f, onY (F := F) 1 c c fullShare f) ∗ (∃ f, onY (F := F) 1 (par 1 c) c fullShare f) ∗ (∃ f, onY (F := F) 2 (par 2 c) c fullShare f)
      ∗ (∃ f, onY (F := F) 3 (par 3 c) c fullShare f) ∗ ∃ f, onY (F := F) 4 (par 4 c) c fullShare f) := by
  iintro ⟨%f, H⟩
  ihave H := (Entails.of_eq (show (A12.view.loc (c : Thread nD τ) ↦{fullShare} f : sProp 𝕄) = Yrows c (blk ((4 : Fin 5).val + 1) c) (agN ((4 : Fin 5).val + 1)) f from
    (Yrows_all c f).symm.trans (congrArg (fun a => Yrows c a 256 f) (blk_top c).symm))) $$ H
  ihave H := (onY_step 4 (by decide) c f).1 $$ H
  icases H with ⟨H, H4⟩
  ihave H := ((Entails.of_eq (onY_rows 4 c c f)).trans (onY_step 3 (by decide) c f).1) $$ H
  icases H with ⟨H, H3⟩
  ihave H := ((Entails.of_eq (onY_rows 3 c c f)).trans (onY_step 2 (by decide) c f).1) $$ H
  icases H with ⟨H, H2⟩
  ihave H := ((Entails.of_eq (onY_rows 2 c c f)).trans (onY_step 1 (by decide) c f).1) $$ H
  icases H with ⟨H, H1⟩
  isplitl [H]; · iexists f; iexact H
  isplitl [H1]; · iexists f; iexact H1
  isplitl [H2]; · iexists f; iexact H2
  isplitl [H3]; · iexists f; iexact H3
  iexists f; iexact H4

/-- Two steps' rows are the next step's. -/
theorem grow_Y (k k' : Fin 5) (hk : k ≠ 0) (h : k'.val = k.val + 1) (c : Dev nD) (f) :
    iprop(onY k c c fullShare f ∗ onY k (par k c) c fullShare f) ⊢ onY (F := F) k' c c fullShare f := by
  refine (onY_step k hk c f).2.trans (Entails.of_eq ?_)
  rw [onY_rows, h]
theorem full_Y (c : Dev nD) (f) :
    iprop(onY 4 c c fullShare f ∗ onY 4 (par 4 c) c fullShare f) ⊢ (A12.view.loc (c : Thread nD τ) ↦{fullShare} f : sProp 𝕄) := by
  refine (onY_step 4 (by decide) c f).2.trans (Entails.of_eq ?_)
  exact (congrArg (fun a => Yrows c a 256 f) (blk_top c)).trans (Yrows_all c f)

end Cert.KernelIdeal.Flash
-- ==== Proof.Flash.Attend.lean ====
/- The local attention: each device's numerators, maxima and denominators over its own keys. -/
module

public import proofs.«01_k».proof.Proof.Flash.Round

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the accumulators hold while the local attention runs, heads below `h` done. -/
structure Attended (h : ℕ) (o ml : ℕ → ℕ → F .f32)
    (X6 : (Sh2 256 1024).Idx → F .f32) (X7 : (Sh2 256 16).Idx → F .f32) : Prop where
  o : ∀ (i : Fin 256) (j : Fin 1024), j.val / 128 < h → X6 (ix2 i j) = o i j
  ml : ∀ (i : Fin 256) (j : Fin 16), j.val % 8 < h → X7 (ix2 i j) = ml i j

/-- The entries after one head's three stores. -/
theorem attended_next (q : FVec F S256x1024 .f32) (kk vv : FVec F S4096x2x128 .bf16) (h : ℕ) (hh : h < 8)
    (v6 : View sig .tc .vmem S256x1024 .f32) (v7 : View sig .tc .vmem S256x16 .f32)
    {f6 : v6.ty.Contents (Elt F)} {f7 : v7.ty.Contents (Elt F)}
    (hM : Attended h (attRow q kk vv) (attRowML q kk) (v6.read (Elt F) f6) (v7.read (Elt F) f7))
    (i1 : ∀ a, (![0, h * 128] : Fin 2 → ℕ) a + (Sh2 256 128).size a ≤ (Sh2 256 1024).size a)
    (i2 : ∀ a, (![0, h] : Fin 2 → ℕ) a + (Sh2 256 1).size a ≤ (Sh2 256 16).size a)
    (i3 : ∀ a, (![0, 8 + h] : Fin 2 → ℕ) a + (Sh2 256 1).size a ≤ (Sh2 256 16).size a) :
    Attended (h + 1) (attRow q kk vv) (attRowML q kk)
      (v6.read (Elt F) ((v6.slice (Rect.unit (s := Sh2 256 1024) ![0, h * 128] (Sh2 256 128).size i1)).write (Elt F) f6
        (shapeCast (Sh2 256 128) (attO q kk vv h hh) rfl) Finset.univ))
      (v7.read (Elt F) ((v7.slice (Rect.unit (s := Sh2 256 16) ![0, 8 + h] (Sh2 256 1).size i3)).write (Elt F)
        ((v7.slice (Rect.unit (s := Sh2 256 16) ![0, h] (Sh2 256 1).size i2)).write (Elt F) f7
          (shapeCast (Sh2 256 1) (attM q kk h hh) rfl) Finset.univ)
        (shapeCast (Sh2 256 1) (attL q kk h hh) rfl) Finset.univ)) := by
  refine ⟨fun i j hj => ?_, fun i j hj => ?_⟩
  · by_cases hjh : j.val / 128 = h
    · subst hjh
      rw [write2_in v6 f6 i1 _ i j i ⟨j.val % 128, by omega⟩ (by simp) (by simp; omega), cast2]
      have e1 : j.val / 128 % 8 = j.val / 128 := by omega
      have e2 : (⟨i.val % 256, by omega⟩ : Fin 256) = i := Fin.ext (Nat.mod_eq_of_lt i.isLt)
      unfold attRow
      rw [e2]
      congr 1
      simp only [e1]
    · rw [write2_out v6 f6 i1 _ i j (by omega)]
      exact hM.o i j (by omega)
  · have e2 : (⟨i.val % 256, by omega⟩ : Fin 256) = i := Fin.ext (Nat.mod_eq_of_lt i.isLt)
    by_cases hjh : j.val % 8 = h
    · subst hjh
      unfold attRowML
      by_cases h8 : j.val < 8
      · rw [write2_out v7 _ i3 _ i j (by omega), write2_in v7 _ i2 _ i j i 0 (by simp) (by simp; omega), cast2, if_pos h8, e2]
      · rw [write2_in v7 _ i3 _ i j i 0 (by simp) (by simp; omega), cast2, if_neg h8, e2]
    · rw [write2_out v7 _ i3 _ i j (by omega), write2_out v7 _ i2 _ i j (by omega)]
      exact hM.ml i j (by omega)

section Head
variable (a6 : Memref sig .tc .vmem S256x1024 .f32) (a7 : Memref sig .tc .vmem S256x16 .f32)

/-- One head of the local attention. -/
theorem headStore_spec (c : Dev nD) (q : FVec F S256x1024 .f32) (kk vv : FVec F S4096x2x128 .bf16) (h : ℕ) (hh : h < 8)
    {f6 : Buf (Elt F) (a6.view.loc (c : Thread nD τ))} {f7 : Buf (Elt F) (a7.view.loc (c : Thread nD τ))}
    (hM : Attended h (attRow q kk vv) (attRowML q kk) (a6.view.read (Elt F) f6) (a7.view.read (Elt F) f7))
    (Q : PUnit → sProp 𝕄) :
    iprop((a6.view.loc (c : Thread nD τ) ↦{fullShare} f6) ∗ (a7.view.loc (c : Thread nD τ) ↦{fullShare} f7))
      ⊢ iprop((∀ f6' f7', ⌜Attended (h + 1) (attRow q kk vv) (attRowML q kk) (a6.view.read (Elt F) f6') (a7.view.read (Elt F) f7')⌝ -∗
          ((a6.view.loc (c : Thread nD τ) ↦{fullShare} f6') ∗ (a7.view.loc (c : Thread nD τ) ↦{fullShare} f7')) -∗ Q ⟨⟩)
        -∗ wpc c (headStore a6 a7 q kk vv h hh) Q) := by
  unfold headStore
  simp only [Prog.lift, Prog.bind_op, Prog.bind_ret]
  iintro ⟨H6, H7⟩ Hk
  iapply (load_all c a6) $$ H6; iintro H6
  iapply (store_at c a6) $$ H6; iintro H6
  iapply (load_all c a7) $$ H7; iintro H7
  iapply (store_at c a7) $$ H7; iintro H7
  iapply (load_all c a7) $$ H7; iintro H7
  iapply (store_at c a7) $$ H7; iintro H7
  iapply (wpc_ret c _ Q)
  iapply Hk $$ %_ %_ [] [H6 H7]
  rotate_left
  · isplitl [H6] <;> iassumption
  ipureintro
  exact attended_next q kk vv h hh a6.view a7.view hM _ _ _

end Head

variable (I : Ins F)

/-- The whole local attention: the state before round 0. -/
theorem attend_spec (c : Dev nD) (Q : PUnit → sProp 𝕄) :
    iprop((∃ f6, A6.view.loc (c : Thread nD τ) ↦{fullShare} f6) ∗ (∃ f7, A7.view.loc (c : Thread nD τ) ↦{fullShare} f7))
      ⊢ iprop((acc I 256 0 c -∗ Q ⟨⟩) -∗ wpc c (attend A6 A7 (I.q c) (I.keys c) (I.vals c)) Q) := by
  unfold attend
  iintro ⟨⟨%f6, H6⟩, ⟨%f7, H7⟩⟩ Hk
  have hM : Attended 0 (attRow (I.q c) (I.keys c) (I.vals c)) (attRowML (I.q c) (I.keys c)) (A6.view.read (Elt F) f6) (A7.view.read (Elt F) f7) :=
    ⟨fun i j hj => absurd hj (Nat.not_lt_zero _), fun i j hj => absurd hj (Nat.not_lt_zero _)⟩
  rw [wpc_bind]
  iapply (headStore_spec A6 A7 c (I.q c) (I.keys c) (I.vals c) 0 _ hM _) $$ [H6 H7]
  · isplitl [H6] <;> iassumption
  iintro %g6 %g7 %hM Hres
  rw [wpc_bind]; iapply (headStore_spec A6 A7 c (I.q c) (I.keys c) (I.vals c) 1 _ hM _) $$ Hres; iintro %g6 %g7 %hM Hres
  rw [wpc_bind]; iapply (headStore_spec A6 A7 c (I.q c) (I.keys c) (I.vals c) 2 _ hM _) $$ Hres; iintro %g6 %g7 %hM Hres
  rw [wpc_bind]; iapply (headStore_spec A6 A7 c (I.q c) (I.keys c) (I.vals c) 3 _ hM _) $$ Hres; iintro %g6 %g7 %hM Hres
  rw [wpc_bind]; iapply (headStore_spec A6 A7 c (I.q c) (I.keys c) (I.vals c) 4 _ hM _) $$ Hres; iintro %g6 %g7 %hM Hres
  rw [wpc_bind]; iapply (headStore_spec A6 A7 c (I.q c) (I.keys c) (I.vals c) 5 _ hM _) $$ Hres; iintro %g6 %g7 %hM Hres
  rw [wpc_bind]; iapply (headStore_spec A6 A7 c (I.q c) (I.keys c) (I.vals c) 6 _ hM _) $$ Hres; iintro %g6 %g7 %hM Hres
  iapply (headStore_spec A6 A7 c (I.q c) (I.keys c) (I.vals c) 7 _ hM _) $$ Hres; iintro %g6 %g7 %hM Hres
  iapply Hk
  unfold acc
  icases Hres with ⟨H6, H7⟩
  iexists g6; iexists g7
  isplitr
  · ipureintro
    refine ⟨fun i j _ => (hM.o i j (by omega)).trans ?_, fun i j _ => (hM.ml i j (by omega)).trans ?_⟩
    · show _ = attRow (I.q c) (I.keys c) (I.vals c) (0 + i.val) j.val
      rw [Nat.zero_add]
    · show _ = attRowML (I.q c) (I.keys c) (0 + i.val) j.val
      rw [Nat.zero_add]
  isplitl [H6] <;> iassumption

end Cert.KernelIdeal.Flash
-- ==== Proof.Flash.RoundSeq.lean ====
/- The five rounds in sequence, for the conditions and partners as printed. -/
module

public import proofs.«01_k».proof.Proof.Flash.Parts
public import proofs.«01_k».proof.Proof.Flash.Attend
public import proofs.«01_k».proof.Proof.Flash.CanonBody

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CI → ℕ)

/-- A round whose row counts and places are given by their values. -/
theorem round_specE (c p p' : Dev nD) (k : Fin 5) {m kk soff koff : ℕ} (hm : m = nr k) (hkk : kk = k.val) (hs : soff = soffF k c) (ho : koff = koffF k c)
    (hp : p = par (rb k) c) (hp' : p' = par (rb k) c)
    (g : Geo m kk soff koff) (h8 : A8.IsWhole) (h9 : A9.IsWhole) (n : ℕ) (hn : n + 2 * k.val = 12) (Q : PUnit → sProp 𝕄) :
    iprop(records I K ∗ acc I (held k) k c ∗ (∃ f8, A8.view.loc (c : Thread nD τ) ↦{fullShare} f8) ∗ toSend k c ∗ owesE c (n + 2))
      ⊢ iprop(((acc I (nr k) (k + 1) c ∗ (∃ f8, A8.view.loc (c : Thread nD τ) ↦{fullShare} f8) ∗ landed I k c ∗ owesE c n) -∗ Q ⟨⟩)
        -∗ wpc c (round A6 A7 A8 h8 A9 h9 A10 cc0_scratch7 cc0_scratch8 cc0_scratch9 cc0_scratch10 g p p') Q) := by
  subst hm hkk hs ho
  exact round_spec I K c p p' k hp hp' g h8 h9 n hn Q

theorem wpc_runIf_pos {α : Type} (c : Dev nD) {P : Prop} [Decidable P] (h : P) (A : P → Prog (TpuEff nD τ sig (Elt F) Λ₀ .tc) PUnit)
    (rest : Prog (TpuEff nD τ sig (Elt F) Λ₀ .tc) α) (Q : α → sProp 𝕄) :
    wpc c (A h) (fun _ => wpc c rest Q) ⊢ wpc c (runIf P A rest) Q := by
  unfold runIf; rw [dif_pos h, wpc_bind]
theorem wpc_runIf_neg {α : Type} (c : Dev nD) {P : Prop} [Decidable P] (h : ¬ P) (A : P → Prog (TpuEff nD τ sig (Elt F) Λ₀ .tc) PUnit)
    (rest : Prog (TpuEff nD τ sig (Elt F) Λ₀ .tc) α) (Q : α → sProp 𝕄) :
    wpc c rest Q ⊢ wpc c (runIf P A rest) Q := by
  unfold runIf; rw [dif_neg h]

/-- A round written twice, the device's bit saying which half it sends: whichever runs, it is the round. -/
theorem choice_spec {α : Type} (c : Dev nD) (k : Fin 5) {C1 C2 : Prop} [Decidable C1] [Decidable C2]
    (h1 : C1 ↔ upper k c = false) (h2 : C2 ↔ upper k c = true)
    {m kk s1 o1 s2 o2 : ℕ} (g1 : Geo m kk s1 o1) (g2 : Geo m kk s2 o2) (hm : m = nr k) (hkk : kk = k.val)
    (e1 : upper k c = false → s1 = soffF k c ∧ o1 = koffF k c) (e2 : upper k c = true → s2 = soffF k c ∧ o2 = koffF k c)
    {p1 p1' : C1 → Dev nD} {p2 p2' : C2 → Dev nD}
    (hp1 : ∀ h, p1 h = par (rb k) c ∧ p1' h = par (rb k) c) (hp2 : ∀ h, p2 h = par (rb k) c ∧ p2' h = par (rb k) c)
    (h8 : A8.IsWhole) (h9 : A9.IsWhole) (n : ℕ) (hn : n + 2 * k.val = 12)
    (rest : Prog (TpuEff nD τ sig (Elt F) Λ₀ .tc) α) (Q : α → sProp 𝕄) :
    iprop(records I K ∗ acc I (held k) k c ∗ (∃ f8, A8.view.loc (c : Thread nD τ) ↦{fullShare} f8) ∗ toSend k c ∗ owesE c (n + 2))
      ⊢ iprop(((acc I (nr k) (k + 1) c ∗ (∃ f8, A8.view.loc (c : Thread nD τ) ↦{fullShare} f8) ∗ landed I k c ∗ owesE c n) -∗ wpc c rest Q)
        -∗ wpc c (runIf C1 (fun h => round A6 A7 A8 h8 A9 h9 A10 cc0_scratch7 cc0_scratch8 cc0_scratch9 cc0_scratch10 g1 (p1 h) (p1' h))
            (runIf C2 (fun h => round A6 A7 A8 h8 A9 h9 A10 cc0_scratch7 cc0_scratch8 cc0_scratch9 cc0_scratch10 g2 (p2 h) (p2' h)) rest)) Q) := by
  cases hu : upper k c with
  | false =>
    have hC1 : C1 := h1.2 hu
    have hC2 : ¬ C2 := fun h => by rw [h2.1 h] at hu; exact Bool.noConfusion hu
    have e : runIf C2 (fun h => round A6 A7 A8 h8 A9 h9 A10 cc0_scratch7 cc0_scratch8 cc0_scratch9 cc0_scratch10 g2 (p2 h) (p2' h)) rest = rest := dif_neg hC2
    rw [e]
    iintro H Hk
    iapply (wpc_runIf_pos c hC1 _ _ Q)
    iapply (round_specE I K c _ _ k hm hkk (e1 hu).1 (e1 hu).2 (hp1 hC1).1 (hp1 hC1).2 g1 h8 h9 n hn (fun _ => wpc c rest Q)) $$ H
    iexact Hk
  | true =>
    have hC2 : C2 := h2.2 hu
    have hC1 : ¬ C1 := fun h => by rw [h1.1 h] at hu; exact Bool.noConfusion hu
    iintro H Hk
    iapply (wpc_runIf_neg c hC1 _ _ Q)
    iapply (wpc_runIf_pos c hC2 _ _ Q)
    iapply (round_specE I K c _ _ k hm hkk (e2 hu).1 (e2 hu).2 (hp2 hC2).1 (hp2 hC2).2 g2 h8 h9 n hn (fun _ => wpc c rest Q)) $$ H
    iexact Hk

/-! ## The printed conditions and partners, decided over the devices -/

theorem cond1_iff (c : Dev nD) : (k0_cond1 c = 1#1) ↔ upper 0 c = false := by revert c; decide
theorem cond2_iff (c : Dev nD) : (k0_cond2 c = 1#1) ↔ upper 0 c = true := by revert c; decide
theorem cond3_iff (c : Dev nD) : (k0_cond3 c = 1#1) ↔ upper 1 c = false := by revert c; decide
theorem cond4_iff (c : Dev nD) : (k0_cond4 c = 1#1) ↔ upper 1 c = true := by revert c; decide
theorem cond5_iff (c : Dev nD) : (k0_cond5 c = 1#1) ↔ upper 2 c = false := by revert c; decide
theorem cond6_iff (c : Dev nD) : (k0_cond6 c = 1#1) ↔ upper 2 c = true := by revert c; decide
theorem cond7_iff (c : Dev nD) : (k0_cond7 c = 1#1) ↔ upper 3 c = false := by revert c; decide
theorem cond8_iff (c : Dev nD) : (k0_cond8 c = 1#1) ↔ upper 3 c = true := by revert c; decide

theorem half_z (k : Fin 5) (c : Dev nD) (h4 : k.val < 4) (h : upper k c = false) : nr k = soffF k c ∧ 0 = koffF k c := by
  unfold soffF koffF; rw [if_pos h4, h]; exact ⟨rfl, rfl⟩
theorem half_o (k : Fin 5) (c : Dev nD) (h4 : k.val < 4) (h : upper k c = true) : 0 = soffF k c ∧ nr k = koffF k c := by
  unfold soffF koffF; rw [if_pos h4, h]; exact ⟨rfl, rfl⟩

theorem dev_par1 (c : Dev nD) (h : k0_cond1 c = 1#1) : (⟨k0_dev6 c, k0_dev6_lt c h⟩ : Dev nD) = par (rb (0 : Fin 5)) c ∧ (⟨k0_dev7 c, k0_dev7_lt c h⟩ : Dev nD) = par (rb (0 : Fin 5)) c := by
  revert h; revert c; decide
theorem dev_par2 (c : Dev nD) (h : k0_cond2 c = 1#1) : (⟨k0_dev8 c, k0_dev8_lt c h⟩ : Dev nD) = par (rb (0 : Fin 5)) c ∧ (⟨k0_dev9 c, k0_dev9_lt c h⟩ : Dev nD) = par (rb (0 : Fin 5)) c := by
  revert h; revert c; decide
theorem dev_par3 (c : Dev nD) (h : k0_cond3 c = 1#1) : (⟨k0_dev10 c, k0_dev10_lt c h⟩ : Dev nD) = par (rb (1 : Fin 5)) c ∧ (⟨k0_dev11 c, k0_dev11_lt c h⟩ : Dev nD) = par (rb (1 : Fin 5)) c := by
  revert h; revert c; decide
theorem dev_par4 (c : Dev nD) (h : k0_cond4 c = 1#1) : (⟨k0_dev12 c, k0_dev12_lt c h⟩ : Dev nD) = par (rb (1 : Fin 5)) c ∧ (⟨k0_dev13 c, k0_dev13_lt c h⟩ : Dev nD) = par (rb (1 : Fin 5)) c := by
  revert h; revert c; decide
theorem dev_par5 (c : Dev nD) (h : k0_cond5 c = 1#1) : (⟨k0_dev14 c, k0_dev14_lt c h⟩ : Dev nD) = par (rb (2 : Fin 5)) c ∧ (⟨k0_dev15 c, k0_dev15_lt c h⟩ : Dev nD) = par (rb (2 : Fin 5)) c := by
  revert h; revert c; decide
theorem dev_par6 (c : Dev nD) (h : k0_cond6 c = 1#1) : (⟨k0_dev16 c, k0_dev16_lt c h⟩ : Dev nD) = par (rb (2 : Fin 5)) c ∧ (⟨k0_dev17 c, k0_dev17_lt c h⟩ : Dev nD) = par (rb (2 : Fin 5)) c := by
  revert h; revert c; decide
theorem dev_par7 (c : Dev nD) (h : k0_cond7 c = 1#1) : (⟨k0_dev18 c, k0_dev18_lt c h⟩ : Dev nD) = par (rb (3 : Fin 5)) c ∧ (⟨k0_dev19 c, k0_dev19_lt c h⟩ : Dev nD) = par (rb (3 : Fin 5)) c := by
  revert h; revert c; decide
theorem dev_par8 (c : Dev nD) (h : k0_cond8 c = 1#1) : (⟨k0_dev20 c, k0_dev20_lt c h⟩ : Dev nD) = par (rb (3 : Fin 5)) c ∧ (⟨k0_dev21 c, k0_dev21_lt c h⟩ : Dev nD) = par (rb (3 : Fin 5)) c := by
  revert h; revert c; decide
theorem dev_par9 (c : Dev nD) : (⟨k0_dev22 c, k0_dev22_lt c⟩ : Dev nD) = par (rb (4 : Fin 5)) c ∧ (⟨k0_dev23 c, k0_dev23_lt c⟩ : Dev nD) = par (rb (4 : Fin 5)) c := by
  revert c; decide
theorem dev_bar (c : Dev nD) : (⟨k0_dev1 c, k0_dev1_lt c⟩ : Dev nD) = par 0 c ∧ (⟨k0_dev2 c, k0_dev2_lt c⟩ : Dev nD) = par 1 c
    ∧ (⟨k0_dev3 c, k0_dev3_lt c⟩ : Dev nD) = par 2 c ∧ (⟨k0_dev4 c, k0_dev4_lt c⟩ : Dev nD) = par 3 c ∧ (⟨k0_dev5 c, k0_dev5_lt c⟩ : Dev nD) = par 4 c := by
  revert c; decide
theorem dev_ag (c : Dev nD) : (⟨k0_dev24 c, k0_dev24_lt c⟩ : Dev nD) = par 1 c ∧ (⟨k0_dev25 c, k0_dev25_lt c⟩ : Dev nD) = par 2 c
    ∧ (⟨k0_dev26 c, k0_dev26_lt c⟩ : Dev nD) = par 3 c ∧ (⟨k0_dev27 c, k0_dev27_lt c⟩ : Dev nD) = par 4 c := by
  revert c; decide
theorem off_ag (c : Dev nD) : k0_off1 c = ![blk 1 c, 0] ∧ k0_off2 c = ![blk 1 (par 1 c), 0] ∧ k0_off3 c = ![blk 2 c, 0] ∧ k0_off4 c = ![blk 2 (par 2 c), 0]
    ∧ k0_off5 c = ![blk 3 c, 0] ∧ k0_off6 c = ![blk 3 (par 3 c), 0] ∧ k0_off7 c = ![blk 4 c, 0] ∧ k0_off8 c = ![blk 4 (par 4 c), 0] := by
  revert c; decide

/-! ## The rounds in sequence -/

abbrev some8 (c : Dev nD) : sProp 𝕄 := iprop(∃ f8, A8.view.loc (c : Thread nD τ) ↦{fullShare} f8)

theorem firstRounds_spec (c : Dev nD) (h8 : A8.IsWhole) (h9 : A9.IsWhole) (Q : BitVec 32 → sProp 𝕄) :
    iprop(records I K ∗ acc I 256 0 c ∗ some8 c ∗ toSend 0 c ∗ owesE c 14)
      ⊢ iprop(((acc I 128 1 c ∗ some8 c ∗ landed I 0 c ∗ owesE c 12) -∗ Q 8#32)
        -∗ wpc c (firstRounds A6 A7 A8 h8 A9 h9 A10 cc0_scratch7 cc0_scratch8 cc0_scratch9 cc0_scratch10 c) Q) := by
  unfold firstRounds
  iintro ⟨#HR, Ha, H8, Hs, Ho⟩ Hk
  iapply (choice_spec I K c 0 (cond1_iff c) (cond2_iff c) geo0z geo0o rfl rfl (half_z 0 c (by decide)) (half_o 0 c (by decide))
    (dev_par1 c) (dev_par2 c) h8 h9 12 rfl (.ret 8#32) Q) $$ [Ha H8 Hs Ho]
  · isplitr; · iexact HR
    isplitl [Ha]; · iexact Ha
    isplitl [H8]; · iexact H8
    isplitl [Hs] <;> iassumption
  iintro H
  iapply (wpc_ret c _ Q)
  iapply Hk
  iexact H

theorem middleRounds_spec (c : Dev nD) (h8 : A8.IsWhole) (h9 : A9.IsWhole) (Q : (Σ' (_ : BitVec 32), FVec F S16x1024 .bf16) → sProp 𝕄) :
    iprop(records I K ∗ acc I 128 1 c ∗ some8 c ∗ (toSend 1 c ∗ toSend 2 c ∗ toSend 3 c) ∗ owesE c 12)
      ⊢ iprop((∀ (f6 : Buf (Elt F) (A6.view.loc (c : Thread nD τ))) (f7 : Buf (Elt F) (A7.view.loc (c : Thread nD τ))),
          (⌜Holds I 16 4 c (A6.view.read (Elt F) f6) (A7.view.read (Elt F) f7)⌝ ∗ (A6.view.loc (c : Thread nD τ) ↦{fullShare} f6) ∗ (A7.view.loc (c : Thread nD τ) ↦{fullShare} f7)
            ∗ some8 c ∗ (landed I 1 c ∗ landed I 2 c ∗ landed I 3 c) ∗ owesE c 6)
          -∗ Q ⟨Scalar.xori (Scalar.remsi (Scalar.divsi (Dev.word c) 1#32) 32#32) 1#32,
            truncf .bf16 (A6.view.readAt (Elt F) (Rect.unit (s := S256x1024) ![0, 0] (Sh2 16 1024).size (inb2 geo4.hs (by omega))).toLoadRect f6 : FVec F (Sh2 16 1024) .f32) bitsLt_bf16_f32⟩)
        -∗ wpc c (middleRounds A6 A7 A8 h8 A9 h9 A10 cc0_scratch7 cc0_scratch8 cc0_scratch9 cc0_scratch10 c) Q) := by
  unfold middleRounds sendRows
  simp only [Prog.lift, Prog.bind_op, Prog.bind_ret]
  iintro ⟨#HR, Ha, H8, ⟨Hs1, Hs2, Hs3⟩, Ho⟩ Hk
  iapply (choice_spec I K c 1 (cond3_iff c) (cond4_iff c) geo1z geo1o rfl rfl (half_z 1 c (by decide)) (half_o 1 c (by decide))
    (dev_par3 c) (dev_par4 c) h8 h9 10 rfl _ Q) $$ [Ha H8 Hs1 Ho]
  · isplitr; · iexact HR
    isplitl [Ha]; · iexact Ha
    isplitl [H8]; · iexact H8
    isplitl [Hs1] <;> iassumption
  iintro ⟨Ha, H8, Hl1, Ho⟩
  iapply (choice_spec I K c 2 (cond5_iff c) (cond6_iff c) geo2z geo2o rfl rfl (half_z 2 c (by decide)) (half_o 2 c (by decide))
    (dev_par5 c) (dev_par6 c) h8 h9 8 rfl _ Q) $$ [Ha H8 Hs2 Ho]
  · isplitr; · iexact HR
    isplitl [Ha]; · iexact Ha
    isplitl [H8]; · iexact H8
    isplitl [Hs2] <;> iassumption
  iintro ⟨Ha, H8, Hl2, Ho⟩
  iapply (choice_spec I K c 3 (cond7_iff c) (cond8_iff c) geo3z geo3o rfl rfl (half_z 3 c (by decide)) (half_o 3 c (by decide))
    (dev_par7 c) (dev_par8 c) h8 h9 6 rfl _ Q) $$ [Ha H8 Hs3 Ho]
  · isplitr; · iexact HR
    isplitl [Ha]; · iexact Ha
    isplitl [H8]; · iexact H8
    isplitl [Hs3] <;> iassumption
  iintro ⟨Ha, H8, Hl3, Ho⟩
  unfold acc
  icases Ha with ⟨%f6, %f7, %hH, H6, H7⟩
  iapply (load_all c A6) $$ H6; iintro H6
  iapply (wpc_ret c _ Q)
  iapply Hk
  isplitr; · ipureintro; exact hH
  isplitl [H6]; · iexact H6
  isplitl [H7]; · iexact H7
  isplitl [H8]; · iexact H8
  isplitl [Hl1 Hl2 Hl3]
  · isplitl [Hl1]; · iexact Hl1
    isplitl [Hl2] <;> iassumption
  iexact Ho

end Cert.KernelIdeal.Flash
-- ==== Proof.Flash.Pieces.lean ====
/- What a device holds before and after its body, and the barrier. -/
module

public import proofs.«01_k».proof.Proof.Flash.RoundSeq

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CI → ℕ)

abbrev A0 : Memref sig .tc .vmem S1x256x1024 .bf16 := Memref.whole cc0_stg0_0
abbrev A1 : Memref sig .tc .vmem S1024x1024 .bf16 := Memref.whole cc0_stg1_0
abbrev A3 : Memref sig .tc .vmem S1x4096x2x128 .bf16 := Memref.whole cc0_stg3_0
abbrev A4 : Memref sig .tc .vmem S1x4096x2x128 .bf16 := Memref.whole cc0_stg4_0

/-- A device's scratch buffers, whatever they hold. -/
def scr (c : Dev nD) : sProp 𝕄 :=
  iprop((∃ f, A6.view.loc (c : Thread nD τ) ↦{fullShare} f) ∗ (∃ f, A7.view.loc (c : Thread nD τ) ↦{fullShare} f)
    ∗ (∃ f, A8.view.loc (c : Thread nD τ) ↦{fullShare} f) ∗ (∃ f, A9.view.loc (c : Thread nD τ) ↦{fullShare} f)
    ∗ (∃ f, A10.view.loc (c : Thread nD τ) ↦{fullShare} f) ∗ (∃ f, A11.view.loc (c : Thread nD τ) ↦{fullShare} f)
    ∗ (∃ f, A12.view.loc (c : Thread nD τ) ↦{fullShare} f))

/-- Its staged inputs. -/
def ins (c : Dev nD) : sProp 𝕄 :=
  iprop((A0.view.loc (c : Thread nD τ) ↦{fullShare} I.x c) ∗ (A1.view.loc (c : Thread nD τ) ↦{fullShare} I.wq c)
    ∗ (A2.view.loc (c : Thread nD τ) ↦{fullShare} I.wo c) ∗ (A3.view.loc (c : Thread nD τ) ↦{fullShare} I.kk c)
    ∗ (A4.view.loc (c : Thread nD τ) ↦{fullShare} I.vv c))

/-- What its transfers of index `k` need; the gather has none of index 0, whose two cells close at once. -/
def TxAll (k : Fin 5) (c : Dev nD) : sProp 𝕄 :=
  iprop(Tx 0 k c ∗ Tx 1 k c ∗ if k = 0 then iprop(atPos ER (xc c (2, false, 0)) 0 ∅ 0 ∗ atPos ER (xc c (2, true, 0)) 0 ∅ 0) else Tx 2 k c)
/-- What they leave. -/
def DnAll (k : Fin 5) (c : Dev nD) : sProp 𝕄 := iprop(Dn 0 k c ∗ Dn 1 k c ∗ Dn 2 k c)

/-- What its barrier needs. -/
def Bx (c : Dev nD) : sProp 𝕄 :=
  iprop((bigSep Finset.univ fun b : Fin 5 => dutyTok ER (bc (par b c)) 0 b) ∗ atPos ER (bc c) 0 ∅ 0 ∗ cred (tallyAt (bc c) () 5))

def bodyIn (c : Dev nD) : sProp 𝕄 :=
  iprop(records I K ∗ Bx c ∗ (bigSep Finset.univ fun k => TxAll k c) ∗ Cp c ∗ owesE c 19 ∗ scr c ∗ ins I c
    ∗ ∃ f, A5.view.loc (c : Thread nD τ) ↦{fullShare} f)
def bodyOut (c : Dev nD) : sProp 𝕄 :=
  iprop(semVal (bc c) 0 ∗ (bigSep Finset.univ fun k => DnAll k c) ∗ semVal (cc c) 0 ∗ owesE c 0 ∗ scr c ∗ ins I c
    ∗ (A5.view.loc (c : Thread nD τ) ↦{fullShare} I.out c))

/-- A unit to the partner's barrier over bit `b`, as printed. -/
theorem signal_prog (c p : Dev nD) (b : Fin 5) (hp : p = par b c) (n : ℕ) (hn : 18 - n = b.val) (Q : PUnit → sProp 𝕄) :
    iprop(records I K ∗ owesE c (n + 1) ∗ dutyTok ER (bc (par b c)) 0 b ∗ room b c)
      ⊢ iprop((owesE c n -∗ Q ⟨⟩) -∗ wpc c (semSignalWord p (sig.barrier 0 rfl) 1#32) Q) := by
  subst hp
  unfold semSignalWord
  rw [show (1#32 : BitVec 32).toInt = 1 by decide]
  iintro H Hk
  iapply (signal_step I K c (par b c) b rfl (kk := .ret) n hn) $$ H
  iintro Ho
  iapply (wpc_ret c _ Q)
  iapply Hk
  iexact Ho

theorem barrier_prog (c : Dev nD) (Q : PUnit → sProp 𝕄) :
    iprop(records I K ∗ cred (tallyAt (bc c) () 5) ∗ owesE c 14 ∗ atPos ER (bc c) 0 ∅ 0)
      ⊢ iprop(((owesE c 14 ∗ semVal (bc c) 0 ∗ bigSep Finset.univ fun d => room (F := F) d (par d c)) -∗ Q ⟨⟩)
        -∗ wpc c (semWaitWord (sig.barrier 0 rfl) 5#32) Q) := by
  unfold semWaitWord
  rw [show (5#32 : BitVec 32).toInt = 5 by decide]
  iintro H Hk
  iapply (barrier_step I K c (kk := .ret)) $$ H
  iintro Ho
  iapply (wpc_ret c _ Q)
  iapply Hk
  iexact Ho

/-- What a device gives its partners, and keeps, of its scratch. -/
theorem rooms (c : Dev nD) :
    iprop((∃ f, A9.view.loc (c : Thread nD τ) ↦{fullShare} f) ∗ (∃ f, A10.view.loc (c : Thread nD τ) ↦{fullShare} f) ∗ (∃ f, A12.view.loc (c : Thread nD τ) ↦{fullShare} f))
      ⊢ (iprop((room 0 c ∗ room 1 c ∗ room 2 c ∗ room 3 c ∗ room 4 c) ∗ rest9 c ∗ rest10 c ∗ ∃ f, onY (F := F) 1 c c fullShare f) : sProp 𝕄) := by
  unfold room
  iintro ⟨H9, H10, H12⟩
  ihave H9 := (split_LO c) $$ H9
  ihave H10 := (split_LM c) $$ H10
  ihave H12 := (split_Y c) $$ H12
  rw [bigSep5, bigSep5, if_pos rfl, if_neg (by decide), if_neg (by decide), if_neg (by decide), if_neg (by decide)]
  icases H9 with ⟨⟨A0, A1, A2, A3, A4⟩, R9⟩
  icases H10 with ⟨⟨B0, B1, B2, B3, B4⟩, R10⟩
  icases H12 with ⟨Y0, Y1, Y2, Y3, Y4⟩
  isplitr [R9 R10 Y0]
  · isplitl [A4 B4]
    · isplitl [A4]; · iexact A4
      isplitl [B4]; · iexact B4
      iempintro
    isplitl [A3 B3 Y1]
    · isplitl [A3]; · iexact A3
      isplitl [B3]; · iexact B3
      iexact Y1
    isplitl [A2 B2 Y2]
    · isplitl [A2]; · iexact A2
      isplitl [B2]; · iexact B2
      iexact Y2
    isplitl [A1 B1 Y3]
    · isplitl [A1]; · iexact A1
      isplitl [B1]; · iexact B1
      iexact Y3
    isplitl [A0]; · iexact A0
    isplitl [B0]; · iexact B0
    iexact Y4
  isplitl [R9]; · iexact R9
  isplitl [R10] <;> iassumption

/-- What its partners give it. -/
theorem rooms_in (c : Dev nD) :
    (bigSep Finset.univ fun d => room (F := F) d (par d c))
      ⊢ (iprop((bigSep Finset.univ fun k : Fin 5 => iprop((∃ f, onLO (F := F) k (par (rb k) c) f) ∗ (∃ f, onLM (F := F) k (par (rb k) c) f)))
        ∗ (∃ f, onY (F := F) 1 c (par 1 c) fullShare f) ∗ (∃ f, onY (F := F) 2 c (par 2 c) fullShare f)
        ∗ (∃ f, onY (F := F) 3 c (par 3 c) fullShare f) ∗ (∃ f, onY (F := F) 4 c (par 4 c) fullShare f)) : sProp 𝕄) := by
  rw [bigSep5, bigSep5]
  unfold room
  rw [if_pos rfl, if_neg (by decide), if_neg (by decide), if_neg (by decide), if_neg (by decide), par_par, par_par, par_par, par_par]
  iintro ⟨⟨A4, B4, -⟩, ⟨A3, B3, Y1⟩, ⟨A2, B2, Y2⟩, ⟨A1, B1, Y3⟩, ⟨A0, B0, Y4⟩⟩
  isplitr [Y1 Y2 Y3 Y4]
  · isplitl [A0 B0]
    · isplitl [A0]; · iexact A0
      iexact B0
    isplitl [A1 B1]
    · isplitl [A1]; · iexact A1
      iexact B1
    isplitl [A2 B2]
    · isplitl [A2]; · iexact A2
      iexact B2
    isplitl [A3 B3]
    · isplitl [A3]; · iexact A3
      iexact B3
    isplitl [A4]; · iexact A4
    iexact B4
  isplitl [Y1]; · iexact Y1
  isplitl [Y2]; · iexact Y2
  isplitl [Y3] <;> iassumption

/-- The two cells of the gather that no step uses. -/
theorem close_zero (c : Dev nD) :
    iprop(records I K ∗ atPos ER (xc c (2, false, 0)) 0 ∅ 0 ∗ atPos ER (xc c (2, true, 0)) 0 ∅ 0) ⊢ (|={Set.univ}=> Dn 2 0 c : sProp 𝕄) := by
  unfold Dn
  iintro ⟨#HR, H1, H2⟩
  imod (close_idle I K c (xj (2, false, 0)) (fun r => by rw [kcell_xj]; exact duties_dead I c _ rfl r)) $$ [H1] with Hz1
  · isplitr; · iexact HR
    iexact H1
  imod (close_idle I K c (xj (2, true, 0)) (fun r => by rw [kcell_xj]; exact duties_dead I c _ rfl r)) $$ [H2] with Hz2
  · isplitr; · iexact HR
    iexact H2
  imodintro
  isplitl [Hz1]; · iexact Hz1
  iexact Hz2

/-- The rows landed, whatever they hold, with what was kept make the landing buffers whole. -/
theorem landed_back (c : Dev nD) :
    iprop((onLO 0 c (I.landBufO c) ∗ onLM 0 c (I.landBufML c)) ∗ (onLO 1 c (I.landBufO c) ∗ onLM 1 c (I.landBufML c))
        ∗ (onLO 2 c (I.landBufO c) ∗ onLM 2 c (I.landBufML c)) ∗ (onLO 3 c (I.landBufO c) ∗ onLM 3 c (I.landBufML c))
        ∗ (onLO 4 c (I.landBufO c) ∗ onLM 4 c (I.landBufML c)) ∗ rest9 c ∗ rest10 c)
      ⊢ (iprop((∃ f, A9.view.loc (c : Thread nD τ) ↦{fullShare} f) ∗ (∃ f, A10.view.loc (c : Thread nD τ) ↦{fullShare} f)) : sProp 𝕄) := by
  iintro ⟨⟨A0, B0⟩, ⟨A1, B1⟩, ⟨A2, B2⟩, ⟨A3, B3⟩, ⟨A4, B4⟩, R9, R10⟩
  isplitl [A0 A1 A2 A3 A4 R9]
  · iapply (join_LO c)
    isplitr [R9]
    · rw [bigSep5]
      isplitl [A0]; · iexists _; iexact A0
      isplitl [A1]; · iexists _; iexact A1
      isplitl [A2]; · iexists _; iexact A2
      isplitl [A3]; · iexists _; iexact A3
      iexists _; iexact A4
    iexact R9
  · iapply (join_LM c)
    isplitr [R10]
    · rw [bigSep5]
      isplitl [B0]; · iexists _; iexact B0
      isplitl [B1]; · iexists _; iexact B1
      isplitl [B2]; · iexists _; iexact B2
      isplitl [B3]; · iexists _; iexact B3
      iexists _; iexact B4
    iexact R10

end Cert.KernelIdeal.Flash
-- ==== Proof.Flash.Body.lean ====
/- The whole body, from what the launch gives a device to what it leaves. -/
module

public import proofs.«01_k».proof.Proof.Flash.Pieces

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CI → ℕ)

/-- The last part of the body: the output projection, the gather, the result. -/
def gatherProg (d0 : Dev nD) (h11 : A11.IsWhole) (h12 : A12.IsWhole) : Prog (TpuEff nD τ sig (Elt F) Λ₀ .tc) PUnit := do
  project A2 A6 A11 h11 A12 h12 cc0_scratch13 (k0_off1 d0) (k0_off1_inb d0) (k0_off1_wordsbf16 d0)
  agStep A12 h12 cc0_scratch11 cc0_scratch12 1 (by omega) (k0_off1 d0) (k0_off2 d0) (k0_off1_inb d0) (k0_off2_inb d0)
    (k0_off1_wordsbf16 d0) (k0_off2_wordsbf16 d0) ⟨k0_dev24 d0, k0_dev24_lt d0⟩
  agStep A12 h12 cc0_scratch11 cc0_scratch12 2 (by omega) (k0_off3 d0) (k0_off4 d0) (k0_off3_inb d0) (k0_off4_inb d0)
    (k0_off3_wordsbf16 d0) (k0_off4_wordsbf16 d0) ⟨k0_dev25 d0, k0_dev25_lt d0⟩
  agStep A12 h12 cc0_scratch11 cc0_scratch12 3 (by omega) (k0_off5 d0) (k0_off6 d0) (k0_off5_inb d0) (k0_off6_inb d0)
    (k0_off5_wordsbf16 d0) (k0_off6_wordsbf16 d0) ⟨k0_dev26 d0, k0_dev26_lt d0⟩
  agStep A12 h12 cc0_scratch11 cc0_scratch12 4 (by omega) (k0_off7 d0) (k0_off8 d0) (k0_off7_inb d0) (k0_off8_inb d0)
    (k0_off7_wordsbf16 d0) (k0_off8_wordsbf16 d0) ⟨k0_dev27 d0, k0_dev27_lt d0⟩
  emitOut A5 A12

theorem gatherProg_spec (c : Dev nD) (h11 : A11.IsWhole) (h12 : A12.IsWhole) (Q : PUnit → sProp 𝕄) :
    iprop(records I K ∗ quot I c ∗ (A2.view.loc (c : Thread nD τ) ↦{fullShare} I.wo c) ∗ (∃ f, A11.view.loc (c : Thread nD τ) ↦{fullShare} f)
        ∗ (∃ f, onY (F := F) 1 c c fullShare f)
        ∗ ((∃ f, onY (F := F) 1 c (par 1 c) fullShare f) ∗ (∃ f, onY (F := F) 2 c (par 2 c) fullShare f)
          ∗ (∃ f, onY (F := F) 3 c (par 3 c) fullShare f) ∗ (∃ f, onY (F := F) 4 c (par 4 c) fullShare f))
        ∗ Cp c ∗ (Tx 2 1 c ∗ Tx 2 2 c ∗ Tx 2 3 c ∗ Tx 2 4 c) ∗ owesE c 4 ∗ (∃ f, A5.view.loc (c : Thread nD τ) ↦{fullShare} f))
      ⊢ iprop((((∃ f6, A6.view.loc (c : Thread nD τ) ↦{fullShare} f6) ∗ (A2.view.loc (c : Thread nD τ) ↦{fullShare} I.wo c)
          ∗ (∃ f, A11.view.loc (c : Thread nD τ) ↦{fullShare} f) ∗ (∃ f, A12.view.loc (c : Thread nD τ) ↦{fullShare} f)
          ∗ semVal (cc c) 0 ∗ (Dn 2 1 c ∗ Dn 2 2 c ∗ Dn 2 3 c ∗ Dn 2 4 c) ∗ owesE c 0 ∗ (A5.view.loc (c : Thread nD τ) ↦{fullShare} I.out c)) -∗ Q ⟨⟩)
        -∗ wpc c (gatherProg c h11 h12) Q) := by
  obtain ⟨d1, d2, d3, d4⟩ := dev_ag c
  obtain ⟨o1, o2, o3, o4, o5, o6, o7, o8⟩ := off_ag c
  unfold gatherProg
  iintro ⟨#HR, Hq, H2, H11, Hy, ⟨R1, R2, R3, R4⟩, Hcp, ⟨T1, T2, T3, T4⟩, Ho, H5⟩ Hk
  rw [wpc_bind]
  iapply (project_spec I K c h11 h12 _ _ o1 _) $$ [Hq H2 H11 Hy Hcp Ho]
  · isplitr; · iexact HR
    isplitl [Hq]; · iexact Hq
    isplitl [H2]; · iexact H2
    isplitl [H11]; · iexact H11
    isplitl [Hy]; · iexact Hy
    isplitl [Hcp] <;> iassumption
  iintro ⟨H6, H2, H11, Hy, Hz, Ho⟩
  rw [wpc_bind]
  iapply (agStep_spec I K c _ 1 (by decide) d1 h12 _ _ _ _ o1 o2 3 rfl _ _) $$ [Hy R1 T1 Ho]
  · isplitr; · iexact HR
    isplitl [Hy]; · iexact Hy
    isplitl [R1]; · iexact R1
    isplitl [T1] <;> iassumption
  iintro ⟨Hy, Hy', D1, Ho⟩
  ihave Hy := (grow_Y 1 2 (by decide) rfl c (I.ytot c)) $$ [Hy Hy']
  · isplitl [Hy] <;> iassumption
  rw [wpc_bind]
  iapply (agStep_spec I K c _ 2 (by decide) d2 h12 _ _ _ _ o3 o4 2 rfl _ _) $$ [Hy R2 T2 Ho]
  · isplitr; · iexact HR
    isplitl [Hy]; · iexact Hy
    isplitl [R2]; · iexact R2
    isplitl [T2] <;> iassumption
  iintro ⟨Hy, Hy', D2, Ho⟩
  ihave Hy := (grow_Y 2 3 (by decide) rfl c (I.ytot c)) $$ [Hy Hy']
  · isplitl [Hy] <;> iassumption
  rw [wpc_bind]
  iapply (agStep_spec I K c _ 3 (by decide) d3 h12 _ _ _ _ o5 o6 1 rfl _ _) $$ [Hy R3 T3 Ho]
  · isplitr; · iexact HR
    isplitl [Hy]; · iexact Hy
    isplitl [R3]; · iexact R3
    isplitl [T3] <;> iassumption
  iintro ⟨Hy, Hy', D3, Ho⟩
  ihave Hy := (grow_Y 3 4 (by decide) rfl c (I.ytot c)) $$ [Hy Hy']
  · isplitl [Hy] <;> iassumption
  rw [wpc_bind]
  iapply (agStep_spec I K c _ 4 (by decide) d4 h12 _ _ _ _ o7 o8 0 rfl _ _) $$ [Hy R4 T4 Ho]
  · isplitr; · iexact HR
    isplitl [Hy]; · iexact Hy
    isplitl [R4]; · iexact R4
    isplitl [T4] <;> iassumption
  iintro ⟨Hy, Hy', D4, Ho⟩
  ihave Hy := (full_Y c (I.ytot c)) $$ [Hy Hy']
  · isplitl [Hy] <;> iassumption
  iapply (emitOut_spec I c Q) $$ [Hy H5]
  · isplitl [Hy] <;> iassumption
  iintro ⟨Hy, H5⟩
  iapply Hk
  isplitl [H6]; · iexact H6
  isplitl [H2]; · iexact H2
  isplitl [H11]; · iexact H11
  isplitl [Hy]; · iexists _; iexact Hy
  isplitl [Hz]; · iexact Hz
  isplitl [D1 D2 D3 D4]
  · isplitl [D1]; · iexact D1
    isplitl [D2]; · iexact D2
    isplitl [D3] <;> iassumption
  isplitl [Ho] <;> iassumption

/-- The middle part: the five rounds. -/
def reduceProg (d0 : Dev nD) (h8 : A8.IsWhole) (h9 : A9.IsWhole) : Prog (TpuEff nD τ sig (Elt F) Λ₀ .tc) PUnit := do
  let _ ← firstRounds A6 A7 A8 h8 A9 h9 A10 cc0_scratch7 cc0_scratch8 cc0_scratch9 cc0_scratch10 d0
  let v ← middleRounds A6 A7 A8 h8 A9 h9 A10 cc0_scratch7 cc0_scratch8 cc0_scratch9 cc0_scratch10 d0
  lastRound A6 A7 A8 h8 A9 h9 A10 cc0_scratch7 cc0_scratch8 cc0_scratch9 cc0_scratch10 geo4 ⟨k0_dev22 d0, k0_dev22_lt d0⟩ ⟨k0_dev23 d0, k0_dev23_lt d0⟩ v.2

theorem reduceProg_spec (c : Dev nD) (h8 : A8.IsWhole) (h9 : A9.IsWhole) (Q : PUnit → sProp 𝕄) :
    iprop(records I K ∗ acc I 256 0 c ∗ some8 c ∗ (toSend 0 c ∗ toSend 1 c ∗ toSend 2 c ∗ toSend 3 c ∗ toSend 4 c) ∗ owesE c 14)
      ⊢ iprop(((quot I c ∗ (∃ f7, A7.view.loc (c : Thread nD τ) ↦{fullShare} f7) ∗ some8 c
          ∗ (landed I 0 c ∗ landed I 1 c ∗ landed I 2 c ∗ landed I 3 c ∗ landed I 4 c) ∗ owesE c 4) -∗ Q ⟨⟩)
        -∗ wpc c (reduceProg c h8 h9) Q) := by
  unfold reduceProg
  iintro ⟨#HR, Ha, H8, ⟨S0, S1, S2, S3, S4⟩, Ho⟩ Hk
  rw [wpc_bind]
  iapply (firstRounds_spec I K c h8 h9 _) $$ [Ha H8 S0 Ho]
  · isplitr; · iexact HR
    isplitl [Ha]; · iexact Ha
    isplitl [H8]; · iexact H8
    isplitl [S0] <;> iassumption
  iintro ⟨Ha, H8, L0, Ho⟩
  rw [wpc_bind]
  iapply (middleRounds_spec I K c h8 h9 _) $$ [Ha H8 S1 S2 S3 Ho]
  · isplitr; · iexact HR
    isplitl [Ha]; · iexact Ha
    isplitl [H8]; · iexact H8
    isplitl [S1 S2 S3]
    · isplitl [S1]; · iexact S1
      isplitl [S2] <;> iassumption
    iexact Ho
  iintro %f6 %f7 ⟨%hH, H6, H7, H8, ⟨L1, L2, L3⟩, Ho⟩
  iapply (lastRound_spec I K c _ _ (dev_par9 c).1 (dev_par9 c).2 geo4 f6 f7 hH h8 h9 Q _) $$ [H6 H7 H8 S4 Ho]
  · isplitr; · iexact HR
    isplitl [H6]; · iexact H6
    isplitl [H7]; · iexact H7
    isplitl [H8]; · iexact H8
    isplitl [S4] <;> iassumption
  iintro ⟨Hq, H7, H8, L4, Ho⟩
  iapply Hk
  isplitl [Hq]; · iexact Hq
  isplitl [H7]; · iexact H7
  isplitl [H8]; · iexact H8
  isplitl [L0 L1 L2 L3 L4]
  · isplitl [L0]; · iexact L0
    isplitl [L1]; · iexact L1
    isplitl [L2]; · iexact L2
    isplitl [L3] <;> iassumption
  iexact Ho

/-- The first part: the barrier, the inputs loaded, the local attention. -/
def startProg (d0 : Dev nD) : Prog (TpuEff nD τ sig (Elt F) Λ₀ .tc) PUnit := do
  semSignalWord (⟨k0_dev1 d0, k0_dev1_lt d0⟩ : Dev nD) (sig.barrier 0 rfl) 1#32
  semSignalWord (⟨k0_dev2 d0, k0_dev2_lt d0⟩ : Dev nD) (sig.barrier 0 rfl) 1#32
  semSignalWord (⟨k0_dev3 d0, k0_dev3_lt d0⟩ : Dev nD) (sig.barrier 0 rfl) 1#32
  semSignalWord (⟨k0_dev4 d0, k0_dev4_lt d0⟩ : Dev nD) (sig.barrier 0 rfl) 1#32
  semSignalWord (⟨k0_dev5 d0, k0_dev5_lt d0⟩ : Dev nD) (sig.barrier 0 rfl) 1#32
  semWaitWord (sig.barrier 0 rfl) 5#32
  let x : Vec F S1x256x1024 .bf16 ← Prog.lift (.load A0 (Rect.unit (s := S1x256x1024) ![0, 0, 0] S1x256x1024.size
    inb_S1x256x1024_S1x256x1024_0_0_0).toLoadRect (View.loadsAt_vmem h_S1x256x1024))
  let wq : Vec F S1024x1024 .bf16 ← Prog.lift (.load A1 (Rect.unit (s := S1024x1024) ![0, 0] S1024x1024.size
    inb_S1024x1024_S1024x1024_0_0).toLoadRect (View.loadsAt_vmem h_S1024x1024))
  let kk : Vec F S1x4096x2x128 .bf16 ← Prog.lift (.load A3 (Rect.unit (s := S1x4096x2x128) ![0, 0, 0, 0] S1x4096x2x128.size
    inb_S1x4096x2x128_S1x4096x2x128_0_0_0_0).toLoadRect (View.loadsAt_vmem h_S1x4096x2x128))
  let vv : Vec F S1x4096x2x128 .bf16 ← Prog.lift (.load A4 (Rect.unit (s := S1x4096x2x128) ![0, 0, 0, 0] S1x4096x2x128.size
    inb_S1x4096x2x128_S1x4096x2x128_0_0_0_0).toLoadRect (View.loadsAt_vmem h_S1x4096x2x128))
  attend A6 A7 (queries x wq) (shapeCast S4096x2x128 kk shapeCasts_S1x4096x2x128_S4096x2x128)
    (shapeCast S4096x2x128 vv shapeCasts_S1x4096x2x128_S4096x2x128)

theorem startProg_spec (c : Dev nD) (Q : PUnit → sProp 𝕄) :
    iprop(records I K ∗ Bx c ∗ (room 0 c ∗ room 1 c ∗ room 2 c ∗ room 3 c ∗ room 4 c) ∗ owesE c 19 ∗ ins I c
        ∗ (∃ f6, A6.view.loc (c : Thread nD τ) ↦{fullShare} f6) ∗ (∃ f7, A7.view.loc (c : Thread nD τ) ↦{fullShare} f7))
      ⊢ iprop(((semVal (bc c) 0 ∗ (bigSep Finset.univ fun d => room (F := F) d (par d c)) ∗ owesE c 14 ∗ ins I c ∗ acc I 256 0 c) -∗ Q ⟨⟩)
        -∗ wpc c (startProg c) Q) := by
  obtain ⟨d1, d2, d3, d4, d5⟩ := dev_bar c
  unfold startProg Bx ins
  rw [bigSep5]
  iintro ⟨#HR, ⟨⟨T0, T1, T2, T3, T4⟩, Hat, Hc⟩, ⟨R0, R1, R2, R3, R4⟩, Ho, ⟨H0, H1, H2, H3, H4⟩, H6, H7⟩ Hk
  rw [wpc_bind]
  iapply (signal_prog I K c _ 0 d1 18 rfl _) $$ [T0 R0 Ho]
  · isplitr; · iexact HR
    isplitl [Ho]; · iexact Ho
    isplitl [T0] <;> iassumption
  iintro Ho
  rw [wpc_bind]
  iapply (signal_prog I K c _ 1 d2 17 rfl _) $$ [T1 R1 Ho]
  · isplitr; · iexact HR
    isplitl [Ho]; · iexact Ho
    isplitl [T1] <;> iassumption
  iintro Ho
  rw [wpc_bind]
  iapply (signal_prog I K c _ 2 d3 16 rfl _) $$ [T2 R2 Ho]
  · isplitr; · iexact HR
    isplitl [Ho]; · iexact Ho
    isplitl [T2] <;> iassumption
  iintro Ho
  rw [wpc_bind]
  iapply (signal_prog I K c _ 3 d4 15 rfl _) $$ [T3 R3 Ho]
  · isplitr; · iexact HR
    isplitl [Ho]; · iexact Ho
    isplitl [T3] <;> iassumption
  iintro Ho
  rw [wpc_bind]
  iapply (signal_prog I K c _ 4 d5 14 rfl _) $$ [T4 R4 Ho]
  · isplitr; · iexact HR
    isplitl [Ho]; · iexact Ho
    isplitl [T4] <;> iassumption
  iintro Ho
  rw [wpc_bind]
  iapply (barrier_prog I K c _) $$ [Hc Hat Ho]
  · isplitr; · iexact HR
    isplitl [Hc]; · iexact Hc
    isplitl [Ho] <;> iassumption
  iintro ⟨Ho, Hz, Hrooms⟩
  simp only [Prog.lift, Prog.bind_op, Prog.bind_ret]
  have e0 : A0.view.readAt (Elt F) (Rect.unit (s := S1x256x1024) ![0, 0, 0] S1x256x1024.size inb_S1x256x1024_S1x256x1024_0_0_0).toLoadRect (I.x c) = I.x c :=
    Memref.readAt_unit_zero (Elt F) cc0_stg0_0 zero3 _ _
  have e1 : A1.view.readAt (Elt F) (Rect.unit (s := S1024x1024) ![0, 0] S1024x1024.size inb_S1024x1024_S1024x1024_0_0).toLoadRect (I.wq c) = I.wq c :=
    Memref.readAt_unit_zero (Elt F) cc0_stg1_0 zero2 _ _
  have e3 : A3.view.readAt (Elt F) (Rect.unit (s := S1x4096x2x128) ![0, 0, 0, 0] S1x4096x2x128.size inb_S1x4096x2x128_S1x4096x2x128_0_0_0_0).toLoadRect (I.kk c) = I.kk c :=
    Memref.readAt_unit_zero (Elt F) cc0_stg3_0 zero4 _ _
  have e4 : A4.view.readAt (Elt F) (Rect.unit (s := S1x4096x2x128) ![0, 0, 0, 0] S1x4096x2x128.size inb_S1x4096x2x128_S1x4096x2x128_0_0_0_0).toLoadRect (I.vv c) = I.vv c :=
    Memref.readAt_unit_zero (Elt F) cc0_stg4_0 zero4 _ _
  iapply (load_all c A0) $$ H0; iintro H0
  iapply (load_all c A1) $$ H1; iintro H1
  iapply (load_all c A3) $$ H3; iintro H3
  iapply (load_all c A4) $$ H4; iintro H4
  rw [e0, e1, e3, e4]
  iapply (attend_spec I c Q) $$ [H6 H7]
  · isplitl [H6] <;> iassumption
  iintro Ha
  iapply Hk
  isplitl [Hz]; · iexact Hz
  isplitl [Hrooms]; · iexact Hrooms
  isplitl [Ho]; · iexact Ho
  isplitl [H0 H1 H2 H3 H4]
  · isplitl [H0]; · iexact H0
    isplitl [H1]; · iexact H1
    isplitl [H2]; · iexact H2
    isplitl [H3] <;> iassumption
  iexact Ha

/-- The whole body on the launch's buffers. -/
abbrev bodyProg : Prog (TpuEff nD τ sig (Elt F) Λ₀ .tc) PUnit :=
  canonBody A0 (Memref.isWhole_whole _) A1 (Memref.isWhole_whole _) A2 (Memref.isWhole_whole _) A3 (Memref.isWhole_whole _) A4 (Memref.isWhole_whole _)
    A5 (Memref.isWhole_whole _) A6 (Memref.isWhole_whole _) A7 (Memref.isWhole_whole _) A8 (Memref.isWhole_whole _) A9 (Memref.isWhole_whole _)
    A10 (Memref.isWhole_whole _) A11 (Memref.isWhole_whole _) A12 (Memref.isWhole_whole _)
    cc0_scratch7 cc0_scratch8 cc0_scratch9 cc0_scratch10 cc0_scratch11 cc0_scratch12 cc0_scratch13

/-- It is its three parts in sequence. -/
theorem bodyProg_eq : bodyProg (F := F) = (Prog.lift .deviceId >>= fun d0 : Dev nD =>
    startProg d0 >>= fun _ => reduceProg d0 (Memref.isWhole_whole _) (Memref.isWhole_whole _) >>= fun _ => gatherProg d0 (Memref.isWhole_whole _) (Memref.isWhole_whole _)) := by
  unfold bodyProg canonBody startProg reduceProg
  simp only [bind_assoc]
  rfl

theorem wpc_deviceId {α : Type} (c : Dev nD) (k : Dev nD → Prog (TpuEff nD τ sig (Elt F) Λ₀ .tc) α) (Q : α → sProp 𝕄) :
    wpc c (Prog.lift .deviceId >>= k) Q = wpc c (k c) Q := by
  simp only [Prog.lift, Prog.bind_op, Prog.bind_ret]
  show wp frame (wpE (defs₀ (F := F)) 𝒱₀ (c : Thread nD τ) none) Set.univ (.op .deviceId _) Q = _
  rw [wp_deviceId]

theorem body_spec (c : Dev nD) (Q : PUnit → sProp 𝕄) :
    bodyIn I K c ⊢ iprop((bodyOut I c -∗ Q ⟨⟩) -∗ wpc c (bodyProg (F := F)) Q) := by
  rw [bodyProg_eq, wpc_deviceId]
  beta_reduce
  unfold bodyIn bodyOut scr
  rw [bigSep5, bigSep5]
  unfold TxAll DnAll
  rw [if_pos rfl, if_neg (by decide), if_neg (by decide), if_neg (by decide), if_neg (by decide)]
  iintro ⟨#HR, Hb, ⟨⟨T00, T10, Hi⟩, ⟨T01, T11, T21⟩, ⟨T02, T12, T22⟩, ⟨T03, T13, T23⟩, ⟨T04, T14, T24⟩⟩, Hcp, Ho, ⟨H6, H7, H8, H9, H10, H11, H12⟩, Hins, H5⟩ Hk
  imod (close_zero I K c) $$ [Hi] with Hd
  · isplitr; · iexact HR
    iexact Hi
  ihave Hr := (rooms c) $$ [H9 H10 H12]
  · isplitl [H9]; · iexact H9
    isplitl [H10] <;> iassumption
  icases Hr with ⟨Hr, R9, R10, Hy⟩
  iapply (Entails.of_eq (wpc_bind c (startProg c) _ Q).symm)
  iapply (startProg_spec I K c _) $$ [Hb Hr Ho Hins H6 H7]
  · isplitr; · iexact HR
    isplitl [Hb]; · iexact Hb
    isplitl [Hr]; · iexact Hr
    isplitl [Ho]; · iexact Ho
    isplitl [Hins]; · iexact Hins
    isplitl [H6] <;> iassumption
  iintro ⟨Hz, Hrooms, Ho, Hins, Ha⟩
  ihave Hrooms := (rooms_in c) $$ Hrooms
  rw [bigSep5]
  icases Hrooms with ⟨⟨S0, S1, S2, S3, S4⟩, Hys⟩
  rw [wpc_bind]
  iapply (reduceProg_spec I K c _ _ _) $$ [Ha H8 S0 S1 S2 S3 S4 T00 T10 T01 T11 T02 T12 T03 T13 T04 T14 Ho]
  · isplitr; · iexact HR
    isplitl [Ha]; · iexact Ha
    isplitl [H8]; · iexact H8
    unfold toSend
    isplitr [Ho]
    · isplitl [S0 T00 T10]
      · isplitl [S0]; · iexact S0
        isplitl [T00] <;> iassumption
      isplitl [S1 T01 T11]
      · isplitl [S1]; · iexact S1
        isplitl [T01] <;> iassumption
      isplitl [S2 T02 T12]
      · isplitl [S2]; · iexact S2
        isplitl [T02] <;> iassumption
      isplitl [S3 T03 T13]
      · isplitl [S3]; · iexact S3
        isplitl [T03] <;> iassumption
      isplitl [S4]; · iexact S4
      isplitl [T04] <;> iassumption
    iexact Ho
  unfold landed ins
  iintro ⟨Hq, H7, H8, ⟨⟨L0, D00, D10⟩, ⟨L1, D01, D11⟩, ⟨L2, D02, D12⟩, ⟨L3, D03, D13⟩, ⟨L4, D04, D14⟩⟩, Ho⟩
  icases Hins with ⟨H0, H1, H2, H3, H4⟩
  iapply (gatherProg_spec I K c _ _ Q) $$ [Hq H2 H11 Hy Hys Hcp T21 T22 T23 T24 Ho H5]
  · isplitr; · iexact HR
    isplitl [Hq]; · iexact Hq
    isplitl [H2]; · iexact H2
    isplitl [H11]; · iexact H11
    isplitl [Hy]; · iexact Hy
    isplitl [Hys]; · iexact Hys
    isplitl [Hcp]; · iexact Hcp
    isplitl [T21 T22 T23 T24]
    · isplitl [T21]; · iexact T21
      isplitl [T22]; · iexact T22
      isplitl [T23] <;> iassumption
    isplitl [Ho] <;> iassumption
  iintro ⟨H6, H2, H11, H12, Hzc, ⟨D21, D22, D23, D24⟩, Ho, H5⟩
  ihave Hl := (landed_back I c) $$ [L0 L1 L2 L3 L4 R9 R10]
  · isplitl [L0]; · iexact L0
    isplitl [L1]; · iexact L1
    isplitl [L2]; · iexact L2
    isplitl [L3]; · iexact L3
    isplitl [L4]; · iexact L4
    isplitl [R9] <;> iassumption
  icases Hl with ⟨H9, H10⟩
  iapply Hk
  isplitl [Hz]; · iexact Hz
  isplitl [D00 D10 Hd D01 D11 D21 D02 D12 D22 D03 D13 D23 D04 D14 D24]
  · isplitl [D00 D10 Hd]
    · isplitl [D00]; · iexact D00
      isplitl [D10] <;> iassumption
    isplitl [D01 D11 D21]
    · isplitl [D01]; · iexact D01
      isplitl [D11] <;> iassumption
    isplitl [D02 D12 D22]
    · isplitl [D02]; · iexact D02
      isplitl [D12] <;> iassumption
    isplitl [D03 D13 D23]
    · isplitl [D03]; · iexact D03
      isplitl [D13] <;> iassumption
    isplitl [D04]; · iexact D04
    isplitl [D14] <;> iassumption
  isplitl [Hzc]; · iexact Hzc
  isplitl [Ho]; · iexact Ho
  isplitl [H6 H7 H8 H9 H10 H11 H12]
  · isplitl [H6]; · iexact H6
    isplitl [H7]; · iexact H7
    isplitl [H8]; · iexact H8
    isplitl [H9]; · iexact H9
    isplitl [H10]; · iexact H10
    isplitl [H11] <;> iassumption
  isplitl [H0 H1 H2 H3 H4]
  · isplitl [H0]; · iexact H0
    isplitl [H1]; · iexact H1
    isplitl [H2]; · iexact H2
    isplitl [H3] <;> iassumption
  iexact H5

end Cert.KernelIdeal.Flash
-- ==== Proof.Flash.Tokens.lean ====
/- What the launch deals out: the cells by kind, the tokens given to the partners that pay with them, the positions and the credits. -/
module

public import proofs.«01_k».proof.Proof.Flash.Pieces

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's cells by kind -/

theorem xj_inj : Function.Injective xj := by decide
theorem univ_cells : (Finset.univ : Finset CI) = insert 31 (insert 30 (Finset.univ.map ⟨xj, xj_inj⟩)) := by decide
theorem csem_inj : Function.Injective csem := by decide

/-- Something of every cell: of the barrier's, of the inner copies', of the transfers'. -/
theorem cells_eq (Φ : CI → sProp 𝕄) :
    bigSep Finset.univ Φ = iprop(Φ 31 ∗ Φ 30 ∗ bigSep Finset.univ fun x : XI => Φ (xj x)) := by
  rw [univ_cells, BI.bigSep_insert (by decide), BI.bigSep_insert (by decide), BI.bigSep_map]; rfl

/-- Something of every transfer's cell: index by index, the three kinds, the sender's and the receiver's. -/
theorem kinds_eq (Φ : XI → sProp 𝕄) :
    bigSep Finset.univ Φ = bigSep Finset.univ fun k : Fin 5 =>
      iprop((Φ (0, false, k) ∗ Φ (0, true, k)) ∗ (Φ (1, false, k) ∗ Φ (1, true, k)) ∗ (Φ (2, false, k) ∗ Φ (2, true, k))) := by
  rw [bigSep_univ_prod, bigSep_univ_eq_bigSepL [0, 1, 2] (by decide) (by decide)]
  have h : ∀ a : Fin 3, (bigSep Finset.univ fun y : Bool × Fin 5 => Φ (a, y))
      = bigSep Finset.univ fun k : Fin 5 => iprop(Φ (a, false, k) ∗ Φ (a, true, k)) := fun a => by
    rw [bigSep_univ_prod, bigSep_univ_eq_bigSepL [false, true] (by decide) (by decide), bigSep_sep']; rfl
  simp only [bigSep_sep'] at h ⊢
  rw [← h 0, ← h 1, ← h 2]; rfl

/-! ## Tokens -/

theorem kcell_injective : Function.Injective (kcell : Dev nD × CI → GSem nD τ sig) := by
  rintro ⟨c, j⟩ ⟨c', j'⟩ h
  have h1 : c = c' := by have := congrArg (fun g : GSem nD τ sig => g.1.1) h; exact this
  have h2 : j = j' := csem_inj (congrArg Prod.snd h)
  rw [h1, h2]

/-- All the cells. -/
def allCells : Finset (GSem nD τ sig) := Finset.univ.map ⟨kcell, kcell_injective⟩

abbrev tokOf (cj : Dev nD × CI × Fin 5) : GSem nD τ sig × ℕ × Fin 5 := (kcell (cj.1, cj.2.1), 0, cj.2.2)
theorem tokOf_injective : Function.Injective (tokOf : Dev nD × CI × Fin 5 → GSem nD τ sig × ℕ × Fin 5) := by
  rintro ⟨c, j, d⟩ ⟨c', j', d'⟩ h
  have h1 := kcell_injective (congrArg Prod.fst h)
  have h2 : d = d' := congrArg (fun x : GSem nD τ sig × ℕ × Fin 5 => x.2.2) h
  have e1 : c = c' := (Prod.mk.inj h1).1
  have e2 : j = j' := (Prod.mk.inj h1).2
  rw [e1, e2, h2]
/-- Five tokens per cell. -/
def allToks : Finset (GSem nD τ sig × ℕ × Fin 5) := Finset.univ.map ⟨tokOf, tokOf_injective⟩

/-- The tokens of device `c`'s own cells. -/
def toks (c : Dev nD) : sProp 𝕄 :=
  bigSep Finset.univ fun j : CI => bigSep Finset.univ fun d : Fin 5 => dutyTok ER (kcell (c, j)) 0 d

/-- Those in use. -/
def ownToks (c : Dev nD) : sProp 𝕄 :=
  iprop((bigSep Finset.univ fun b : Fin 5 => dutyTok ER (bc c) 0 b) ∗ dutyTok ER (cc c) 0 0
    ∗ bigSep Finset.univ fun k : Fin 5 =>
      iprop((dutyTok ER (xc c (0, false, k)) 0 0 ∗ dutyTok ER (xc c (0, true, k)) 0 0)
        ∗ (dutyTok ER (xc c (1, false, k)) 0 0 ∗ dutyTok ER (xc c (1, true, k)) 0 0)
        ∗ (dutyTok ER (xc c (2, false, k)) 0 0 ∗ dutyTok ER (xc c (2, true, k)) 0 0)))

/-- The two tokens one transfer pays with. -/
def pair (a : Fin 3) (k : Fin 5) (c : Dev nD) : sProp 𝕄 :=
  iprop(dutyTok ER (xc c (a, false, k)) 0 0 ∗ dutyTok ER (xc (par (pb a k) c) (a, true, k)) 0 0)

/-- The tokens device `c` pays with. -/
def payToks (c : Dev nD) : sProp 𝕄 :=
  iprop((bigSep Finset.univ fun b : Fin 5 => dutyTok ER (bc (par b c)) 0 b) ∗ dutyTok ER (cc c) 0 0
    ∗ bigSep Finset.univ fun k : Fin 5 => iprop(pair 0 k c ∗ pair 1 k c ∗ pair 2 k c))

theorem toks_own (c : Dev nD) : toks (F := F) c ⊢ ownToks c := by
  unfold toks ownToks
  rw [cells_eq]
  have h1 : ∀ x ∈ (Finset.univ : Finset XI), (bigSep Finset.univ fun d : Fin 5 => (dutyTok ER (kcell (c, xj x)) 0 d : sProp 𝕄))
      ⊢ dutyTok ER (xc c x) 0 0 := fun x _ => by rw [kcell_xj]; exact bigSep_elim (Finset.mem_univ (0 : Fin 5))
  have h2 : (bigSep Finset.univ fun d : Fin 5 => (dutyTok ER (cc c) 0 d : sProp 𝕄)) ⊢ dutyTok ER (cc c) 0 0 :=
    bigSep_elim (Finset.mem_univ (0 : Fin 5))
  exact BI.sep_mono (BI.Entails.refl _) (BI.sep_mono h2 ((bigSep_mono h1).trans (Entails.of_eq (kinds_eq fun x => dutyTok ER (xc c x) 0 0))))

/-- Device and index, the device moved to its partner over the index's bit. -/
def swapE (h : Fin 5 → Fin 5) : Dev nD × Fin 5 ≃ Dev nD × Fin 5 where
  toFun x := (par (h x.2) x.1, x.2)
  invFun x := (par (h x.2) x.1, x.2)
  left_inv x := Prod.ext (par_par _ _) rfl
  right_inv x := Prod.ext (par_par _ _) rfl

theorem around (h : Fin 5 → Fin 5) (Φ : Dev nD → Fin 5 → sProp 𝕄) :
    (bigSep Finset.univ fun c => bigSep Finset.univ fun k => Φ c k)
      = bigSep Finset.univ fun c => bigSep Finset.univ fun k => Φ (par (h k) c) k := by
  rw [← bigSep_univ_prod (fun x : Dev nD × Fin 5 => Φ x.1 x.2), bigSep_univ_equiv (swapE h), bigSep_univ_prod]; rfl

/-- The tokens dealt to the partners. -/
theorem own_around : (bigSep Finset.univ fun c : Dev nD => (ownToks c : sProp 𝕄)) ⊢ bigSep Finset.univ fun c : Dev nD => payToks c := by
  unfold ownToks payToks pair
  simp only [bigSep_sep']
  iintro ⟨H1, H2, ⟨H3, H4⟩, ⟨H5, H6⟩, H7, H8⟩
  isplitl [H1]
  · iapply (Entails.of_eq (around (fun b => b) fun c b => (dutyTok ER (bc c) 0 b : sProp 𝕄))); iexact H1
  isplitl [H2]; · iexact H2
  isplitl [H3 H4]
  · isplitl [H3]; · iexact H3
    iapply (Entails.of_eq (around (pb 0) fun c k => (dutyTok ER (xc c (0, true, k)) 0 0 : sProp 𝕄))); iexact H4
  isplitl [H5 H6]
  · isplitl [H5]; · iexact H5
    iapply (Entails.of_eq (around (pb 1) fun c k => (dutyTok ER (xc c (1, true, k)) 0 0 : sProp 𝕄))); iexact H6
  isplitl [H7]; · iexact H7
  iapply (Entails.of_eq (around (pb 2) fun c k => (dutyTok ER (xc c (2, true, k)) 0 0 : sProp 𝕄))); iexact H8
theorem toks_around : (bigSep Finset.univ fun c : Dev nD => (toks c : sProp 𝕄)) ⊢ bigSep Finset.univ fun c : Dev nD => payToks c :=
  (bigSep_mono fun c _ => toks_own c).trans own_around

/-! ## Positions -/

/-- The positions on device `c`'s cells. -/
def poss (c : Dev nD) : sProp 𝕄 :=
  iprop(atPos ER (bc c) 0 ∅ 0 ∗ atPos ER (cc c) 0 ∅ 0
    ∗ bigSep Finset.univ fun k : Fin 5 =>
      iprop((atPos ER (xc c (0, false, k)) 0 ∅ 0 ∗ atPos ER (xc c (0, true, k)) 0 ∅ 0)
        ∗ (atPos ER (xc c (1, false, k)) 0 ∅ 0 ∗ atPos ER (xc c (1, true, k)) 0 ∅ 0)
        ∗ (atPos ER (xc c (2, false, k)) 0 ∅ 0 ∗ atPos ER (xc c (2, true, k)) 0 ∅ 0)))

theorem poss_eq (c : Dev nD) : (bigSep Finset.univ fun j : CI => (atPos ER (kcell (c, j)) 0 ∅ 0 : sProp 𝕄)) = poss c := by
  unfold poss
  rw [cells_eq, ← kinds_eq fun x => (atPos ER (xc c x) 0 ∅ 0 : sProp 𝕄)]
  simp only [kcell_xj]; rfl

/-! ## Credits -/

theorem cred_some (O : Dev nD → CellTallies nD τ sig Unit) (g : GSem nD τ sig) (n : ℕ) (h : n ≤ ∑ d, O d g ()) :
    (cred (tallyOn g (launchCredit (Pipeline.owing O) 0 g)) : sProp 𝕄) ⊢ cred (tallyAt g () n) := by
  have e : (tallyOn g (launchCredit (Pipeline.owing O) 0 g) : CellTallies nD τ sig Unit)
      = tallyAt g () n + tallyAt g () ((∑ d, O d g ()) - n) := by
    rw [tallyAt_add]
    unfold tallyAt; refine congrArg _ (Finsupp.ext fun u => ?_); cases u
    rw [Pipeline.launchCredit_owing, Finsupp.single_eq_same]; exact (Nat.add_sub_cancel' h).symm
  rw [e]
  exact (cred_add _ _).1.trans sep_elim_left

theorem owed_ge (c : Dev nD) (s n : ℕ) (h1 : 19 - n ≤ s) (h2 : s < 19) (hn : n ≤ 19) : dueAmt s ≤ owed c n (dueCell c s) () := by
  induction n with
  | zero => omega
  | succ n ih =>
    rw [owed, Pi.add_apply, Finsupp.add_apply]
    by_cases hs : s = 18 - n
    · subst hs; rw [tallyAt_apply, if_pos ⟨rfl, rfl⟩]; omega
    · exact (ih (by omega) (by omega)).trans (Nat.le_add_right _ _)

theorem launch_x (c : Dev nD) (a : Fin 3) (k : Fin 5) (h : live (a, true, k) = true) :
    amt (a, true, k) ≤ ∑ d : Dev nD, owed d 19 (xc c (a, true, k)) () := by
  have key : ∃ s, s < 19 ∧ dueCell (par (pb a k) c) s = xc c (a, true, k) ∧ dueAmt s = amt (a, true, k) := by
    match a, h with
    | 0, _ => exact ⟨5 + 2 * k.val, by omega, (due_o k _).trans (congrArg (fun d => xc d _) (par_par (rb k) c)), dueA_o k⟩
    | 1, _ => exact ⟨6 + 2 * k.val, by omega, (due_ml k _).trans (congrArg (fun d => xc d _) (par_par (rb k) c)), dueA_ml k⟩
    | 2, h =>
      have hk : k ≠ 0 := by rintro rfl; exact absurd h (by decide)
      exact ⟨14 + k.val, by omega, (due_y k hk _).trans (congrArg (fun d => xc d _) (par_par k c)), dueA_y k hk⟩
  obtain ⟨s, hs, h1, h2⟩ := key
  rw [← h2, ← h1]
  exact (owed_ge (par (pb a k) c) s 19 (by omega) hs le_rfl).trans
    (Finset.single_le_sum (f := fun d => owed d 19 (dueCell (par (pb a k) c) s) ()) (fun _ _ => Nat.zero_le _) (Finset.mem_univ _))

theorem par_inj (c : Dev nD) : Function.Injective fun b : Fin 5 => par b c := by revert c; decide

theorem launch_bar (c : Dev nD) : 5 ≤ ∑ d : Dev nD, owed d 19 (bc c) () := by
  refine le_trans ?_ (Finset.sum_le_sum_of_subset (Finset.subset_univ (Finset.univ.map ⟨fun b : Fin 5 => par b c, par_inj c⟩)))
  rw [Finset.sum_map]
  have h : ∀ b : Fin 5, 1 ≤ owed (par b c) 19 (bc c) () := fun b => by
    have := owed_ge (par b c) b.val 19 (by omega) (by omega) le_rfl
    have e : dueCell (par b c) b.val = bc c := by
      unfold dueCell; rw [dif_pos b.isLt]; exact congrArg bc (par_par b c)
    have e' : dueAmt b.val = 1 := by unfold dueAmt; rw [dif_pos b.isLt]
    rwa [e, e'] at this
  exact (by simp : 5 ≤ ∑ _b : Fin 5, 1).trans (Finset.sum_le_sum fun b _ => h b)

/-- What device `c` is credited at the start. -/
def crs (c : Dev nD) : sProp 𝕄 :=
  iprop(cred (tallyAt (bc c) () 5) ∗ bigSep Finset.univ fun k : Fin 5 =>
    iprop(cred (tallyAt (xc c (0, true, k)) () (amt (0, true, k))) ∗ cred (tallyAt (xc c (1, true, k)) () (amt (1, true, k)))
      ∗ if k = 0 then iprop(emp) else cred (tallyAt (xc c (2, true, k)) () (amt (2, true, k)))))

abbrev O₀ (c : Dev nD) : CellTallies nD τ sig Unit := owed c 19

theorem crs_intro (c : Dev nD) : (Pipeline.launchCred O₀ c : sProp 𝕄) ⊢ crs c := by
  have drop : ∀ P Q : sProp 𝕄, iprop(P ∗ Q) ⊢ Q := fun P Q => sep_elim_right
  unfold Pipeline.launchCred crs
  refine (BI.bigSep_subset (Finset.subset_univ (Finset.univ.map ⟨csem, csem_inj⟩))).trans ?_
  rw [BI.bigSep_map, cells_eq]
  refine BI.sep_mono (cred_some O₀ (bc c) 5 (launch_bar c)) ?_
  refine (drop _ _).trans ?_
  rw [kinds_eq]
  refine bigSep_mono fun k _ => ?_
  have hx : ∀ x : XI, ((c : Thread nD τ), (⟨csem, csem_inj⟩ : CI ↪ SemLoc sig) (xj x)) = xc c x := fun x => kcell_xj c x
  simp only [hx]
  have h : ∀ a, live (a, true, k) = true → (cred (tallyOn (xc c (a, true, k)) (launchCredit (Pipeline.owing O₀) 0 (xc c (a, true, k)))) : sProp 𝕄)
      ⊢ cred (tallyAt (xc c (a, true, k)) () (amt (a, true, k))) := fun a hl => cred_some O₀ _ _ (launch_x c a k hl)
  refine BI.sep_mono ((drop _ _).trans (h 0 rfl)) (BI.sep_mono ((drop _ _).trans (h 1 rfl)) ?_)
  by_cases hk : k = 0
  · rw [if_pos hk]; exact BI.affine
  · rw [if_neg hk]; exact (drop _ _).trans (h 2 ((by decide : ∀ k : Fin 5, ¬k = 0 → live (2, true, k) = true) k hk))

end Cert.KernelIdeal.Flash
-- ==== Proof.Flash.Oblige.lean ====
/- The library's obligation for the body, from the body's run. -/
module

public import proofs.«01_k».proof.Proof.Flash.Body
public import proofs.«01_k».proof.Proof.Flash.Tokens
public import proofs.«01_k».proof.Proof.Gen.KernelIdeal.Points

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state before the launch. -/
def s₀ : MemSt nD τ sig (Elt F) := ⟨m, fun _ => 0, ρ⟩

/-- What the devices' inputs hold. -/
def inp : Ins F where
  x c := (win0_0.blk t0_0).view.read (Elt F) (m ((c : Thread nD τ).loc main_arg0))
  wq c := (win0_1.blk t0_0).view.read (Elt F) (m ((c : Thread nD τ).loc main_arg1))
  wo c := (win0_2.blk t0_0).view.read (Elt F) (m ((c : Thread nD τ).loc main_arg4))
  kk c := (win0_3.blk t0_0).view.read (Elt F) (m ((c : Thread nD τ).loc main_arg2))
  vv c := (win0_4.blk t0_0).view.read (Elt F) (m ((c : Thread nD τ).loc main_arg3))

/-! ## What a device starts from and ends with -/

/-- The records, without the levels. -/
def records0 (K : Dev nD × CI → ℕ) : sProp 𝕄 :=
  iprop((bigSep Finset.univ fun ck : Dev nD × CI => cellInv ER (sched (inp m)) (K ck) (kcell ck))
    ∗ (bigSep Finset.univ fun ck : Dev nD × CI => reached ER (kcell ck) 0))

instance records0_persistent (K : Dev nD × CI → ℕ) : BI.Persistent (records0 m K) := by unfold records0; infer_instance

/-- After the update at launch: the records, the positions and the tokens. -/
def G' (c : Dev nD) : sProp 𝕄 := iprop(∃ K, records0 m K ∗ poss c ∗ payToks c)

/-- With the levels and the credits. -/
def start (c : Dev nD) : sProp 𝕄 :=
  iprop(∃ K, records (inp m) K ∗ Bx c ∗ (bigSep Finset.univ fun k => TxAll k c) ∗ Cp c)

def Φ₀ (c : Dev nD) : sProp 𝕄 := iprop(start m c ∗ scr c)
def Φ₁ (c : Dev nD) : sProp 𝕄 :=
  iprop(semVal (bc c) 0 ∗ (bigSep Finset.univ fun k => DnAll k c) ∗ semVal (cc c) 0 ∗ scr c)

/-- The run's data: the inputs are as fetched, the output as computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).wo c
    | ⟨3, _⟩ => (inp m).kk c
    | ⟨4, _⟩ => (inp m).vv c
    | ⟨5, _⟩ => (inp m).out c
  Φ t := match t with
    | ⟨0, _⟩ => Φ₀ m c
    | ⟨_ + 1, _⟩ => Φ₁ c
  q _ := fullShare
  owed t := match t with
    | ⟨0, _⟩ => O₀ c
    | ⟨_ + 1, _⟩ => 0

theorem tx_one (c : Dev nD) (k : Fin 5) :
    iprop(((atPos ER (xc c (0, false, k)) 0 ∅ 0 ∗ atPos ER (xc c (0, true, k)) 0 ∅ 0)
          ∗ (atPos ER (xc c (1, false, k)) 0 ∅ 0 ∗ atPos ER (xc c (1, true, k)) 0 ∅ 0)
          ∗ (atPos ER (xc c (2, false, k)) 0 ∅ 0 ∗ atPos ER (xc c (2, true, k)) 0 ∅ 0))
        ∗ (pair 0 k c ∗ pair 1 k c ∗ pair 2 k c)
        ∗ (cred (tallyAt (xc c (0, true, k)) () (amt (0, true, k))) ∗ cred (tallyAt (xc c (1, true, k)) () (amt (1, true, k)))
          ∗ if k = 0 then iprop(emp) else cred (tallyAt (xc c (2, true, k)) () (amt (2, true, k)))))
      ⊢ (TxAll k c : sProp 𝕄) := by
  unfold TxAll Tx pair
  by_cases hk : k = 0
  · subst hk
    rw [if_pos rfl, if_pos rfl]
    iintro ⟨⟨Ha0, Ha1, ⟨Hx, Hy⟩⟩, ⟨Ht0, Ht1, -⟩, ⟨Hc0, Hc1, -⟩⟩
    isplitl [Ha0 Ht0 Hc0]
    · isplitl [Ht0]; · iexact Ht0
      isplitl [Ha0] <;> iassumption
    isplitl [Ha1 Ht1 Hc1]
    · isplitl [Ht1]; · iexact Ht1
      isplitl [Ha1] <;> iassumption
    isplitl [Hx] <;> iassumption
  · rw [if_neg hk, if_neg hk]
    iintro ⟨⟨Ha0, Ha1, Ha2⟩, ⟨Ht0, Ht1, Ht2⟩, ⟨Hc0, Hc1, Hc2⟩⟩
    isplitl [Ha0 Ht0 Hc0]
    · isplitl [Ht0]; · iexact Ht0
      isplitl [Ha0] <;> iassumption
    isplitl [Ha1 Ht1 Hc1]
    · isplitl [Ht1]; · iexact Ht1
      isplitl [Ha1] <;> iassumption
    isplitl [Ht2]; · iexact Ht2
    isplitl [Ha2] <;> iassumption

theorem credits_join (c : Dev nD) : iprop(poss c ∗ payToks c ∗ crs c)
    ⊢ iprop(Bx (F := F) c ∗ (bigSep Finset.univ fun k => TxAll k c) ∗ Cp c) := by
  have h := bigSep_mono (s := (Finset.univ : Finset (Fin 5))) fun k _ => tx_one (F := F) c k
  unfold poss payToks crs Bx Cp
  iintro ⟨⟨Hab, Hac, Ha⟩, ⟨Htb, Htc, Ht⟩, ⟨Hcb, Hc⟩⟩
  isplitl [Hab Htb Hcb]
  · isplitl [Htb]; · iexact Htb
    isplitl [Hab] <;> iassumption
  isplitl [Ha Ht Hc]
  · iapply (show _ ⊢ (bigSep Finset.univ fun k => TxAll k c : sProp 𝕄) from h)
    iapply (Entails.of_eq (bigSep_sep' (Finset.univ : Finset (Fin 5)) _ _).symm)
    isplitl [Ha]; · iexact Ha
    iapply (Entails.of_eq (bigSep_sep' (Finset.univ : Finset (Fin 5)) _ _).symm)
    isplitl [Ht] <;> iassumption
  isplitl [Htc] <;> iassumption

/-! ## The body's obligation -/

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding what it should. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def obPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def obPost (c : Dev nD) : sProp 𝕄 :=
  iprop(Φ₁ c ∗ (dats m ρ 0 c).owesAt () t0_0.succ
    ∗ stg c cc0_stg0_0 ((inp m).x c) ∗ stg c cc0_stg1_0 ((inp m).wq c) ∗ stg c cc0_stg2_0 ((inp m).wo c)
    ∗ stg c cc0_stg3_0 ((inp m).kk c) ∗ stg c cc0_stg4_0 ((inp m).vv c) ∗ stg c cc0_stg5_0 ((inp m).out c))

theorem before0 (c : Dev nD) (d) : (dats m ρ 0 c).before (0 : Fin 6) t0_0 d = (inp m).x c := by
  unfold Dat.before; rw [if_pos (fetch0_0 t0_0)]; rfl
theorem before1 (c : Dev nD) (d) : (dats m ρ 0 c).before (1 : Fin 6) t0_0 d = (inp m).wq c := by
  unfold Dat.before; rw [if_pos (fetch0_1 t0_0)]; rfl
theorem before2 (c : Dev nD) (d) : (dats m ρ 0 c).before (2 : Fin 6) t0_0 d = (inp m).wo c := by
  unfold Dat.before; rw [if_pos (fetch0_2 t0_0)]; rfl
theorem before3 (c : Dev nD) (d) : (dats m ρ 0 c).before (3 : Fin 6) t0_0 d = (inp m).kk c := by
  unfold Dat.before; rw [if_pos (fetch0_3 t0_0)]; rfl
theorem before4 (c : Dev nD) (d) : (dats m ρ 0 c).before (4 : Fin 6) t0_0 d = (inp m).vv c := by
  unfold Dat.before; rw [if_pos (fetch0_4 t0_0)]; rfl

theorem ob_in (c : Dev nD) : obPre m ρ c ⊢ iprop(∃ K, bodyIn (inp m) K c) := by
  unfold obPre Φ₀ start bodyIn ins owesE Dat.owesAt Pipeline.owesWithin
  simp only [before0, before1, before2, before3, before4]
  rw [show (dats m ρ 0 c).owed t0_0.castSucc = owed c 19 from rfl]
  iintro ⟨⟨⟨%K, HR, HB, HT, HC⟩, Hs⟩, ⟨%W, -, Ho⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩⟩
  subst e0 e1 e2 e3 e4
  iexists K
  isplitl [HR]; · iexact HR
  isplitl [HB]; · iexact HB
  isplitl [HT]; · iexact HT
  isplitl [HC]; · iexact HC
  isplitl [Ho]; · iexists W; iexact Ho
  isplitl [Hs]; · iexact Hs
  isplitl [H0 H1 H2 H3 H4]
  · isplitl [H0]; · iexact H0
    isplitl [H1]; · iexact H1
    isplitl [H2]; · iexact H2
    isplitl [H3]; · iexact H3
    iexact H4
  iexists f5; iexact H5

theorem ob_out (c : Dev nD) : bodyOut (inp m) c ⊢ obPost m ρ c := by
  unfold obPost Φ₁ bodyOut ins owesE Dat.owesAt Pipeline.owesWithin
  rw [show (dats m ρ 0 c).owed t0_0.succ = 0 from rfl]
  iintro ⟨Hb, HD, Hc, ⟨%W, Ho⟩, Hs, ⟨H0, H1, H2, H3, H4⟩, H5⟩
  isplitl [Hb HD Hc Hs]
  · isplitl [Hb]; · iexact Hb
    isplitl [HD]; · iexact HD
    isplitl [Hc] <;> iassumption
  isplitl [Ho]
  · iexists W
    isplitr; · ipureintro; exact fun _ _ => Or.inl trivial
    iexact Ho
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

theorem ob_run (c : Dev nD) : obPre m ρ c ⊢ wpc c (bodyProg (F := F)) (fun _ => obPost m ρ c) := by
  iintro H
  ihave H := (ob_in m ρ c) $$ H
  icases H with ⟨%K, H⟩
  iapply (body_spec (inp m) K c fun _ => obPost m ρ c) $$ H
  iintro H
  iapply (ob_out m ρ c); iexact H

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_all]
  show obPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _)
      cc0_scratch7 cc0_scratch8 cc0_scratch9 cc0_scratch10 cc0_scratch11 cc0_scratch12 cc0_scratch13) (fun _ => obPost m ρ c)
  rw [cc0_body_eq_canon]
  exact ob_run m ρ c

end Cert.KernelIdeal.Flash
-- ==== Proof.Flash.Launch.lean ====
/- The launch and the run of the whole machine. -/
module

public import proofs.«01_k».proof.Proof.Flash.Oblige
public import Idealize.ShloMosaic.Lib.Pipeline.CollectiveSegs
public import Idealize.ShloMosaic.Lib.Pipeline.ValueKit.Geometry

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: all of its cells but the barrier's. -/
abbrev osem (j : Fin 31) : SemLoc sig := csem j.castSucc

theorem ownSemFacts : Pipeline.OwnSemFacts cfg0.spec osem := by decide +kernel

theorem univ_last : (Finset.univ : Finset CI) = insert 31 (Finset.univ.map Fin.castSuccEmb) := by decide

theorem unscoped_eq (c : Dev nD) : (unscopedSems0 c : sProp 𝕄) = semVal (bc c) 0 := by
  unfold unscopedSems0; rw [bigSep_eq_bigSepL_of_eq [SemLoc.reg barS] (by decide) (by decide)]; rfl

/-- All of a device's counters at zero: the barrier's and its own. -/
theorem sems_eq (c : Dev nD) : (bigSep Finset.univ fun j : CI => (semVal (kcell (c, j)) 0 : sProp 𝕄))
    = iprop(unscopedSems0 c ∗ Pipeline.ownSems0 (Ix := Unit) (Name := ℕ) (U := UU) (Lvl := ℕ) (Val := Elt F) (τ := τ) osem c) := by
  rw [univ_last, BI.bigSep_insert (by decide), BI.bigSep_map, unscoped_eq]; rfl

/-- The same by kind. -/
theorem sems_kinds (c : Dev nD) : (bigSep Finset.univ fun j : CI => (semVal (kcell (c, j)) 0 : sProp 𝕄))
    = iprop(semVal (bc c) 0 ∗ semVal (cc c) 0 ∗ bigSep Finset.univ fun k : Fin 5 => DnAll k c) := by
  rw [cells_eq]
  simp only [kcell_xj]
  rw [kinds_eq fun x => (semVal (xc c x) 0 : sProp 𝕄)]; rfl

/-! ## The update at launch -/

def u₀ : UU := (initOf (Pipeline.cells cfgs cellOf_inj) (Pipeline.launchToks cfgs cellOf_inj), initOf allCells allToks)

/-- What device `c` gets of the protocol's initial state. -/
def G (c : Dev nD) : sProp 𝕄 :=
  iprop((bigSep Finset.univ fun k : CI => roundState ER (sched (inp m)) (kcell (c, k)) 0)
    ∗ ((bigSep Finset.univ fun k : CI => atPos ER (kcell (c, k)) 0 ∅ 0) ∗ (bigSep Finset.univ fun k : CI => reached ER (kcell (c, k)) 0))
    ∗ toks c)

theorem cells_deal (Φ : GSem nD τ sig → sProp 𝕄) :
    bigSep allCells Φ = bigSep Finset.univ fun c : Dev nD => bigSep Finset.univ fun k : CI => Φ (kcell (c, k)) := by
  unfold allCells; rw [BI.bigSep_map, bigSep_univ_prod]; rfl

theorem toks_deal : bigSep allToks (fun x => (dutyTok ER x.1 x.2.1 x.2.2 : sProp 𝕄)) = bigSep Finset.univ fun c : Dev nD => toks c := by
  unfold allToks toks; rw [BI.bigSep_map, bigSep_univ_prod]
  exact bigSep_congr fun c _ => by rw [bigSep_univ_prod]; rfl

theorem fund_all : BI.own (ER (initOf allCells allToks)) ⊢ (|==> bigSep Finset.univ (G m) : sProp 𝕄) := by
  iintro HX
  imod (Rounds.fund ER (sched (inp m)) allCells allToks) $$ HX with ⟨Hst, Hr, Hat, Htok⟩
  imodintro
  ihave Hst' := (Entails.of_eq (cells_deal fun g => roundState ER (sched (inp m)) g 0)) $$ Hst
  ihave Hat' := (Entails.of_eq (cells_deal fun g => (atPos ER g 0 ∅ 0 : sProp 𝕄))) $$ Hat
  ihave Hr' := (Entails.of_eq (cells_deal fun g => (reached ER g 0 : sProp 𝕄))) $$ Hr
  ihave Htok' := (Entails.of_eq (toks_deal (F := F))) $$ Htok
  unfold G; simp only [bigSep_sep']
  isplitl [Hst']; · iexact Hst'
  isplitl [Hat' Hr']
  · isplitl [Hat'] <;> iassumption
  iexact Htok'

/-- A device's cells' records made. -/
def made (c : Dev nD) : sProp 𝕄 :=
  iprop((bigSep Finset.univ fun k : CI => iprop(∃ κ : ℕ, cellInv ER (sched (inp m)) κ (kcell (c, k))))
    ∗ ((bigSep Finset.univ fun k : CI => atPos ER (kcell (c, k)) 0 ∅ 0) ∗ (bigSep Finset.univ fun k : CI => reached ER (kcell (c, k)) 0))
    ∗ toks c)

theorem alloc_cells (c : Dev nD) :
    iprop((bigSep Finset.univ fun k : CI => semVal (kcell (c, k)) 0) ∗ bigSep Finset.univ fun k : CI => roundState ER (sched (inp m)) (kcell (c, k)) 0)
      ⊢ (|={Set.univ}=> bigSep Finset.univ fun k : CI => iprop(∃ κ : ℕ, cellInv ER (sched (inp m)) κ (kcell (c, k))) : sProp 𝕄) := by
  rw [← bigSep_sep']
  exact (bigSep_mono fun k _ => (Rounds.body_intro ER (sched (inp m)) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  iintro ⟨Hos, Hus, Hst, Hat, Htok⟩
  ihave Hv := (Entails.of_eq (sems_eq (F := F) c).symm) $$ [Hos Hus]
  · isplitl [Hus] <;> iassumption
  imod (alloc_cells m c) $$ [Hv Hst] with Hinv
  · isplitl [Hv] <;> iassumption
  imodintro
  isplitl [Hinv]; · iexact Hinv
  isplitl [Hat]; · iexact Hat
  iexact Htok

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_one (K : Dev nD × CI → ℕ) (c : Dev nD) : iprop(records0 m K ∗ (poss c ∗ payToks c)) ⊢ G' m c := by
  unfold G'
  iintro ⟨HR, Ha, Ht⟩
  iexists K
  isplitl [HR]; · iexact HR
  isplitl [Ha] <;> iassumption

theorem regroup : (bigSep Finset.univ fun c : Dev nD => made m c) ⊢ bigSep Finset.univ (G' m) := by
  unfold made
  simp only [poss_eq]
  rw [bigSep_sep', bigSep_sep', bigSep_sep', ← bigSep_univ_prod (fun ck : Dev nD × CI => iprop(∃ κ : ℕ, cellInv ER (sched (inp m)) κ (kcell ck))),
    ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched (inp m)) κ (kcell ck) : sProp 𝕄))) $$ HI
  icases HK with ⟨%K, #HI⟩
  ihave Htk := (toks_around (F := F)) $$ Htok
  iapply (with_persistent (R := records0 m K) fun c _ => deal_one m K c)
  isplitr
  · unfold records0; isplitl; · iexact HI
    iexact HR
  · iapply (Entails.of_eq (bigSep_sep' (Finset.univ : Finset (Dev nD)) (fun c => poss (F := F) c) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Entry and exit -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, ⟨%K, HR, Ha, Ht⟩⟩
  ihave Hc := (crs_intro (F := F) c) $$ Hcr
  ihave H := (credits_join (F := F) c) $$ [Ha Ht Hc]
  · isplitl [Ha]; · iexact Ha
    isplitl [Ht] <;> iassumption
  imodintro
  isplitl
  · iexists K
    isplitl [HR Hlev]
    · unfold records0 records
      icases HR with ⟨H1, H2⟩
      isplitl [H1]; · iexact H1
      isplitl [H2] <;> iassumption
    iexact H
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  iintro ⟨Hb, HD, Hc, Hr⟩
  ihave H := (Entails.of_eq ((sems_kinds (F := F) c).symm.trans (sems_eq c))) $$ [Hb HD Hc]
  · isplitl [Hb]; · iexact Hb
    isplitl [Hc] <;> iassumption
  icases H with ⟨Hu, Ho⟩
  isplitl [Hu]; · iexact Hu
  isplitl [Ho]; · iexact Ho
  iexact Hr

theorem stage_low (c : Dev nD) (w : Fin cfg0.W) (s : Fin (cfg0.win w).nbuf) : lv ((c : Thread nD τ), .dma ((cfg0.win w).sem s)) () = 0 := by
  fin_cases w <;> fin_cases s <;> rfl
theorem dueLv_pos (s : ℕ) : 0 < dueLv s := by unfold dueLv; split <;> (try split) <;> omega

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 19 le_rfl fun s' _ _ => by rw [stage_low]; exact dueLv_pos s'
    · exact mayWait c _ 0 (by omega) fun s' h1 h2 => by omega

/-! ## The run -/

def finalA (c : Dev nD) (w : Fin cfg0.W) : Buf (Elt F) ((cfg0.win w).arr.view.loc (c : Thread nD τ)) := (dats m ρ 0 c).arrAt w cfg0.N

/-- Every window's array at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every fair execution of the 32 devices terminates, with
    every input array unchanged, the result at what the protocol computes, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin 6) (h : (cfg0.win w).isOut = false) :
    finalA m ρ c w = m ((cfg0.win w).arr.view.loc (c : Thread nD τ)) :=
  (dats m ρ 0 c).arrAt_in w h _

theorem finalA_out (c : Dev nD) : finalA m ρ c (5 : Fin 6) = (inp m).out c := by
  unfold finalA
  refine (dats m ρ 0 c).arrAt_eq_of_after_last (5 : Fin 6) t0_0 (by decide +kernel) _ fun j => ?_
  rfl

end Cert.KernelIdeal.Flash
-- ==== Proof.Flash.Frames.lean ====
/- The frame of the run: arguments unchanged, and where the result comes from. -/
module

public import proofs.«01_k».proof.Proof.Flash.Launch

@[expose] public section

noncomputable section

namespace Cert.KernelIdeal.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A run's end state: arguments unchanged, and the result what the protocol computes. -/
def Ends (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-- Every fair run ends with each device's arguments unchanged and its counters at zero. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD, Ends m r c) ∧ r.2.sem = fun _ => 0) :=
  (θ_run defs _ _).mono (fun r h => ⟨fun c =>
      ⟨(h.1 c (0 : Fin 6)).trans (finalA_in m ρ c 0 rfl), (h.1 c (1 : Fin 6)).trans (finalA_in m ρ c 1 rfl),
       (h.1 c (3 : Fin 6)).trans (finalA_in m ρ c 3 rfl), (h.1 c (4 : Fin 6)).trans (finalA_in m ρ c 4 rfl),
       (h.1 c (2 : Fin 6)).trans (finalA_in m ρ c 2 rfl)⟩, h.2⟩) (run_main m ρ)

/-- Every fair run ends with each device's result at `Ins.out` and its arguments unchanged. -/
theorem run_out (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = (inp m).out c ∧ Ends m r c) :=
  (θ_run defs _ _).mono (fun r h c =>
      ⟨(h.1 c (5 : Fin 6)).trans (finalA_out m ρ c),
       (h.1 c (0 : Fin 6)).trans (finalA_in m ρ c 0 rfl), (h.1 c (1 : Fin 6)).trans (finalA_in m ρ c 1 rfl),
       (h.1 c (3 : Fin 6)).trans (finalA_in m ρ c 3 rfl), (h.1 c (4 : Fin 6)).trans (finalA_in m ρ c 4 rfl),
       (h.1 c (2 : Fin 6)).trans (finalA_in m ρ c 2 rfl)⟩) (run_main m ρ)

/-- What each device reads is its argument arrays, whole. -/
theorem inp_eq (m : (ℓ : Loc nD τ sig) → Buf (Elt F) ℓ) :
    inp m = ⟨fun c => m ((c.tc : Thread nD τ).loc main_arg0), fun c => m ((c.tc : Thread nD τ).loc main_arg1),
      fun c => m ((c.tc : Thread nD τ).loc main_arg4), fun c => m ((c.tc : Thread nD τ).loc main_arg2),
      fun c => m ((c.tc : Thread nD τ).loc main_arg3)⟩ := by
  unfold inp
  have e0 : ∀ a, win0_0.index t0_0 a = 0 := by intro a; fin_cases a <;> rfl
  have e1 : ∀ a, win0_1.index t0_0 a = 0 := by intro a; fin_cases a <;> rfl
  have e2 : ∀ a, win0_2.index t0_0 a = 0 := by intro a; fin_cases a <;> rfl
  have e3 : ∀ a, win0_3.index t0_0 a = 0 := by intro a; fin_cases a <;> rfl
  have e4 : ∀ a, win0_4.index t0_0 a = 0 := by intro a; fin_cases a <;> rfl
  rw [Ins.mk.injEq]
  refine ⟨?_, ?_, ?_, ?_, ?_⟩ <;> funext c y <;> blk_ext [e0, e1, e2, e3, e4]

end Cert.KernelIdeal.Flash
-- ==== Proof.Flash.Same.lean ====
/- The printed kernel and the ideal kernel are one program: nothing was rewritten, so each definition of
   the one unfolds to the other's. -/
module

public import proofs.«01_k».proof.Proof.Gen.Kernel
public import proofs.«01_k».proof.Proof.Gen.KernelIdeal

@[expose] public section

set_option maxRecDepth 10000

namespace Cert.KernelIdeal.Flash

open Idealize.ShloMosaic

variable {F : FTy → Type} [FloatOps F] [hk : Cert.Kernel.Facts] [hi : Cert.KernelIdeal.Facts]

/-- The two bodies are one program. -/
theorem same_body : Cert.Kernel.cc0_body (F := F) = Cert.KernelIdeal.cc0_body (F := F) := rfl

/-- So the two tables of bodies are one. -/
theorem same_defs₀ : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig)
    (Λ := Cert.KernelIdeal.Λ₀)) (funext fun ℓ => funext fun a => ?_)
  match ℓ, a with
  | 0, (t, s) => dsimp only; rw [same_body]
  | ⟨_ + 1, h⟩, _ => exact absurd h (Nat.not_lt.2 (Nat.le_add_left _ _))

/-- And so are the two whole tables. -/
theorem same_defs : Cert.Kernel.defs (F := F) = Cert.KernelIdeal.defs (F := F) :=
  congrArg (Pipeline.defs Cert.KernelIdeal.pcfgs) same_defs₀

end Cert.KernelIdeal.Flash
-- ==== Proof.Flash.Soft.lean ====
/- Softmax over a set of keys in the extended reals: partial results over two disjoint sets merge, by the
   rescaling that the kernel uses, to the result over both. -/
module

public import Idealize.ShloMosaic.PureOps.Ideal
public import Mathlib.Data.EReal.Operations

@[expose] public section

noncomputable section

namespace Cert.KernelIdeal.Flash

open Idealize.ShloMosaic

/-- The scale of the scores. -/
abbrev sc : EReal := Ideal.ofBits .f32 0x3DB504F3#32

/-- The scale as a real. -/
theorem sc_eq : sc = ((11863283 * (2 : ℝ) ^ (-27 : ℤ) : ℝ) : EReal) := by
  simp [sc, Ideal.ofBits, Ideal.ieee, -EReal.coe_mul]
/-- It is not negative. -/
theorem sc_nonneg : 0 ≤ sc := by rw [sc_eq]; exact EReal.coe_nonneg.2 (by positivity)
/-- It is finite. -/
theorem sc_ne_top : sc ≠ ⊤ := by rw [sc_eq]; exact EReal.coe_ne_top _

/-- The pattern the maxima start from is the least extended real. -/
theorem least : Ideal.ofBits .f32 0xFF800000#32 = ⊥ := by simp [Ideal.ofBits, Ideal.ieee]

/-! # Softmax partial results over a finite set of keys, in the extended reals -/

variable {ι : Type} [DecidableEq ι]

/-- The largest score. -/
def top (s : ι → EReal) (T : Finset ι) : EReal := T.sup s
/-- The larger of all, started from that pattern, is the largest. -/
theorem fold_top (s : ι → EReal) (T : Finset ι) : Finset.fold max (Ideal.ofBits .f32 0xFF800000#32) s T = top s T := by
  rw [least]; rfl
/-- The denominator: the exponentials of the scores less the largest, summed. -/
def den (s : ι → EReal) (T : Finset ι) : EReal := ∑ i ∈ T, Ideal.exp (s i - top s T)
/-- The numerator: the same exponentials times the values, summed. -/
def num (s v : ι → EReal) (T : Finset ι) : EReal := ∑ i ∈ T, Ideal.exp (s i - top s T) * v i

/-- Rescaling an exponential from one bound of the score to a larger one. -/
theorem exp_rescale {s a m : EReal} (h1 : s ≤ a) (h2 : a ≤ m) :
    Ideal.exp (s - a) * Ideal.exp (a - m) = Ideal.exp (s - m) := by
  induction m using EReal.rec with
  | top => simp [EReal.sub_top]
  | bot =>
    obtain rfl : a = ⊥ := le_bot_iff.1 h2
    obtain rfl : s = ⊥ := le_bot_iff.1 h1
    simp
  | coe m =>
    induction a using EReal.rec with
    | top => exact absurd h2 (by simp)
    | bot =>
      obtain rfl : s = ⊥ := le_bot_iff.1 h1
      simp
    | coe a =>
      induction s using EReal.rec with
      | top => exact absurd h1 (by simp)
      | bot => simp
      | coe s =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]; congr 2; ring

/-- The factor is not negative. -/
theorem exp_nonneg (x : EReal) : 0 ≤ Ideal.exp x := by
  induction x using EReal.rec with
  | top => exact le_top
  | bot => exact le_rfl
  | coe x => exact EReal.coe_nonneg.2 (Real.exp_pos x).le

/-- It is finite. -/
theorem exp_ne_top {a m : EReal} (h : a ≤ m) : Ideal.exp (a - m) ≠ ⊤ := by
  induction m using EReal.rec with
  | top => simp [EReal.sub_top]
  | bot =>
    obtain rfl : a = ⊥ := le_bot_iff.1 h
    simp
  | coe m =>
    induction a using EReal.rec with
    | top => exact absurd h (by simp)
    | bot => simp
    | coe a => rw [← EReal.coe_sub]; exact EReal.coe_ne_top _

/-- A finite factor that is not negative goes into a sum. -/
theorem sum_mul_of_nonneg (T : Finset ι) (f : ι → EReal) {e : EReal} (h0 : 0 ≤ e) (ht : e ≠ ⊤) :
    (∑ i ∈ T, f i) * e = ∑ i ∈ T, f i * e := by
  induction T using Finset.induction_on with
  | empty => simp
  | insert a T ha ih =>
    rw [Finset.sum_insert ha, Finset.sum_insert ha, EReal.right_distrib_of_nonneg_of_ne_top h0 ht, ih]

/-- A denominator brought to a larger bound. -/
theorem den_scale (s : ι → EReal) (T : Finset ι) {m : EReal} (h : top s T ≤ m) :
    den s T * Ideal.exp (top s T - m) = ∑ i ∈ T, Ideal.exp (s i - m) := by
  unfold den
  rw [sum_mul_of_nonneg T _ (exp_nonneg _) (exp_ne_top h)]
  exact Finset.sum_congr rfl fun i hi => exp_rescale (Finset.le_sup (f := s) hi) h

/-- A numerator brought to a larger bound. -/
theorem num_scale (s v : ι → EReal) (T : Finset ι) {m : EReal} (h : top s T ≤ m) :
    num s v T * Ideal.exp (top s T - m) = ∑ i ∈ T, Ideal.exp (s i - m) * v i := by
  unfold num
  rw [sum_mul_of_nonneg T _ (exp_nonneg _) (exp_ne_top h)]
  refine Finset.sum_congr rfl fun i hi => ?_
  rw [mul_right_comm, exp_rescale (show s i ≤ top s T from Finset.le_sup (f := s) hi) h]

/-- The largest score of two sets of keys. -/
theorem top_union (s : ι → EReal) (T U : Finset ι) : max (top s T) (top s U) = top s (T ∪ U) :=
  (Finset.sup_union (f := s)).symm

/-- The merged denominators of two disjoint sets of keys are the denominator of both together. -/
theorem den_union (s : ι → EReal) {T U : Finset ι} (h : Disjoint T U) :
    den s T * Ideal.exp (top s T - max (top s T) (top s U)) + den s U * Ideal.exp (top s U - max (top s T) (top s U))
      = den s (T ∪ U) := by
  rw [den_scale s T (le_max_left _ _), den_scale s U (le_max_right _ _), top_union, ← Finset.sum_union h]; rfl

/-- The same for the numerators. -/
theorem num_union (s v : ι → EReal) {T U : Finset ι} (h : Disjoint T U) :
    num s v T * Ideal.exp (top s T - max (top s T) (top s U)) + num s v U * Ideal.exp (top s U - max (top s T) (top s U))
      = num s v (T ∪ U) := by
  rw [num_scale s v T (le_max_left _ _), num_scale s v U (le_max_right _ _), top_union, ← Finset.sum_union h]; rfl

section Rename
variable {κ : Type} [DecidableEq κ]

/-- Keys may be renamed. -/
theorem top_map (e : κ ↪ ι) (s : ι → EReal) (T : Finset κ) : top s (T.map e) = top (fun k => s (e k)) T :=
  Finset.sup_map _ _ _
theorem den_map (e : κ ↪ ι) (s : ι → EReal) (T : Finset κ) : den s (T.map e) = den (fun k => s (e k)) T := by
  unfold den; rw [Finset.sum_map, top_map]
theorem num_map (e : κ ↪ ι) (s v : ι → EReal) (T : Finset κ) :
    num s v (T.map e) = num (fun k => s (e k)) (fun k => v (e k)) T := by
  unfold num; rw [Finset.sum_map, top_map]

end Rename

end Cert.KernelIdeal.Flash
-- ==== Proof.Flash.Reads.lean ====
/- What the kernel's vector functions are at an entry, in the extended reals: queries, scores, and the
   partial softmax results of one device's keys. -/
module

public import proofs.«01_k».proof.Proof.Flash.Spec
public import proofs.«01_k».proof.Proof.Flash.Soft
public import Idealize.ShloMosaic.Lib.Pointwise

@[expose] public section

set_option maxRecDepth 16384

noncomputable section

namespace Cert.KernelIdeal.Flash

open Idealize.ShloMosaic Cert.KernelIdeal Cert.KernelIdeal.Gen

/-- A query: a row of the input times a column of the weights. -/
theorem queries_at (x : Vec Ideal S1x256x1024 .bf16) (wq : Vec Ideal S1024x1024 .bf16) (r : Fin 256) (j : Fin 1024) :
    queries x wq (ix2 r j) = ∑ t : Fin 1024, x (ix3 0 r t) * wq (ix2 t j) := by
  unfold queries
  pointwise

/-- A score: the product of query and key, scaled. -/
theorem attS_at (q : FVec Ideal S256x1024 .f32) (kk : FVec Ideal S4096x2x128 .bf16) (h : ℕ) (hh : h < 8) (r : Fin 256) (i : Fin 4096) :
    attS q kk h hh (ix2 r i) = (∑ t : Fin 128, q (ix2 r ⟨h * 128 + t.val, by omega⟩) * kk (ix3 i ⟨h / 4, by omega⟩ t)) * sc := by
  unfold attS
  pointwise
  rw [sum_mul_of_nonneg _ _ sc_nonneg sc_ne_top]
  exact Finset.sum_congr rfl fun t _ => mul_right_comm _ _ _

/-- The largest score of a row. -/
theorem attM_at (q : FVec Ideal S256x1024 .f32) (kk : FVec Ideal S4096x2x128 .bf16) (h : ℕ) (hh : h < 8) (r : Fin 256) :
    attM q kk h hh (ix2 r 0) = top (fun i : Fin 4096 => attS q kk h hh (ix2 r i)) Finset.univ := by
  unfold attM
  pointwise
  exact fold_top _ _

/-- The exponential of a score less the row's largest. -/
theorem attP_at (q : FVec Ideal S256x1024 .f32) (kk : FVec Ideal S4096x2x128 .bf16) (h : ℕ) (hh : h < 8) (r : Fin 256) (i : Fin 4096) :
    attP q kk h hh (ix2 r i) = Ideal.exp (attS q kk h hh (ix2 r i) - attM q kk h hh (ix2 r 0)) := by
  unfold attP
  pointwise

/-- The denominator of a row. -/
theorem attL_at (q : FVec Ideal S256x1024 .f32) (kk : FVec Ideal S4096x2x128 .bf16) (h : ℕ) (hh : h < 8) (r : Fin 256) :
    attL q kk h hh (ix2 r 0) = den (fun i : Fin 4096 => attS q kk h hh (ix2 r i)) Finset.univ := by
  unfold attL
  pointwise
  exact Finset.sum_congr rfl fun i _ => by rw [attP_at, attM_at]

/-- The numerator of a row. -/
theorem attO_at (q : FVec Ideal S256x1024 .f32) (kk vv : FVec Ideal S4096x2x128 .bf16) (h : ℕ) (hh : h < 8) (r : Fin 256) (d : Fin 128) :
    attO q kk vv h hh (ix2 r d) = num (fun i : Fin 4096 => attS q kk h hh (ix2 r i)) (fun i => vv (ix3 i ⟨h / 4, by omega⟩ d)) Finset.univ := by
  unfold attO
  pointwise
  exact Finset.sum_congr rfl fun i _ => by rw [attP_at, attM_at]

/-- An output: a row of quotients times a column of the output weights. -/
theorem yOwn_at (o : Vec Ideal S16x1024 .f32) (wo : Vec Ideal S1024x1024 .bf16) (r : Fin 16) (j : Fin 1024) :
    yOwn o wo (ix2 r j) = ∑ t : Fin 1024, o (ix2 r t) * wo (ix2 t j) := by
  unfold yOwn
  pointwise

end Cert.KernelIdeal.Flash
-- ==== Proof.Flash.Butterfly.lean ====
/- The butterfly's rounds in the extended reals: before round `k` a device holds the partial softmax results
   over the keys of every device whose number agrees with its own in the lowest `5 - k` bits, so that after
   the last round the results are over all keys. -/
module

public import proofs.«01_k».proof.Proof.Flash.Reads

@[expose] public section

set_option maxRecDepth 16384

noncomputable section

namespace Cert.KernelIdeal.Flash

open Idealize.ShloMosaic Cert.KernelIdeal Cert.KernelIdeal.Gen

/-- The devices whose keys `c` has seen before round `k`. -/
def grp (k : ℕ) (c : Dev nD) : Finset (Dev nD) := Finset.univ.filter fun d => d.val % 2 ^ (5 - k) = c.val % 2 ^ (5 - k)
/-- Their keys. -/
def seen (k : ℕ) (c : Dev nD) : Finset (Dev nD × Fin 4096) := grp k c ×ˢ Finset.univ

theorem grp_zero (c : Dev nD) : grp 0 c = {c} := by revert c; decide
theorem grp_five (c : Dev nD) : grp 5 c = Finset.univ := by revert c; decide
theorem grp_succ (k : Fin 5) (c : Dev nD) : grp k c ∪ grp k (par (rb k) c) = grp (k + 1) c := by revert k c; decide +kernel
theorem grp_disjoint (k : Fin 5) (c : Dev nD) : Disjoint (grp k c) (grp k (par (rb k) c)) := by revert k c; decide +kernel

theorem seen_succ (k : Fin 5) (c : Dev nD) : seen k c ∪ seen k (par (rb k) c) = seen (k + 1) c := by
  unfold seen; rw [← Finset.union_product, grp_succ]
theorem seen_disjoint (k : Fin 5) (c : Dev nD) : Disjoint (seen k c) (seen k (par (rb k) c)) :=
  Finset.disjoint_product.2 (Or.inl (grp_disjoint k c))
theorem seen_five (c : Dev nD) : seen 5 c = Finset.univ := by unfold seen; rw [grp_five]; exact Finset.univ_product_univ
/-- One device's own keys. -/
def own (c : Dev nD) : Fin 4096 ↪ Dev nD × Fin 4096 := ⟨fun i => (c, i), fun _ _ h => (Prod.ext_iff.1 h).2⟩
theorem seen_zero (c : Dev nD) : seen 0 c = Finset.univ.map (own c) := by
  unfold seen; rw [grp_zero]
  ext p
  simp only [Finset.mem_product, Finset.mem_singleton, Finset.mem_univ, and_true, Finset.mem_map, true_and]
  exact ⟨fun h => ⟨p.2, Prod.ext h.symm rfl⟩, fun ⟨i, h⟩ => by rw [← h]; rfl⟩

/-- The second eight columns of the small buffer are the denominators. -/
theorem attRowML_hi (q : FVec Ideal S256x1024 .f32) (kk : FVec Ideal S4096x2x128 .bf16) (r h : ℕ) :
    attRowML q kk r (h + 8) = attL q kk (h % 8) (Nat.mod_lt _ (by omega)) (ix2 ⟨r % 256, Nat.mod_lt _ (by omega)⟩ 0) := by
  unfold attRowML
  rw [if_neg (by omega)]
  simp only [Nat.add_mod_right]

namespace Ins
variable (I : Ins Ideal)

/-- The score of row `r`'s head `h` against a key. -/
def score (r h : ℕ) (p : Dev nD × Fin 4096) : EReal :=
  attS (I.q p.1) (I.keys p.1) (h % 8) (Nat.mod_lt _ (by omega)) (ix2 ⟨r % 256, Nat.mod_lt _ (by omega)⟩ p.2)
/-- The value of head `h` that a key weighs, at column `d`. -/
def value (h d : ℕ) (p : Dev nD × Fin 4096) : EReal :=
  I.vals p.1 (ix3 p.2 ⟨h % 8 / 4, by omega⟩ ⟨d % 128, Nat.mod_lt _ (by omega)⟩)

/-- What a device holds before a round is the partial softmax result over the keys seen. -/
theorem st_eq (k : ℕ) (hk : k ≤ 5) : ∀ (c : Dev nD) (r : ℕ),
    (∀ j < 1024, I.O k c r j = num (I.score r (j / 128)) (I.value (j / 128) j) (seen k c))
    ∧ (∀ h < 8, I.ML k c r h = top (I.score r h) (seen k c))
    ∧ (∀ h < 8, I.ML k c r (h + 8) = den (I.score r h) (seen k c)) := by
  induction k with
  | zero =>
    intro c r
    rw [seen_zero]
    refine ⟨fun j hj => ?_, fun h hh => ?_, fun h hh => ?_⟩
    · rw [num_map]; exact attO_at _ _ _ _ _ _ _
    · rw [top_map]
      exact (if_pos hh).trans (attM_at _ _ _ _ _)
    · rw [den_map]
      exact (attRowML_hi _ _ _ _).trans (attL_at _ _ _ _ _)
  | succ k ih =>
    intro c r
    obtain ⟨a1, a2, a3⟩ := ih (by omega) c r
    obtain ⟨b1, b2, b3⟩ := ih (by omega) (par (rb k) c) r
    have hd := seen_disjoint ⟨k, by omega⟩ c
    have hu := seen_succ ⟨k, by omega⟩ c
    simp only at hd hu
    refine ⟨fun j hj => ?_, fun h hh => ?_, fun h hh => ?_⟩
    · have h8 : j / 128 < 8 := by omega
      rw [O_succ, ← hu, ← num_union _ _ hd, ← a2 _ h8, ← b2 _ h8, ← a1 j hj, ← b1 j hj]; rfl
    · rw [ML_succ, ← hu, ← top_union, ← a2 h hh, ← b2 h hh]
      exact if_pos hh
    · rw [ML_succ, ← hu, ← den_union _ hd, ← a2 h hh, ← b2 h hh, ← a3 h hh, ← b3 h hh]
      refine (if_neg (show ¬ (h + 8 < 8) by omega)).trans ?_
      simp only [Nat.add_sub_cancel]; rfl

/-- The last round's quotient is the softmax result over all keys. -/
theorem D_eq (c : Dev nD) (r j : ℕ) (hj : j < 1024) :
    I.D c r j = Ideal.div (num (I.score r (j / 128)) (I.value (j / 128) j) Finset.univ) (den (I.score r (j / 128)) Finset.univ) := by
  have h8 : j / 128 < 8 := by omega
  obtain ⟨a1, a2, a3⟩ := I.st_eq 5 le_rfl c r
  rw [← seen_five c, ← a1 j hj, ← a3 _ h8, Nat.add_comm (j / 128) 8]; rfl

/-- The row that device `2 e + p` computes first is row `16 e`. -/
theorem base_four (e : Fin 16) (p : Fin 2) : base 4 (⟨2 * e.val + p.val, by show _ < 32; omega⟩ : Fin 32) = 16 * e.val := by revert e p; decide

/-- An entry of a device's result. -/
theorem out_at (c : Dev nD) (r : Fin 256) (n : Fin 1024) :
    I.out c (ix3 0 r n) = ∑ j : Fin 1024,
      Ideal.div (num (I.score r (j.val / 128)) (I.value (j.val / 128) j) Finset.univ) (den (I.score r (j.val / 128)) Finset.univ)
        * I.wo ⟨2 * (r.val / 16) + c.val % 2, by have := r.isLt; show _ < 32; omega⟩ (ix2 j n) := by
  unfold out
  pointwise
  have hr := r.isLt
  unfold ytot Y
  refine (yOwn_at _ _ _ _).trans (Finset.sum_congr rfl fun j _ => ?_)
  have hb : base 4 (⟨2 * (r.val / 16) + c.val % 2, by show _ < 32; omega⟩ : Fin 32) + r.val % 16 = r.val :=
    (congrArg (· + r.val % 16) (base_four ⟨r.val / 16, by omega⟩ ⟨c.val % 2, by omega⟩)).trans (Nat.div_add_mod _ _)
  exact congrArg (· * _) ((congrArg (fun x => I.D (⟨2 * (r.val / 16) + c.val % 2, by show _ < 32; omega⟩ : Fin 32) x j) hb).trans
    (I.D_eq _ r j j.isLt))

end Ins

end Cert.KernelIdeal.Flash
-- ==== Proof.Flash.RefRead.lean ====
/- The reference's result at an entry, in the extended reals: softmax over all keys. -/
module

public import proofs.«01_k».proof.Proof.Gen.ReferenceIdeal.Run
public import proofs.«01_k».proof.Proof.Flash.Soft
public import Idealize.ShloMosaic.Lib.Pointwise

@[expose] public section

set_option maxRecDepth 16384

noncomputable section

namespace Cert.ReferenceIdeal.Flash

open Idealize.ShloMosaic Cert.ReferenceIdeal Cert.ReferenceIdeal.Gen Cert.KernelIdeal.Flash

/-- The queries. -/
def qs (x : FVec Ideal S1x256x1024 .bf16) (wq : FVec Ideal S1024x1024 .bf16) : FVec Ideal S256x1024 .f32 :=
  extf .f32 (truncf .bf16 (Host.dotGeneral dot_S256x1024_S1024x1024_S256x1024_1_0_0_1_n_n none
    (shapeCast S256x1024 (extf .f32 x bitsLt_bf16_f32) shapeCasts_S1x256x1024_S256x1024) (extf .f32 wq bitsLt_bf16_f32)) bitsLt_bf16_f32) bitsLt_bf16_f32

/-- The scaled scores. -/
def ss (q : FVec Ideal S256x1024 .f32) (kk : FVec Ideal S1x131072x2x128 .bf16) : FVec Ideal S2x4x256x131072 .f32 :=
  mulf (extf .f32 (truncf .bf16 (transpose S2x4x256x131072 [0, 3, 2, 1]
    (Host.dotGeneral dot_S131072x2x128_S256x2x4x128_S2x131072x256x4_2_3_0_02_1_1 none
      (shapeCast S131072x2x128 (extf .f32 kk bitsLt_bf16_f32) shapeCasts_S1x131072x2x128_S131072x2x128)
      (shapeCast S256x2x4x128 q shapeCasts_S256x1024_S256x2x4x128))
    transposes_S2x131072x256x4_S2x4x256x131072_0_3_2_1) bitsLt_bf16_f32) bitsLt_bf16_f32)
    (broadcastInDim S2x4x256x131072 ![] bcast_S_S2x4x256x131072 (constant S_ .f32 0x3DB504F3#32))

/-- The largest score of each row. -/
def ts (s : FVec Ideal S2x4x256x131072 .f32) : FVec Ideal S2x4x256 .f32 :=
  Host.reduce FloatOps.maximumf s (constant S_ .f32 0xFF800000#32) reducesTo_S2x4x256x131072_S2x4x256_d3 h_S_

/-- The exponentials. -/
def es (s : FVec Ideal S2x4x256x131072 .f32) : FVec Ideal S2x4x256x131072 .f32 :=
  Host.exp (subf s (broadcastInDim S2x4x256x131072 ![0, 1, 2, 3] bcast_S2x4x256x1_S2x4x256x131072_0_1_2_3
    (broadcastInDim S2x4x256x1 ![0, 1, 2] bcast_S2x4x256_S2x4x256x1_0_1_2 (ts s))))

/-- The denominators. -/
def ds (s : FVec Ideal S2x4x256x131072 .f32) : FVec Ideal S2x4x256 .f32 :=
  Host.reduceAdd (es s) (constant S_ .f32 0x00000000#32) reducesTo_S2x4x256x131072_S2x4x256_d3 h_S_

/-- The numerators. -/
def ns (s : FVec Ideal S2x4x256x131072 .f32) (vv : FVec Ideal S1x131072x2x128 .bf16) : FVec Ideal S2x4x256x128 .f32 :=
  Host.dotGeneral dot_S2x4x256x131072_S131072x2x128_S2x4x256x128_3_0_12_2_0_1 none (es s)
    (shapeCast S131072x2x128 (extf .f32 vv bitsLt_bf16_f32) shapeCasts_S1x131072x2x128_S131072x2x128)

/-- The quotients, a row's heads side by side. -/
def os (n : FVec Ideal S2x4x256x128 .f32) (d : FVec Ideal S2x4x256 .f32) : FVec Ideal S256x1024 .f32 :=
  shapeCast S256x1024 (transpose S256x2x4x128 [2, 0, 1, 3] (Host.divf n
    (broadcastInDim S2x4x256x128 ![0, 1, 2, 3] bcast_S2x4x256x1_S2x4x256x128_0_1_2_3
      (broadcastInDim S2x4x256x1 ![0, 1, 2] bcast_S2x4x256_S2x4x256x1_0_1_2 d)))
    transposes_S2x4x256x128_S256x2x4x128_2_0_1_3) shapeCasts_S256x2x4x128_S256x1024

/-- The projected output. -/
def ys (o : FVec Ideal S256x1024 .f32) (wo : FVec Ideal S1024x1024 .bf16) : FVec Ideal S1x256x1024 .f32 :=
  shapeCast S1x256x1024 (Host.dotGeneral dot_S256x1024_S1024x1024_S256x1024_1_0_0_1_n_n none o (extf .f32 wo bitsLt_bf16_f32))
    shapeCasts_S256x1024_S1x256x1024

/-- A query at an entry. -/
theorem qs_at (x : FVec Ideal S1x256x1024 .bf16) (wq : FVec Ideal S1024x1024 .bf16) (r : Fin 256) (j : Fin 1024) :
    qs x wq (ix2 r j) = ∑ t : Fin 1024, x (ix3 0 r t) * wq (ix2 t j) := by
  unfold qs
  pointwise

/-- A score at an entry. -/
theorem ss_at (q : FVec Ideal S256x1024 .f32) (kk : FVec Ideal S1x131072x2x128 .bf16) (g : Fin 2) (u : Fin 4) (r : Fin 256) (i : Fin 131072) :
    ss q kk (ix4 g u r i) = (∑ t : Fin 128, q (ix2 r ⟨(g.val * 4 + u.val) * 128 + t.val, by omega⟩) * kk (ix4 0 i g t))
      * sc := by
  unfold ss
  pointwise
  exact congrArg (· * sc) (Finset.sum_congr rfl fun t _ => (mul_comm _ _).trans
    (congrArg (fun z => q (ix2 r z) * _) (Fin.ext (by show g.val * 512 + u.val * 128 + t.val = (g.val * 4 + u.val) * 128 + t.val; ring))))

/-- A row's largest score. -/
theorem ts_at (s : FVec Ideal S2x4x256x131072 .f32) (g : Fin 2) (u : Fin 4) (r : Fin 256) :
    ts s (ix3 g u r) = top (fun i : Fin 131072 => s (ix4 g u r i)) Finset.univ := by
  unfold ts
  pointwise
  exact fold_top _ _

/-- An exponential at an entry. -/
theorem es_at (s : FVec Ideal S2x4x256x131072 .f32) (g : Fin 2) (u : Fin 4) (r : Fin 256) (i : Fin 131072) :
    es s (ix4 g u r i) = Ideal.exp (s (ix4 g u r i) - ts s (ix3 g u r)) := by
  unfold es
  pointwise

/-- A row's denominator. -/
theorem ds_at (s : FVec Ideal S2x4x256x131072 .f32) (g : Fin 2) (u : Fin 4) (r : Fin 256) :
    ds s (ix3 g u r) = den (fun i : Fin 131072 => s (ix4 g u r i)) Finset.univ := by
  unfold ds
  pointwise
  exact Finset.sum_congr rfl fun i _ => by rw [es_at, ts_at]

/-- A row's numerator. -/
theorem ns_at (s : FVec Ideal S2x4x256x131072 .f32) (vv : FVec Ideal S1x131072x2x128 .bf16) (g : Fin 2) (u : Fin 4) (r : Fin 256) (d : Fin 128) :
    ns s vv (ix4 g u r d) = num (fun i : Fin 131072 => s (ix4 g u r i)) (fun i => vv (ix4 0 i g d)) Finset.univ := by
  unfold ns
  pointwise
  exact Finset.sum_congr rfl fun i _ => by rw [es_at, ts_at]

/-- A quotient at an entry: column `j` is head `j / 128`'s column `j % 128`. -/
theorem os_at (n : FVec Ideal S2x4x256x128 .f32) (d : FVec Ideal S2x4x256 .f32) (r : Fin 256) (j : Fin 1024) :
    os n d (ix2 r j) = Ideal.div (n (ix4 ⟨j.val / 512, by omega⟩ ⟨j.val / 128 % 4, by omega⟩ r ⟨j.val % 128, by omega⟩))
      (d (ix3 ⟨j.val / 512, by omega⟩ ⟨j.val / 128 % 4, by omega⟩ r)) := by
  unfold os
  pointwise

/-- The result at an entry. -/
theorem ys_at (o : FVec Ideal S256x1024 .f32) (wo : FVec Ideal S1024x1024 .bf16) (r : Fin 256) (n : Fin 1024) :
    ys o wo (ix3 0 r n) = ∑ j : Fin 1024, o (ix2 r j) * wo (ix2 j n) := by
  unfold ys
  pointwise

/-- The reference's result is these functions composed. -/
theorem res_eq (m : (ℓ : Loc nD τ sig) → Buf (Elt Ideal) ℓ) (c : Dev nD) :
    Value.res_out0 m c = ys (os
        (ns (ss (qs (m ((c.tc : Thread nD τ).loc main_arg0)) (m ((c.tc : Thread nD τ).loc main_arg1))) (m ((c.tc : Thread nD τ).loc main_arg2)))
          (m ((c.tc : Thread nD τ).loc main_arg3)))
        (ds (ss (qs (m ((c.tc : Thread nD τ).loc main_arg0)) (m ((c.tc : Thread nD τ).loc main_arg1))) (m ((c.tc : Thread nD τ).loc main_arg2)))))
      (m ((c.tc : Thread nD τ).loc main_arg4)) := rfl

end Cert.ReferenceIdeal.Flash
-- ==== Proof.Flash.Value.lean ====
/- The kernel's result on every device is the reference's: the keys of the whole arrays are the devices' keys
   one block after another, so that softmax over the ones is softmax over the others. -/
module

public import proofs.«01_k».proof.Proof.Flash.Butterfly
public import proofs.«01_k».proof.Proof.Flash.RefRead
public import Idealize.ShloMosaic.Lib.Layout

@[expose] public section

set_option maxRecDepth 16384

noncomputable section

namespace Cert.KernelIdeal.Flash

open Idealize.ShloMosaic Cert.KernelIdeal Cert.KernelIdeal.Gen
open Cert.ReferenceIdeal.Flash (qs ss ts es ds ns os ys)

/-- A device's key, numbered among all keys. -/
def keyNo : Dev nD × Fin 4096 ≃ Fin 131072 where
  toFun p := ⟨p.1.val * 4096 + p.2.val, by have : p.1.val < 32 := p.1.isLt; omega⟩
  invFun j := (⟨j.val / 4096, by show _ < 32; omega⟩, ⟨j.val % 4096, by omega⟩)
  left_inv p := Prod.ext (Fin.ext (by show (p.1.val * 4096 + p.2.val) / 4096 = p.1.val; omega))
    (Fin.ext (by show (p.1.val * 4096 + p.2.val) % 4096 = p.2.val; omega))
  right_inv j := Fin.ext (by show j.val / 4096 * 4096 + j.val % 4096 = j.val; omega)

/-- Every key is some device's. -/
theorem keys_all : (Finset.univ : Finset (Fin 131072)) = Finset.univ.map keyNo.toEmbedding :=
  (Finset.map_univ_equiv keyNo).symm

/-- A denominator over all keys, by device. -/
theorem den_keys (s : Fin 131072 → EReal) : den s Finset.univ = den (fun p => s (keyNo p)) Finset.univ := by
  rw [keys_all, den_map]; rfl
/-- A numerator over all keys, by device. -/
theorem num_keys (s v : Fin 131072 → EReal) :
    num s v Finset.univ = num (fun p => s (keyNo p)) (fun p => v (keyNo p)) Finset.univ := by
  rw [keys_all, num_map]; rfl

/-- A device's block of the whole keys or values, at an entry. -/
theorem block_at (w : (⟨4, ![1, 131072, 2, 128]⟩ : Shape).Idx → EReal) (p : Dev nD × Fin 4096) (g : Fin 2) (t : Fin 128) :
    Layout.block ⟨4, ![1, 4096, 2, 128]⟩ ⟨4, ![1, 131072, 2, 128]⟩ 1 32 p.1 w (by decide) (ix4 0 p.2 g t) = w (ix4 0 (keyNo p) g t) := by
  rw [Layout.block_apply]
  refine congrArg w (funext fun b => ?_)
  fin_cases b <;> rfl

/-- The devices' inputs as they are cut from whole arrays. -/
def cut (x : FVec Ideal S1x256x1024 .bf16) (wq wo : FVec Ideal S1024x1024 .bf16)
    (kk vv : FVec Ideal Cert.ReferenceIdeal.S1x131072x2x128 .bf16) : Ins Ideal where
  x _ := x
  wq _ := wq
  wo _ := wo
  kk c := Layout.block ⟨4, ![1, 4096, 2, 128]⟩ ⟨4, ![1, 131072, 2, 128]⟩ 1 32 c kk (by decide)
  vv c := Layout.block ⟨4, ![1, 4096, 2, 128]⟩ ⟨4, ![1, 131072, 2, 128]⟩ 1 32 c vv (by decide)

section Tie
variable (x : FVec Ideal S1x256x1024 .bf16) (wq wo : FVec Ideal S1024x1024 .bf16)
  (kk vv : FVec Ideal Cert.ReferenceIdeal.S1x131072x2x128 .bf16)

/-- The queries of every device are the reference's. -/
theorem q_eq (c : Dev nD) : (cut x wq wo kk vv).q c = qs x wq := by
  funext i
  rw [eq_ix2 i]
  exact (queries_at _ _ _ _).trans (Cert.ReferenceIdeal.Flash.qs_at _ _ _ _).symm

/-- A device's keys are the whole's, from its block. -/
theorem keys_at (p : Dev nD × Fin 4096) (g : Fin 2) (t : Fin 128) :
    (cut x wq wo kk vv).keys p.1 (ix3 p.2 g t) = kk (ix4 0 (keyNo p) g t) := by
  refine Eq.trans ?_ (block_at kk p g t)
  unfold Ins.keys cut
  pointwise

/-- So are its values. -/
theorem vals_at (p : Dev nD × Fin 4096) (g : Fin 2) (t : Fin 128) :
    (cut x wq wo kk vv).vals p.1 (ix3 p.2 g t) = vv (ix4 0 (keyNo p) g t) := by
  refine Eq.trans ?_ (block_at vv p g t)
  unfold Ins.vals cut
  pointwise

/-- The kernel's scores are the reference's. -/
theorem score_eq (r : Fin 256) (g : Fin 2) (u : Fin 4) (h : ℕ) (hh : h = g.val * 4 + u.val) (p : Dev nD × Fin 4096) :
    (cut x wq wo kk vv).score r h p = ss (qs x wq) kk (ix4 g u r (keyNo p)) := by
  subst hh
  unfold Ins.score
  rw [attS_at, Cert.ReferenceIdeal.Flash.ss_at, q_eq]
  refine congrArg (· * sc) (Finset.sum_congr rfl fun t _ => ?_)
  rw [keys_at]
  have e1 : (⟨r.val % 256, Nat.mod_lt _ (by omega)⟩ : Fin 256) = r := Fin.ext (Nat.mod_eq_of_lt r.isLt)
  have e2 : (g.val * 4 + u.val) % 8 = g.val * 4 + u.val := by omega
  have e3 : (⟨(g.val * 4 + u.val) % 8 / 4, by omega⟩ : Fin 2) = g := Fin.ext (by show (g.val * 4 + u.val) % 8 / 4 = g.val; omega)
  rw [e3]
  refine congrArg (· * _) ?_
  simp only [e1, e2]

/-- The kernel's values are the reference's. -/
theorem value_eq (g : Fin 2) (u : Fin 4) (h : ℕ) (hh : h = g.val * 4 + u.val) (d : Fin 128) (j : ℕ) (hj : j % 128 = d.val) (p : Dev nD × Fin 4096) :
    (cut x wq wo kk vv).value h j p = vv (ix4 0 (keyNo p) g d) := by
  subst hh
  unfold Ins.value
  rw [vals_at]
  have e3 : (⟨(g.val * 4 + u.val) % 8 / 4, by omega⟩ : Fin 2) = g := Fin.ext (by show (g.val * 4 + u.val) % 8 / 4 = g.val; omega)
  have e4 : (⟨j % 128, Nat.mod_lt _ (by omega)⟩ : Fin 128) = d := Fin.ext hj
  rw [e3, e4]

/-- Every device's result is the reference's, at an entry. -/
theorem out_eq_at (c : Dev nD) (r : Fin 256) (n : Fin 1024) :
    (cut x wq wo kk vv).out c (ix3 0 r n) = ys (os (ns (ss (qs x wq) kk) vv) (ds (ss (qs x wq) kk))) wo (ix3 0 r n) := by
  refine (Ins.out_at _ c r n).trans (Eq.trans ?_ (Cert.ReferenceIdeal.Flash.ys_at _ _ _ _).symm)
  refine Finset.sum_congr rfl fun j _ => congrArg (· * _) ?_
  rw [Cert.ReferenceIdeal.Flash.os_at, Cert.ReferenceIdeal.Flash.ns_at, Cert.ReferenceIdeal.Flash.ds_at, num_keys, den_keys]
  have hs : (cut x wq wo kk vv).score r.val (j.val / 128)
      = fun p => ss (qs x wq) kk (ix4 ⟨j.val / 512, by omega⟩ ⟨j.val / 128 % 4, by omega⟩ r (keyNo p)) :=
    funext fun p => score_eq x wq wo kk vv r _ _ _ (by show j.val / 128 = j.val / 512 * 4 + j.val / 128 % 4; omega) p
  have hv : (cut x wq wo kk vv).value (j.val / 128) j.val
      = fun p => vv (ix4 0 (keyNo p) ⟨j.val / 512, by omega⟩ ⟨j.val % 128, by omega⟩) :=
    funext fun p => value_eq x wq wo kk vv _ ⟨j.val / 128 % 4, by omega⟩ _ (by show j.val / 128 = j.val / 512 * 4 + j.val / 128 % 4; omega) _ _ rfl p
  rw [hs, hv]

/-- Every device's result is the reference's. -/
theorem out_eq (c : Dev nD) :
    (cut x wq wo kk vv).out c = ys (os (ns (ss (qs x wq) kk) vv) (ds (ss (qs x wq) kk))) wo := by
  funext i
  have h : i = ix3 0 (i 1) (i 2) := (eq_ix3 i).trans (congrArg (fun a => ix3 a (i 1) (i 2)) (Fin.fin_one_eq_zero (i 0)))
  rw [h]
  exact out_eq_at x wq wo kk vv c (i 1) (i 2)

end Tie

end Cert.KernelIdeal.Flash
-- ==== Proof.lean ====
/- The proof of the certificate's claim: the frames come from the run of the whole machine
   (Proof/Flash/Launch, Proof/Flash/Frames); the printed kernel is the same program at the bits. The values come
   from that run's result, read at an entry and compared with the reference's (Proof/Flash/Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Flash.Frames
public import proofs.«01_k».proof.Proof.Flash.Same
public import proofs.«01_k».proof.Proof.Flash.Value
public import Idealize.ShloMosaic.Adequacy
public import Idealize.ShloMosaic.Init

@[expose] public section

noncomputable section

namespace Cert.Proof

open Idealize.ShloMosaic Idealize.SL.Sem Cert.Kernel

/-- The kernel at the bits ends with its arguments unchanged and every counter at zero. -/
theorem frame_kernel : Cert.quiescent_Kernel (hKernel := Cert.Kernel.Gen.facts) := by
  intro m ρ _
  rw [Cert.KernelIdeal.Flash.same_defs (hk := Cert.Kernel.Gen.facts) (hi := Cert.KernelIdeal.Gen.facts)]
  exact Cert.KernelIdeal.Flash.run_args (F := Bits) m ρ

/-- So does the kernel at the extended reals. -/
theorem frame_kernelIdeal : Cert.quiescent_KernelIdeal (hKernelIdeal := Cert.KernelIdeal.Gen.facts) := fun m ρ _ =>
  Cert.KernelIdeal.Flash.run_args (F := Ideal) m ρ

/-- The reference ends with its arguments unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device's result is the reference's, from inputs cut from the reference's. -/
theorem algebraic : Cert.algebraic_KernelIdeal_ReferenceIdeal (hKernelIdeal := Cert.KernelIdeal.Gen.facts)
    (hReferenceIdeal := Cert.ReferenceIdeal.Gen.facts) := by
  intro m g m' g' _ hin
  have hcut : Cert.KernelIdeal.Flash.inp m = Cert.KernelIdeal.Flash.cut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := by
    rw [Cert.KernelIdeal.Flash.inp_eq]
    unfold Cert.KernelIdeal.Flash.cut
    congr 1 <;> funext c
    · exact (hin c).1
    · exact (hin c).2.1
    · exact (hin c).2.2.2.2
    · exact (hin c).2.2.1
    · exact (hin c).2.2.2.1
  refine ⟨Cert.ReferenceIdeal.Value.res_out0 m' 0, ?_, ?_⟩
  · refine (θ_run Cert.KernelIdeal.defs _ _).mono (fun r h c => ⟨(h c).1.trans ?_, (h c).2⟩)
      (Cert.KernelIdeal.Flash.run_out (F := Ideal) m g)
    rw [hcut, Cert.KernelIdeal.Flash.out_eq, Cert.ReferenceIdeal.Flash.res_eq]
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
